-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite_scores [hPre_finite_scores : Cert.Pre_finite_scores.Facts] (m : (ℓ : Loc Cert.BandIdeal.nD Cert.BandIdeal.τ Cert.BandIdeal.sig) → Buf (Elt Ideal) ℓ) : Prop :=
  ∀ c : Dev Cert.BandIdeal.nD,
    (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).1 = (fun _ => 1#1)
    ∧ (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.1 = (fun _ => 1#1)
    ∧ (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.2.1 = (fun _ => 1#1)
    ∧ (Cert.Pre_finite_scores.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))).2.2.2 = (fun _ => 1#1)

def Pre_BandReferenceIdeal (m : (ℓ : Loc Cert.BandReferenceIdeal.nD Cert.BandReferenceIdeal.τ Cert.BandReferenceIdeal.sig) → Buf (Elt Ideal) ℓ) : Prop :=
  True

def Pre_BandReferenceIdeal_finite_scores [hPre_finite_scores : Cert.Pre_finite_scores.Facts] (m : (ℓ : Loc Cert.BandReferenceIdeal.nD Cert.BandReferenceIdeal.τ Cert.BandReferenceIdeal.sig) → Buf (Elt Ideal) ℓ) : Prop :=
  ∀ c : Dev Cert.BandReferenceIdeal.nD,
    (Cert.Pre_finite_scores.fn (F := Ideal) (m ((c.tc : Thread Cert.BandReferenceIdeal.nD Cert.BandReferenceIdeal.τ).loc Cert.BandReferenceIdeal.main_arg0)) (m ((c.tc : Thread Cert.BandReferenceIdeal.nD Cert.BandReferenceIdeal.τ).loc Cert.BandReferenceIdeal.main_arg1)) (m ((c.tc : Thread Cert.BandReferenceIdeal.nD Cert.BandReferenceIdeal.τ).loc Cert.BandReferenceIdeal.main_arg2)) (m ((c.tc : Thread Cert.BandReferenceIdeal.nD Cert.BandReferenceIdeal.τ).loc Cert.BandReferenceIdeal.main_arg3))).1 = (fun _ => 1#1)
    ∧ (Cert.Pre_finite_scores.fn (F := Ideal) (m ((c.tc : Thread Cert.BandReferenceIdeal.nD Cert.BandReferenceIdeal.τ).loc Cert.BandReferenceIdeal.main_arg0)) (m ((c.tc : Thread Cert.BandReferenceIdeal.nD Cert.BandReferenceIdeal.τ).loc Cert.BandReferenceIdeal.main_arg1)) (m ((c.tc : Thread Cert.BandReferenceIdeal.nD Cert.BandReferenceIdeal.τ).loc Cert.BandReferenceIdeal.main_arg2)) (m ((c.tc : Thread Cert.BandReferenceIdeal.nD Cert.BandReferenceIdeal.τ).loc Cert.BandReferenceIdeal.main_arg3))).2.1 = (fun _ => 1#1)
    ∧ (Cert.Pre_finite_scores.fn (F := Ideal) (m ((c.tc : Thread Cert.BandReferenceIdeal.nD Cert.BandReferenceIdeal.τ).loc Cert.BandReferenceIdeal.main_arg0)) (m ((c.tc : Thread Cert.BandReferenceIdeal.nD Cert.BandReferenceIdeal.τ).loc Cert.BandReferenceIdeal.main_arg1)) (m ((c.tc : Thread Cert.BandReferenceIdeal.nD Cert.BandReferenceIdeal.τ).loc Cert.BandReferenceIdeal.main_arg2)) (m ((c.tc : Thread Cert.BandReferenceIdeal.nD Cert.BandReferenceIdeal.τ).loc Cert.BandReferenceIdeal.main_arg3))).2.2.1 = (fun _ => 1#1)
    ∧ (Cert.Pre_finite_scores.fn (F := Ideal) (m ((c.tc : Thread Cert.BandReferenceIdeal.nD Cert.BandReferenceIdeal.τ).loc Cert.BandReferenceIdeal.main_arg0)) (m ((c.tc : Thread Cert.BandReferenceIdeal.nD Cert.BandReferenceIdeal.τ).loc Cert.BandReferenceIdeal.main_arg1)) (m ((c.tc : Thread Cert.BandReferenceIdeal.nD Cert.BandReferenceIdeal.τ).loc Cert.BandReferenceIdeal.main_arg2)) (m ((c.tc : Thread Cert.BandReferenceIdeal.nD Cert.BandReferenceIdeal.τ).loc Cert.BandReferenceIdeal.main_arg3))).2.2.2 = (fun _ => 1#1)

def Pre_QkvA (m : (ℓ : Loc Cert.QkvA.nD Cert.QkvA.τ Cert.QkvA.sig) → Buf (Elt Bits) ℓ) : Prop :=
  True

def Pre_QkvAIdeal (m : (ℓ : Loc Cert.QkvAIdeal.nD Cert.QkvAIdeal.τ Cert.QkvAIdeal.sig) → Buf (Elt Ideal) ℓ) : Prop :=
  True

def Pre_QkvAReferenceIdeal (m : (ℓ : Loc Cert.QkvAReferenceIdeal.nD Cert.QkvAReferenceIdeal.τ Cert.QkvAReferenceIdeal.sig) → Buf (Elt Ideal) ℓ) : Prop :=
  True

def Pre_ZA (m : (ℓ : Loc Cert.ZA.nD Cert.ZA.τ Cert.ZA.sig) → Buf (Elt Bits) ℓ) : Prop :=
  True

def Pre_ZAIdeal (m : (ℓ : Loc Cert.ZAIdeal.nD Cert.ZAIdeal.τ Cert.ZAIdeal.sig) → Buf (Elt Ideal) ℓ) : Prop :=
  True

def Pre_ZAReferenceIdeal (m : (ℓ : Loc Cert.ZAReferenceIdeal.nD Cert.ZAReferenceIdeal.τ Cert.ZAReferenceIdeal.sig) → Buf (Elt Ideal) ℓ) : Prop :=
  True

def Pre_BetaAlpha (m : (ℓ : Loc Cert.BetaAlpha.nD Cert.BetaAlpha.τ Cert.BetaAlpha.sig) → Buf (Elt Bits) ℓ) : Prop :=
  True

def Pre_BetaAlphaIdeal (m : (ℓ : Loc Cert.BetaAlphaIdeal.nD Cert.BetaAlphaIdeal.τ Cert.BetaAlphaIdeal.sig) → Buf (Elt Ideal) ℓ) : Prop :=
  True

def Pre_BetaAlphaReferenceIdeal (m : (ℓ : Loc Cert.BetaAlphaReferenceIdeal.nD Cert.BetaAlphaReferenceIdeal.τ Cert.BetaAlphaReferenceIdeal.sig) → Buf (Elt Ideal) ℓ) : Prop :=
  True

def Pre_UvB (m : (ℓ : Loc Cert.UvB.nD Cert.UvB.τ Cert.UvB.sig) → Buf (Elt Bits) ℓ) : Prop :=
  True

def Pre_UvBIdeal (m : (ℓ : Loc Cert.UvBIdeal.nD Cert.UvBIdeal.τ Cert.UvBIdeal.sig) → Buf (Elt Ideal) ℓ) : Prop :=
  True

def Pre_UvBReferenceIdeal (m : (ℓ : Loc Cert.UvBReferenceIdeal.nD Cert.UvBReferenceIdeal.τ Cert.UvBReferenceIdeal.sig) → Buf (Elt Ideal) ℓ) : Prop :=
  True

def Pre_QkvC (m : (ℓ : Loc Cert.QkvC.nD Cert.QkvC.τ Cert.QkvC.sig) → Buf (Elt Bits) ℓ) : Prop :=
  True

def Pre_QkvCIdeal (m : (ℓ : Loc Cert.QkvCIdeal.nD Cert.QkvCIdeal.τ Cert.QkvCIdeal.sig) → Buf (Elt Ideal) ℓ) : Prop :=
  True

def Pre_QkvCReferenceIdeal (m : (ℓ : Loc Cert.QkvCReferenceIdeal.nD Cert.QkvCReferenceIdeal.τ Cert.QkvCReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_PeerQueryReferenceIdeal (m : (ℓ : Loc Cert.PeerQueryReferenceIdeal.nD Cert.PeerQueryReferenceIdeal.τ Cert.PeerQueryReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpReferenceIdeal (m : (ℓ : Loc Cert.GmlpReferenceIdeal.nD Cert.GmlpReferenceIdeal.τ Cert.GmlpReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandIdeal_pre_finite_scores [hBandIdeal : Cert.BandIdeal.Facts] [hPre_finite_scores : Cert.Pre_finite_scores.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite_scores m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandReferenceIdeal [hBandReferenceIdeal : Cert.BandReferenceIdeal.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1)
      ∧ r.2.mem ((c.tc : Thread Cert.BandReferenceIdeal.nD Cert.BandReferenceIdeal.τ).loc Cert.BandReferenceIdeal.main_arg2) = m ((c.tc : Thread Cert.BandReferenceIdeal.nD Cert.BandReferenceIdeal.τ).loc Cert.BandReferenceIdeal.main_arg2)
      ∧ r.2.mem ((c.tc : Thread Cert.BandReferenceIdeal.nD Cert.BandReferenceIdeal.τ).loc Cert.BandReferenceIdeal.main_arg3) = m ((c.tc : Thread Cert.BandReferenceIdeal.nD Cert.BandReferenceIdeal.τ).loc Cert.BandReferenceIdeal.main_arg3))
      ∧ r.2.sem = fun _ => 0)

def quiescent_BandReferenceIdeal_pre_finite_scores [hBandReferenceIdeal : Cert.BandReferenceIdeal.Facts] [hPre_finite_scores : Cert.Pre_finite_scores.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal_finite_scores m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1)
      ∧ r.2.mem ((c.tc : Thread Cert.BandReferenceIdeal.nD Cert.BandReferenceIdeal.τ).loc Cert.BandReferenceIdeal.main_arg2) = m ((c.tc : Thread Cert.BandReferenceIdeal.nD Cert.BandReferenceIdeal.τ).loc Cert.BandReferenceIdeal.main_arg2)
      ∧ r.2.mem ((c.tc : Thread Cert.BandReferenceIdeal.nD Cert.BandReferenceIdeal.τ).loc Cert.BandReferenceIdeal.main_arg3) = m ((c.tc : Thread Cert.BandReferenceIdeal.nD Cert.BandReferenceIdeal.τ).loc Cert.BandReferenceIdeal.main_arg3))
      ∧ r.2.sem = fun _ => 0)

def quiescent_QkvA [hQkvA : Cert.QkvA.Facts] : Prop :=
  ∀ (m : (ℓ : Loc Cert.QkvA.nD Cert.QkvA.τ Cert.QkvA.sig) → Buf (Elt Bits) ℓ) (g : Dev Cert.QkvA.nD → PrngReg), Pre_QkvA m →
    θ_run (Cert.QkvA.defs (F := Bits)) (onTc (τ := Cert.QkvA.τ) (Cert.QkvA.main (F := Bits))) ⟨m, fun _ => 0, g⟩ (fun r => (∀ c : Dev Cert.QkvA.nD,
      r.2.mem ((c.tc : Thread Cert.QkvA.nD Cert.QkvA.τ).loc Cert.QkvA.main_arg0) = m ((c.tc : Thread Cert.QkvA.nD Cert.QkvA.τ).loc Cert.QkvA.main_arg0)
      ∧ r.2.mem ((c.tc : Thread Cert.QkvA.nD Cert.QkvA.τ).loc Cert.QkvA.main_arg1) = m ((c.tc : Thread Cert.QkvA.nD Cert.QkvA.τ).loc Cert.QkvA.main_arg1))
      ∧ r.2.sem = fun _ => 0)

def quiescent_QkvAIdeal [hQkvAIdeal : Cert.QkvAIdeal.Facts] : Prop :=
  ∀ (m : (ℓ : Loc Cert.QkvAIdeal.nD Cert.QkvAIdeal.τ Cert.QkvAIdeal.sig) → Buf (Elt Ideal) ℓ) (g : Dev Cert.QkvAIdeal.nD → PrngReg), Pre_QkvAIdeal m →
    θ_run (Cert.QkvAIdeal.defs (F := Ideal)) (onTc (τ := Cert.QkvAIdeal.τ) (Cert.QkvAIdeal.main (F := Ideal))) ⟨m, fun _ => 0, g⟩ (fun r => (∀ c : Dev Cert.QkvAIdeal.nD,
      r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
      ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ r.2.sem = fun _ => 0)

def quiescent_QkvAReferenceIdeal [hQkvAReferenceIdeal : Cert.QkvAReferenceIdeal.Facts] : Prop :=
  ∀ (m : (ℓ : Loc Cert.QkvAReferenceIdeal.nD Cert.QkvAReferenceIdeal.τ Cert.QkvAReferenceIdeal.sig) → Buf (Elt Ideal) ℓ) (g : Dev Cert.QkvAReferenceIdeal.nD → PrngReg), Pre_QkvAReferenceIdeal m →
    θ_run (Cert.QkvAReferenceIdeal.defs (F := Ideal)) (onTc (τ := Cert.QkvAReferenceIdeal.τ) (Cert.QkvAReferenceIdeal.main (F := Ideal))) ⟨m, fun _ => 0, g⟩ (fun r => (∀ c : Dev Cert.QkvAReferenceIdeal.nD,
      r.2.mem ((c.tc : Thread Cert.QkvAReferenceIdeal.nD Cert.QkvAReferenceIdeal.τ).loc Cert.QkvAReferenceIdeal.main_arg0) = m ((c.tc : Thread Cert.QkvAReferenceIdeal.nD Cert.QkvAReferenceIdeal.τ).loc Cert.QkvAReferenceIdeal.main_arg0)
      ∧ r.2.mem ((c.tc : Thread Cert.QkvAReferenceIdeal.nD Cert.QkvAReferenceIdeal.τ).loc Cert.QkvAReferenceIdeal.main_arg1) = m ((c.tc : Thread Cert.QkvAReferenceIdeal.nD Cert.QkvAReferenceIdeal.τ).loc Cert.QkvAReferenceIdeal.main_arg1))
      ∧ r.2.sem = fun _ => 0)

def quiescent_ZA [hZA : Cert.ZA.Facts] : Prop :=
  ∀ (m : (ℓ : Loc Cert.ZA.nD Cert.ZA.τ Cert.ZA.sig) → Buf (Elt Bits) ℓ) (g : Dev Cert.ZA.nD → PrngReg), Pre_ZA m →
    θ_run (Cert.ZA.defs (F := Bits)) (onTc (τ := Cert.ZA.τ) (Cert.ZA.main (F := Bits))) ⟨m, fun _ => 0, g⟩ (fun r => (∀ c : Dev Cert.ZA.nD,
      r.2.mem ((c.tc : Thread Cert.ZA.nD Cert.ZA.τ).loc Cert.ZA.main_arg0) = m ((c.tc : Thread Cert.ZA.nD Cert.ZA.τ).loc Cert.ZA.main_arg0)
      ∧ r.2.mem ((c.tc : Thread Cert.ZA.nD Cert.ZA.τ).loc Cert.ZA.main_arg1) = m ((c.tc : Thread Cert.ZA.nD Cert.ZA.τ).loc Cert.ZA.main_arg1))
      ∧ r.2.sem = fun _ => 0)

def quiescent_ZAIdeal [hZAIdeal : Cert.ZAIdeal.Facts] : Prop :=
  ∀ (m : (ℓ : Loc Cert.ZAIdeal.nD Cert.ZAIdeal.τ Cert.ZAIdeal.sig) → Buf (Elt Ideal) ℓ) (g : Dev Cert.ZAIdeal.nD → PrngReg), Pre_ZAIdeal m →
    θ_run (Cert.ZAIdeal.defs (F := Ideal)) (onTc (τ := Cert.ZAIdeal.τ) (Cert.ZAIdeal.main (F := Ideal))) ⟨m, fun _ => 0, g⟩ (fun r => (∀ c : Dev Cert.ZAIdeal.nD,
      r.2.mem ((c.tc : Thread Cert.ZAIdeal.nD Cert.ZAIdeal.τ).loc Cert.ZAIdeal.main_arg0) = m ((c.tc : Thread Cert.ZAIdeal.nD Cert.ZAIdeal.τ).loc Cert.ZAIdeal.main_arg0)
      ∧ r.2.mem ((c.tc : Thread Cert.ZAIdeal.nD Cert.ZAIdeal.τ).loc Cert.ZAIdeal.main_arg1) = m ((c.tc : Thread Cert.ZAIdeal.nD Cert.ZAIdeal.τ).loc Cert.ZAIdeal.main_arg1))
      ∧ r.2.sem = fun _ => 0)

def quiescent_ZAReferenceIdeal [hZAReferenceIdeal : Cert.ZAReferenceIdeal.Facts] : Prop :=
  ∀ (m : (ℓ : Loc Cert.ZAReferenceIdeal.nD Cert.ZAReferenceIdeal.τ Cert.ZAReferenceIdeal.sig) → Buf (Elt Ideal) ℓ) (g : Dev Cert.ZAReferenceIdeal.nD → PrngReg), Pre_ZAReferenceIdeal m →
    θ_run (Cert.ZAReferenceIdeal.defs (F := Ideal)) (onTc (τ := Cert.ZAReferenceIdeal.τ) (Cert.ZAReferenceIdeal.main (F := Ideal))) ⟨m, fun _ => 0, g⟩ (fun r => (∀ c : Dev Cert.ZAReferenceIdeal.nD,
      r.2.mem ((c.tc : Thread Cert.ZAReferenceIdeal.nD Cert.ZAReferenceIdeal.τ).loc Cert.ZAReferenceIdeal.main_arg0) = m ((c.tc : Thread Cert.ZAReferenceIdeal.nD Cert.ZAReferenceIdeal.τ).loc Cert.ZAReferenceIdeal.main_arg0)
      ∧ r.2.mem ((c.tc : Thread Cert.ZAReferenceIdeal.nD Cert.ZAReferenceIdeal.τ).loc Cert.ZAReferenceIdeal.main_arg1) = m ((c.tc : Thread Cert.ZAReferenceIdeal.nD Cert.ZAReferenceIdeal.τ).loc Cert.ZAReferenceIdeal.main_arg1))
      ∧ r.2.sem = fun _ => 0)

def quiescent_BetaAlpha [hBetaAlpha : Cert.BetaAlpha.Facts] : Prop :=
  ∀ (m : (ℓ : Loc Cert.BetaAlpha.nD Cert.BetaAlpha.τ Cert.BetaAlpha.sig) → Buf (Elt Bits) ℓ) (g : Dev Cert.BetaAlpha.nD → PrngReg), Pre_BetaAlpha m →
    θ_run (Cert.BetaAlpha.defs (F := Bits)) (onTc (τ := Cert.BetaAlpha.τ) (Cert.BetaAlpha.main (F := Bits))) ⟨m, fun _ => 0, g⟩ (fun r => (∀ c : Dev Cert.BetaAlpha.nD,
      r.2.mem ((c.tc : Thread Cert.BetaAlpha.nD Cert.BetaAlpha.τ).loc Cert.BetaAlpha.main_arg0) = m ((c.tc : Thread Cert.BetaAlpha.nD Cert.BetaAlpha.τ).loc Cert.BetaAlpha.main_arg0)
      ∧ r.2.mem ((c.tc : Thread Cert.BetaAlpha.nD Cert.BetaAlpha.τ).loc Cert.BetaAlpha.main_arg1) = m ((c.tc : Thread Cert.BetaAlpha.nD Cert.BetaAlpha.τ).loc Cert.BetaAlpha.main_arg1))
      ∧ r.2.sem = fun _ => 0)

def quiescent_BetaAlphaIdeal [hBetaAlphaIdeal : Cert.BetaAlphaIdeal.Facts] : Prop :=
  ∀ (m : (ℓ : Loc Cert.BetaAlphaIdeal.nD Cert.BetaAlphaIdeal.τ Cert.BetaAlphaIdeal.sig) → Buf (Elt Ideal) ℓ) (g : Dev Cert.BetaAlphaIdeal.nD → PrngReg), Pre_BetaAlphaIdeal m →
    θ_run (Cert.BetaAlphaIdeal.defs (F := Ideal)) (onTc (τ := Cert.BetaAlphaIdeal.τ) (Cert.BetaAlphaIdeal.main (F := Ideal))) ⟨m, fun _ => 0, g⟩ (fun r => (∀ c : Dev Cert.BetaAlphaIdeal.nD,
      r.2.mem ((c.tc : Thread Cert.BetaAlphaIdeal.nD Cert.BetaAlphaIdeal.τ).loc Cert.BetaAlphaIdeal.main_arg0) = m ((c.tc : Thread Cert.BetaAlphaIdeal.nD Cert.BetaAlphaIdeal.τ).loc Cert.BetaAlphaIdeal.main_arg0)
      ∧ r.2.mem ((c.tc : Thread Cert.BetaAlphaIdeal.nD Cert.BetaAlphaIdeal.τ).loc Cert.BetaAlphaIdeal.main_arg1) = m ((c.tc : Thread Cert.BetaAlphaIdeal.nD Cert.BetaAlphaIdeal.τ).loc Cert.BetaAlphaIdeal.main_arg1))
      ∧ r.2.sem = fun _ => 0)

def quiescent_BetaAlphaReferenceIdeal [hBetaAlphaReferenceIdeal : Cert.BetaAlphaReferenceIdeal.Facts] : Prop :=
  ∀ (m : (ℓ : Loc Cert.BetaAlphaReferenceIdeal.nD Cert.BetaAlphaReferenceIdeal.τ Cert.BetaAlphaReferenceIdeal.sig) → Buf (Elt Ideal) ℓ) (g : Dev Cert.BetaAlphaReferenceIdeal.nD → PrngReg), Pre_BetaAlphaReferenceIdeal m →
    θ_run (Cert.BetaAlphaReferenceIdeal.defs (F := Ideal)) (onTc (τ := Cert.BetaAlphaReferenceIdeal.τ) (Cert.BetaAlphaReferenceIdeal.main (F := Ideal))) ⟨m, fun _ => 0, g⟩ (fun r => (∀ c : Dev Cert.BetaAlphaReferenceIdeal.nD,
      r.2.mem ((c.tc : Thread Cert.BetaAlphaReferenceIdeal.nD Cert.BetaAlphaReferenceIdeal.τ).loc Cert.BetaAlphaReferenceIdeal.main_arg0) = m ((c.tc : Thread Cert.BetaAlphaReferenceIdeal.nD Cert.BetaAlphaReferenceIdeal.τ).loc Cert.BetaAlphaReferenceIdeal.main_arg0)
      ∧ r.2.mem ((c.tc : Thread Cert.BetaAlphaReferenceIdeal.nD Cert.BetaAlphaReferenceIdeal.τ).loc Cert.BetaAlphaReferenceIdeal.main_arg1) = m ((c.tc : Thread Cert.BetaAlphaReferenceIdeal.nD Cert.BetaAlphaReferenceIdeal.τ).loc Cert.BetaAlphaReferenceIdeal.main_arg1))
      ∧ r.2.sem = fun _ => 0)

def quiescent_UvB [hUvB : Cert.UvB.Facts] : Prop :=
  ∀ (m : (ℓ : Loc Cert.UvB.nD Cert.UvB.τ Cert.UvB.sig) → Buf (Elt Bits) ℓ) (g : Dev Cert.UvB.nD → PrngReg), Pre_UvB m →
    θ_run (Cert.UvB.defs (F := Bits)) (onTc (τ := Cert.UvB.τ) (Cert.UvB.main (F := Bits))) ⟨m, fun _ => 0, g⟩ (fun r => (∀ c : Dev Cert.UvB.nD,
      r.2.mem ((c.tc : Thread Cert.UvB.nD Cert.UvB.τ).loc Cert.UvB.main_arg0) = m ((c.tc : Thread Cert.UvB.nD Cert.UvB.τ).loc Cert.UvB.main_arg0)
      ∧ r.2.mem ((c.tc : Thread Cert.UvB.nD Cert.UvB.τ).loc Cert.UvB.main_arg1) = m ((c.tc : Thread Cert.UvB.nD Cert.UvB.τ).loc Cert.UvB.main_arg1))
      ∧ r.2.sem = fun _ => 0)

def quiescent_UvBIdeal [hUvBIdeal : Cert.UvBIdeal.Facts] : Prop :=
  ∀ (m : (ℓ : Loc Cert.UvBIdeal.nD Cert.UvBIdeal.τ Cert.UvBIdeal.sig) → Buf (Elt Ideal) ℓ) (g : Dev Cert.UvBIdeal.nD → PrngReg), Pre_UvBIdeal m →
    θ_run (Cert.UvBIdeal.defs (F := Ideal)) (onTc (τ := Cert.UvBIdeal.τ) (Cert.UvBIdeal.main (F := Ideal))) ⟨m, fun _ => 0, g⟩ (fun r => (∀ c : Dev Cert.UvBIdeal.nD,
      r.2.mem ((c.tc : Thread Cert.UvBIdeal.nD Cert.UvBIdeal.τ).loc Cert.UvBIdeal.main_arg0) = m ((c.tc : Thread Cert.UvBIdeal.nD Cert.UvBIdeal.τ).loc Cert.UvBIdeal.main_arg0)
      ∧ r.2.mem ((c.tc : Thread Cert.UvBIdeal.nD Cert.UvBIdeal.τ).loc Cert.UvBIdeal.main_arg1) = m ((c.tc : Thread Cert.UvBIdeal.nD Cert.UvBIdeal.τ).loc Cert.UvBIdeal.main_arg1))
      ∧ r.2.sem = fun _ => 0)

def quiescent_UvBReferenceIdeal [hUvBReferenceIdeal : Cert.UvBReferenceIdeal.Facts] : Prop :=
  ∀ (m : (ℓ : Loc Cert.UvBReferenceIdeal.nD Cert.UvBReferenceIdeal.τ Cert.UvBReferenceIdeal.sig) → Buf (Elt Ideal) ℓ) (g : Dev Cert.UvBReferenceIdeal.nD → PrngReg), Pre_UvBReferenceIdeal m →
    θ_run (Cert.UvBReferenceIdeal.defs (F := Ideal)) (onTc (τ := Cert.UvBReferenceIdeal.τ) (Cert.UvBReferenceIdeal.main (F := Ideal))) ⟨m, fun _ => 0, g⟩ (fun r => (∀ c : Dev Cert.UvBReferenceIdeal.nD,
      r.2.mem ((c.tc : Thread Cert.UvBReferenceIdeal.nD Cert.UvBReferenceIdeal.τ).loc Cert.UvBReferenceIdeal.main_arg0) = m ((c.tc : Thread Cert.UvBReferenceIdeal.nD Cert.UvBReferenceIdeal.τ).loc Cert.UvBReferenceIdeal.main_arg0)
      ∧ r.2.mem ((c.tc : Thread Cert.UvBReferenceIdeal.nD Cert.UvBReferenceIdeal.τ).loc Cert.UvBReferenceIdeal.main_arg1) = m ((c.tc : Thread Cert.UvBReferenceIdeal.nD Cert.UvBReferenceIdeal.τ).loc Cert.UvBReferenceIdeal.main_arg1))
      ∧ r.2.sem = fun _ => 0)

def quiescent_QkvC [hQkvC : Cert.QkvC.Facts] : Prop :=
  ∀ (m : (ℓ : Loc Cert.QkvC.nD Cert.QkvC.τ Cert.QkvC.sig) → Buf (Elt Bits) ℓ) (g : Dev Cert.QkvC.nD → PrngReg), Pre_QkvC m →
    θ_run (Cert.QkvC.defs (F := Bits)) (onTc (τ := Cert.QkvC.τ) (Cert.QkvC.main (F := Bits))) ⟨m, fun _ => 0, g⟩ (fun r => (∀ c : Dev Cert.QkvC.nD,
      r.2.mem ((c.tc : Thread Cert.QkvC.nD Cert.QkvC.τ).loc Cert.QkvC.main_arg0) = m ((c.tc : Thread Cert.QkvC.nD Cert.QkvC.τ).loc Cert.QkvC.main_arg0)
      ∧ r.2.mem ((c.tc : Thread Cert.QkvC.nD Cert.QkvC.τ).loc Cert.QkvC.main_arg1) = m ((c.tc : Thread Cert.QkvC.nD Cert.QkvC.τ).loc Cert.QkvC.main_arg1))
      ∧ r.2.sem = fun _ => 0)

def quiescent_QkvCIdeal [hQkvCIdeal : Cert.QkvCIdeal.Facts] : Prop :=
  ∀ (m : (ℓ : Loc Cert.QkvCIdeal.nD Cert.QkvCIdeal.τ Cert.QkvCIdeal.sig) → Buf (Elt Ideal) ℓ) (g : Dev Cert.QkvCIdeal.nD → PrngReg), Pre_QkvCIdeal m →
    θ_run (Cert.QkvCIdeal.defs (F := Ideal)) (onTc (τ := Cert.QkvCIdeal.τ) (Cert.QkvCIdeal.main (F := Ideal))) ⟨m, fun _ => 0, g⟩ (fun r => (∀ c : Dev Cert.QkvCIdeal.nD,
      r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
      ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1))
      ∧ r.2.sem = fun _ => 0)

def quiescent_QkvCReferenceIdeal [hQkvCReferenceIdeal : Cert.QkvCReferenceIdeal.Facts] : Prop :=
  ∀ (m : (ℓ : Loc Cert.QkvCReferenceIdeal.nD Cert.QkvCReferenceIdeal.τ Cert.QkvCReferenceIdeal.sig) → Buf (Elt Ideal) ℓ) (g : Dev Cert.QkvCReferenceIdeal.nD → PrngReg), Pre_QkvCReferenceIdeal m →
    θ_run (Cert.QkvCReferenceIdeal.defs (F := Ideal)) (onTc (τ := Cert.QkvCReferenceIdeal.τ) (Cert.QkvCReferenceIdeal.main (F := Ideal))) ⟨m, fun _ => 0, g⟩ (fun r => (∀ c : Dev Cert.QkvCReferenceIdeal.nD,
      r.2.mem ((c.tc : Thread Cert.QkvCReferenceIdeal.nD Cert.QkvCReferenceIdeal.τ).loc Cert.QkvCReferenceIdeal.main_arg0) = m ((c.tc : Thread Cert.QkvCReferenceIdeal.nD Cert.QkvCReferenceIdeal.τ).loc Cert.QkvCReferenceIdeal.main_arg0)
      ∧ r.2.mem ((c.tc : Thread Cert.QkvCReferenceIdeal.nD Cert.QkvCReferenceIdeal.τ).loc Cert.QkvCReferenceIdeal.main_arg1) = m ((c.tc : Thread Cert.QkvCReferenceIdeal.nD Cert.QkvCReferenceIdeal.τ).loc Cert.QkvCReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ r.2.sem = fun _ => 0)

def quiescent_PeerQueryReferenceIdeal [hPeerQueryReferenceIdeal : Cert.PeerQueryReferenceIdeal.Facts] : Prop :=
  ∀ (m : (ℓ : Loc Cert.PeerQueryReferenceIdeal.nD Cert.PeerQueryReferenceIdeal.τ Cert.PeerQueryReferenceIdeal.sig) → Buf (Elt Ideal) ℓ) (g : Dev Cert.PeerQueryReferenceIdeal.nD → PrngReg), Pre_PeerQueryReferenceIdeal m →
    θ_run (Cert.PeerQueryReferenceIdeal.defs (F := Ideal)) (onTc (τ := Cert.PeerQueryReferenceIdeal.τ) (Cert.PeerQueryReferenceIdeal.main (F := Ideal))) ⟨m, fun _ => 0, g⟩ (fun r => (∀ c : Dev Cert.PeerQueryReferenceIdeal.nD,
      r.2.mem ((c.tc : Thread Cert.PeerQueryReferenceIdeal.nD Cert.PeerQueryReferenceIdeal.τ).loc Cert.PeerQueryReferenceIdeal.main_arg0) = m ((c.tc : Thread Cert.PeerQueryReferenceIdeal.nD Cert.PeerQueryReferenceIdeal.τ).loc Cert.PeerQueryReferenceIdeal.main_arg0)
      ∧ r.2.mem ((c.tc : Thread Cert.PeerQueryReferenceIdeal.nD Cert.PeerQueryReferenceIdeal.τ).loc Cert.PeerQueryReferenceIdeal.main_arg1) = m ((c.tc : Thread Cert.PeerQueryReferenceIdeal.nD Cert.PeerQueryReferenceIdeal.τ).loc Cert.PeerQueryReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def preserves_Band_BandIdeal : Prop :=
  IdealRules.named_const.Statement Cert.BandIdeal.κ "mask" .f32 0xF149F2CA#32 ⊥

def algebraic_BandIdeal_BandReferenceIdeal_pre_finite_scores [hBandIdeal : Cert.BandIdeal.Facts] [hBandReferenceIdeal : Cert.BandReferenceIdeal.Facts] [hPre_finite_scores : Cert.Pre_finite_scores.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandReferenceIdeal.nD Cert.BandReferenceIdeal.τ Cert.BandReferenceIdeal.sig) → Buf (Elt Ideal) ℓ) (g' : Dev Cert.BandReferenceIdeal.nD → PrngReg), Pre_BandIdeal_finite_scores m →
    (∀ c : Dev Cert.BandIdeal.nD,
      m' ((c.tc : Thread Cert.BandReferenceIdeal.nD Cert.BandReferenceIdeal.τ).loc Cert.BandReferenceIdeal.main_arg0) = m ((c.tc : Thread Cert.BandIdeal.nD Cert.BandIdeal.τ).loc Cert.BandIdeal.main_arg0)
      ∧ m' ((c.tc : Thread Cert.BandReferenceIdeal.nD Cert.BandReferenceIdeal.τ).loc Cert.BandReferenceIdeal.main_arg1) = m ((c.tc : Thread Cert.BandIdeal.nD Cert.BandIdeal.τ).loc Cert.BandIdeal.main_arg1)
      ∧ m' ((c.tc : Thread Cert.BandReferenceIdeal.nD Cert.BandReferenceIdeal.τ).loc Cert.BandReferenceIdeal.main_arg2) = m ((c.tc : Thread Cert.BandIdeal.nD Cert.BandIdeal.τ).loc Cert.BandIdeal.main_arg2)
      ∧ m' ((c.tc : Thread Cert.BandReferenceIdeal.nD Cert.BandReferenceIdeal.τ).loc Cert.BandReferenceIdeal.main_arg3) = m ((c.tc : Thread Cert.BandIdeal.nD Cert.BandIdeal.τ).loc Cert.BandIdeal.main_arg3)) →
    ∃ (v0 : (c : Dev Cert.BandIdeal.nD) → Buf (Elt Ideal) ((c.tc : Thread Cert.BandIdeal.nD Cert.BandIdeal.τ).loc Cert.BandIdeal.main_v21)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v21) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ θ_run (Cert.BandReferenceIdeal.defs (F := Ideal)) (onTc (τ := Cert.BandReferenceIdeal.τ) (Cert.BandReferenceIdeal.main (F := Ideal))) ⟨m', fun _ => 0, g'⟩ (fun r => ∀ c : Dev Cert.BandReferenceIdeal.nD,
          r.2.mem ((c.tc : Thread Cert.BandReferenceIdeal.nD Cert.BandReferenceIdeal.τ).loc Cert.BandReferenceIdeal.main_v102) = v0 c
          ∧ r.2.mem ((c.tc : Thread Cert.BandReferenceIdeal.nD Cert.BandReferenceIdeal.τ).loc Cert.BandReferenceIdeal.main_arg0) = m' ((c.tc : Thread Cert.BandReferenceIdeal.nD Cert.BandReferenceIdeal.τ).loc Cert.BandReferenceIdeal.main_arg0)
          ∧ r.2.mem ((c.tc : Thread Cert.BandReferenceIdeal.nD Cert.BandReferenceIdeal.τ).loc Cert.BandReferenceIdeal.main_arg1) = m' ((c.tc : Thread Cert.BandReferenceIdeal.nD Cert.BandReferenceIdeal.τ).loc Cert.BandReferenceIdeal.main_arg1)
          ∧ r.2.mem ((c.tc : Thread Cert.BandReferenceIdeal.nD Cert.BandReferenceIdeal.τ).loc Cert.BandReferenceIdeal.main_arg2) = m' ((c.tc : Thread Cert.BandReferenceIdeal.nD Cert.BandReferenceIdeal.τ).loc Cert.BandReferenceIdeal.main_arg2)
          ∧ r.2.mem ((c.tc : Thread Cert.BandReferenceIdeal.nD Cert.BandReferenceIdeal.τ).loc Cert.BandReferenceIdeal.main_arg3) = m' ((c.tc : Thread Cert.BandReferenceIdeal.nD Cert.BandReferenceIdeal.τ).loc Cert.BandReferenceIdeal.main_arg3))

def preserves_QkvA_QkvAIdeal : Prop :=
  True

def algebraic_QkvAIdeal_QkvAReferenceIdeal [hQkvAIdeal : Cert.QkvAIdeal.Facts] [hQkvAReferenceIdeal : Cert.QkvAReferenceIdeal.Facts] : Prop :=
  ∀ (m : (ℓ : Loc Cert.QkvAIdeal.nD Cert.QkvAIdeal.τ Cert.QkvAIdeal.sig) → Buf (Elt Ideal) ℓ) (g : Dev Cert.QkvAIdeal.nD → PrngReg)
    (m' : (ℓ : Loc Cert.QkvAReferenceIdeal.nD Cert.QkvAReferenceIdeal.τ Cert.QkvAReferenceIdeal.sig) → Buf (Elt Ideal) ℓ) (g' : Dev Cert.QkvAReferenceIdeal.nD → PrngReg), Pre_QkvAIdeal m →
    (∀ c : Dev Cert.QkvAIdeal.nD,
      m' ((c.tc : Thread Cert.QkvAReferenceIdeal.nD Cert.QkvAReferenceIdeal.τ).loc Cert.QkvAReferenceIdeal.main_arg0) = m ((c.tc : Thread Cert.QkvAIdeal.nD Cert.QkvAIdeal.τ).loc Cert.QkvAIdeal.main_arg0)
      ∧ m' ((c.tc : Thread Cert.QkvAReferenceIdeal.nD Cert.QkvAReferenceIdeal.τ).loc Cert.QkvAReferenceIdeal.main_arg1) = m ((c.tc : Thread Cert.QkvAIdeal.nD Cert.QkvAIdeal.τ).loc Cert.QkvAIdeal.main_arg1)) →
    ∃ (v0 : (c : Dev Cert.QkvAIdeal.nD) → Buf (Elt Ideal) ((c.tc : Thread Cert.QkvAIdeal.nD Cert.QkvAIdeal.τ).loc Cert.QkvAIdeal.main_v2)),
      θ_run (Cert.QkvAIdeal.defs (F := Ideal)) (onTc (τ := Cert.QkvAIdeal.τ) (Cert.QkvAIdeal.main (F := Ideal))) ⟨m, fun _ => 0, g⟩ (fun r => ∀ c : Dev Cert.QkvAIdeal.nD,
          r.2.mem ((c.tc : Thread Cert.QkvAIdeal.nD Cert.QkvAIdeal.τ).loc Cert.QkvAIdeal.main_v2) = v0 c
          ∧ r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
          ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ θ_run (Cert.QkvAReferenceIdeal.defs (F := Ideal)) (onTc (τ := Cert.QkvAReferenceIdeal.τ) (Cert.QkvAReferenceIdeal.main (F := Ideal))) ⟨m', fun _ => 0, g'⟩ (fun r => ∀ c : Dev Cert.QkvAReferenceIdeal.nD,
          r.2.mem ((c.tc : Thread Cert.QkvAReferenceIdeal.nD Cert.QkvAReferenceIdeal.τ).loc Cert.QkvAReferenceIdeal.main_v3) = v0 c
          ∧ r.2.mem ((c.tc : Thread Cert.QkvAReferenceIdeal.nD Cert.QkvAReferenceIdeal.τ).loc Cert.QkvAReferenceIdeal.main_arg0) = m' ((c.tc : Thread Cert.QkvAReferenceIdeal.nD Cert.QkvAReferenceIdeal.τ).loc Cert.QkvAReferenceIdeal.main_arg0)
          ∧ r.2.mem ((c.tc : Thread Cert.QkvAReferenceIdeal.nD Cert.QkvAReferenceIdeal.τ).loc Cert.QkvAReferenceIdeal.main_arg1) = m' ((c.tc : Thread Cert.QkvAReferenceIdeal.nD Cert.QkvAReferenceIdeal.τ).loc Cert.QkvAReferenceIdeal.main_arg1))

def preserves_ZA_ZAIdeal : Prop :=
  True

def algebraic_ZAIdeal_ZAReferenceIdeal [hZAIdeal : Cert.ZAIdeal.Facts] [hZAReferenceIdeal : Cert.ZAReferenceIdeal.Facts] : Prop :=
  ∀ (m : (ℓ : Loc Cert.ZAIdeal.nD Cert.ZAIdeal.τ Cert.ZAIdeal.sig) → Buf (Elt Ideal) ℓ) (g : Dev Cert.ZAIdeal.nD → PrngReg)
    (m' : (ℓ : Loc Cert.ZAReferenceIdeal.nD Cert.ZAReferenceIdeal.τ Cert.ZAReferenceIdeal.sig) → Buf (Elt Ideal) ℓ) (g' : Dev Cert.ZAReferenceIdeal.nD → PrngReg), Pre_ZAIdeal m →
    (∀ c : Dev Cert.ZAIdeal.nD,
      m' ((c.tc : Thread Cert.ZAReferenceIdeal.nD Cert.ZAReferenceIdeal.τ).loc Cert.ZAReferenceIdeal.main_arg0) = m ((c.tc : Thread Cert.ZAIdeal.nD Cert.ZAIdeal.τ).loc Cert.ZAIdeal.main_arg0)
      ∧ m' ((c.tc : Thread Cert.ZAReferenceIdeal.nD Cert.ZAReferenceIdeal.τ).loc Cert.ZAReferenceIdeal.main_arg1) = m ((c.tc : Thread Cert.ZAIdeal.nD Cert.ZAIdeal.τ).loc Cert.ZAIdeal.main_arg1)) →
    ∃ (v0 : (c : Dev Cert.ZAIdeal.nD) → Buf (Elt Ideal) ((c.tc : Thread Cert.ZAIdeal.nD Cert.ZAIdeal.τ).loc Cert.ZAIdeal.main_v2)),
      θ_run (Cert.ZAIdeal.defs (F := Ideal)) (onTc (τ := Cert.ZAIdeal.τ) (Cert.ZAIdeal.main (F := Ideal))) ⟨m, fun _ => 0, g⟩ (fun r => ∀ c : Dev Cert.ZAIdeal.nD,
          r.2.mem ((c.tc : Thread Cert.ZAIdeal.nD Cert.ZAIdeal.τ).loc Cert.ZAIdeal.main_v2) = v0 c
          ∧ r.2.mem ((c.tc : Thread Cert.ZAIdeal.nD Cert.ZAIdeal.τ).loc Cert.ZAIdeal.main_arg0) = m ((c.tc : Thread Cert.ZAIdeal.nD Cert.ZAIdeal.τ).loc Cert.ZAIdeal.main_arg0)
          ∧ r.2.mem ((c.tc : Thread Cert.ZAIdeal.nD Cert.ZAIdeal.τ).loc Cert.ZAIdeal.main_arg1) = m ((c.tc : Thread Cert.ZAIdeal.nD Cert.ZAIdeal.τ).loc Cert.ZAIdeal.main_arg1))
      ∧ θ_run (Cert.ZAReferenceIdeal.defs (F := Ideal)) (onTc (τ := Cert.ZAReferenceIdeal.τ) (Cert.ZAReferenceIdeal.main (F := Ideal))) ⟨m', fun _ => 0, g'⟩ (fun r => ∀ c : Dev Cert.ZAReferenceIdeal.nD,
          r.2.mem ((c.tc : Thread Cert.ZAReferenceIdeal.nD Cert.ZAReferenceIdeal.τ).loc Cert.ZAReferenceIdeal.main_v3) = v0 c
          ∧ r.2.mem ((c.tc : Thread Cert.ZAReferenceIdeal.nD Cert.ZAReferenceIdeal.τ).loc Cert.ZAReferenceIdeal.main_arg0) = m' ((c.tc : Thread Cert.ZAReferenceIdeal.nD Cert.ZAReferenceIdeal.τ).loc Cert.ZAReferenceIdeal.main_arg0)
          ∧ r.2.mem ((c.tc : Thread Cert.ZAReferenceIdeal.nD Cert.ZAReferenceIdeal.τ).loc Cert.ZAReferenceIdeal.main_arg1) = m' ((c.tc : Thread Cert.ZAReferenceIdeal.nD Cert.ZAReferenceIdeal.τ).loc Cert.ZAReferenceIdeal.main_arg1))

def preserves_BetaAlpha_BetaAlphaIdeal : Prop :=
  True

def algebraic_BetaAlphaIdeal_BetaAlphaReferenceIdeal [hBetaAlphaIdeal : Cert.BetaAlphaIdeal.Facts] [hBetaAlphaReferenceIdeal : Cert.BetaAlphaReferenceIdeal.Facts] : Prop :=
  ∀ (m : (ℓ : Loc Cert.BetaAlphaIdeal.nD Cert.BetaAlphaIdeal.τ Cert.BetaAlphaIdeal.sig) → Buf (Elt Ideal) ℓ) (g : Dev Cert.BetaAlphaIdeal.nD → PrngReg)
    (m' : (ℓ : Loc Cert.BetaAlphaReferenceIdeal.nD Cert.BetaAlphaReferenceIdeal.τ Cert.BetaAlphaReferenceIdeal.sig) → Buf (Elt Ideal) ℓ) (g' : Dev Cert.BetaAlphaReferenceIdeal.nD → PrngReg), Pre_BetaAlphaIdeal m →
    (∀ c : Dev Cert.BetaAlphaIdeal.nD,
      m' ((c.tc : Thread Cert.BetaAlphaReferenceIdeal.nD Cert.BetaAlphaReferenceIdeal.τ).loc Cert.BetaAlphaReferenceIdeal.main_arg0) = m ((c.tc : Thread Cert.BetaAlphaIdeal.nD Cert.BetaAlphaIdeal.τ).loc Cert.BetaAlphaIdeal.main_arg0)
      ∧ m' ((c.tc : Thread Cert.BetaAlphaReferenceIdeal.nD Cert.BetaAlphaReferenceIdeal.τ).loc Cert.BetaAlphaReferenceIdeal.main_arg1) = m ((c.tc : Thread Cert.BetaAlphaIdeal.nD Cert.BetaAlphaIdeal.τ).loc Cert.BetaAlphaIdeal.main_arg1)) →
    ∃ (v0 : (c : Dev Cert.BetaAlphaIdeal.nD) → Buf (Elt Ideal) ((c.tc : Thread Cert.BetaAlphaIdeal.nD Cert.BetaAlphaIdeal.τ).loc Cert.BetaAlphaIdeal.main_v6)),
      θ_run (Cert.BetaAlphaIdeal.defs (F := Ideal)) (onTc (τ := Cert.BetaAlphaIdeal.τ) (Cert.BetaAlphaIdeal.main (F := Ideal))) ⟨m, fun _ => 0, g⟩ (fun r => ∀ c : Dev Cert.BetaAlphaIdeal.nD,
          r.2.mem ((c.tc : Thread Cert.BetaAlphaIdeal.nD Cert.BetaAlphaIdeal.τ).loc Cert.BetaAlphaIdeal.main_v6) = v0 c
          ∧ r.2.mem ((c.tc : Thread Cert.BetaAlphaIdeal.nD Cert.BetaAlphaIdeal.τ).loc Cert.BetaAlphaIdeal.main_arg0) = m ((c.tc : Thread Cert.BetaAlphaIdeal.nD Cert.BetaAlphaIdeal.τ).loc Cert.BetaAlphaIdeal.main_arg0)
          ∧ r.2.mem ((c.tc : Thread Cert.BetaAlphaIdeal.nD Cert.BetaAlphaIdeal.τ).loc Cert.BetaAlphaIdeal.main_arg1) = m ((c.tc : Thread Cert.BetaAlphaIdeal.nD Cert.BetaAlphaIdeal.τ).loc Cert.BetaAlphaIdeal.main_arg1))
      ∧ θ_run (Cert.BetaAlphaReferenceIdeal.defs (F := Ideal)) (onTc (τ := Cert.BetaAlphaReferenceIdeal.τ) (Cert.BetaAlphaReferenceIdeal.main (F := Ideal))) ⟨m', fun _ => 0, g'⟩ (fun r => ∀ c : Dev Cert.BetaAlphaReferenceIdeal.nD,
          r.2.mem ((c.tc : Thread Cert.BetaAlphaReferenceIdeal.nD Cert.BetaAlphaReferenceIdeal.τ).loc Cert.BetaAlphaReferenceIdeal.main_v5) = v0 c
          ∧ r.2.mem ((c.tc : Thread Cert.BetaAlphaReferenceIdeal.nD Cert.BetaAlphaReferenceIdeal.τ).loc Cert.BetaAlphaReferenceIdeal.main_arg0) = m' ((c.tc : Thread Cert.BetaAlphaReferenceIdeal.nD Cert.BetaAlphaReferenceIdeal.τ).loc Cert.BetaAlphaReferenceIdeal.main_arg0)
          ∧ r.2.mem ((c.tc : Thread Cert.BetaAlphaReferenceIdeal.nD Cert.BetaAlphaReferenceIdeal.τ).loc Cert.BetaAlphaReferenceIdeal.main_arg1) = m' ((c.tc : Thread Cert.BetaAlphaReferenceIdeal.nD Cert.BetaAlphaReferenceIdeal.τ).loc Cert.BetaAlphaReferenceIdeal.main_arg1))

def preserves_UvB_UvBIdeal : Prop :=
  True

def algebraic_UvBIdeal_UvBReferenceIdeal [hUvBIdeal : Cert.UvBIdeal.Facts] [hUvBReferenceIdeal : Cert.UvBReferenceIdeal.Facts] : Prop :=
  ∀ (m : (ℓ : Loc Cert.UvBIdeal.nD Cert.UvBIdeal.τ Cert.UvBIdeal.sig) → Buf (Elt Ideal) ℓ) (g : Dev Cert.UvBIdeal.nD → PrngReg)
    (m' : (ℓ : Loc Cert.UvBReferenceIdeal.nD Cert.UvBReferenceIdeal.τ Cert.UvBReferenceIdeal.sig) → Buf (Elt Ideal) ℓ) (g' : Dev Cert.UvBReferenceIdeal.nD → PrngReg), Pre_UvBIdeal m →
    (∀ c : Dev Cert.UvBIdeal.nD,
      m' ((c.tc : Thread Cert.UvBReferenceIdeal.nD Cert.UvBReferenceIdeal.τ).loc Cert.UvBReferenceIdeal.main_arg0) = m ((c.tc : Thread Cert.UvBIdeal.nD Cert.UvBIdeal.τ).loc Cert.UvBIdeal.main_arg0)
      ∧ m' ((c.tc : Thread Cert.UvBReferenceIdeal.nD Cert.UvBReferenceIdeal.τ).loc Cert.UvBReferenceIdeal.main_arg1) = m ((c.tc : Thread Cert.UvBIdeal.nD Cert.UvBIdeal.τ).loc Cert.UvBIdeal.main_arg1)) →
    ∃ (v0 : (c : Dev Cert.UvBIdeal.nD) → Buf (Elt Ideal) ((c.tc : Thread Cert.UvBIdeal.nD Cert.UvBIdeal.τ).loc Cert.UvBIdeal.main_v2)),
      θ_run (Cert.UvBIdeal.defs (F := Ideal)) (onTc (τ := Cert.UvBIdeal.τ) (Cert.UvBIdeal.main (F := Ideal))) ⟨m, fun _ => 0, g⟩ (fun r => ∀ c : Dev Cert.UvBIdeal.nD,
          r.2.mem ((c.tc : Thread Cert.UvBIdeal.nD Cert.UvBIdeal.τ).loc Cert.UvBIdeal.main_v2) = v0 c
          ∧ r.2.mem ((c.tc : Thread Cert.UvBIdeal.nD Cert.UvBIdeal.τ).loc Cert.UvBIdeal.main_arg0) = m ((c.tc : Thread Cert.UvBIdeal.nD Cert.UvBIdeal.τ).loc Cert.UvBIdeal.main_arg0)
          ∧ r.2.mem ((c.tc : Thread Cert.UvBIdeal.nD Cert.UvBIdeal.τ).loc Cert.UvBIdeal.main_arg1) = m ((c.tc : Thread Cert.UvBIdeal.nD Cert.UvBIdeal.τ).loc Cert.UvBIdeal.main_arg1))
      ∧ θ_run (Cert.UvBReferenceIdeal.defs (F := Ideal)) (onTc (τ := Cert.UvBReferenceIdeal.τ) (Cert.UvBReferenceIdeal.main (F := Ideal))) ⟨m', fun _ => 0, g'⟩ (fun r => ∀ c : Dev Cert.UvBReferenceIdeal.nD,
          r.2.mem ((c.tc : Thread Cert.UvBReferenceIdeal.nD Cert.UvBReferenceIdeal.τ).loc Cert.UvBReferenceIdeal.main_v3) = v0 c
          ∧ r.2.mem ((c.tc : Thread Cert.UvBReferenceIdeal.nD Cert.UvBReferenceIdeal.τ).loc Cert.UvBReferenceIdeal.main_arg0) = m' ((c.tc : Thread Cert.UvBReferenceIdeal.nD Cert.UvBReferenceIdeal.τ).loc Cert.UvBReferenceIdeal.main_arg0)
          ∧ r.2.mem ((c.tc : Thread Cert.UvBReferenceIdeal.nD Cert.UvBReferenceIdeal.τ).loc Cert.UvBReferenceIdeal.main_arg1) = m' ((c.tc : Thread Cert.UvBReferenceIdeal.nD Cert.UvBReferenceIdeal.τ).loc Cert.UvBReferenceIdeal.main_arg1))

def preserves_QkvC_QkvCIdeal : Prop :=
  True

def algebraic_QkvCIdeal_QkvCReferenceIdeal [hQkvCIdeal : Cert.QkvCIdeal.Facts] [hQkvCReferenceIdeal : Cert.QkvCReferenceIdeal.Facts] : Prop :=
  ∀ (m : (ℓ : Loc Cert.QkvCIdeal.nD Cert.QkvCIdeal.τ Cert.QkvCIdeal.sig) → Buf (Elt Ideal) ℓ) (g : Dev Cert.QkvCIdeal.nD → PrngReg)
    (m' : (ℓ : Loc Cert.QkvCReferenceIdeal.nD Cert.QkvCReferenceIdeal.τ Cert.QkvCReferenceIdeal.sig) → Buf (Elt Ideal) ℓ) (g' : Dev Cert.QkvCReferenceIdeal.nD → PrngReg), Pre_QkvCIdeal m →
    (∀ c : Dev Cert.QkvCIdeal.nD,
      m' ((c.tc : Thread Cert.QkvCReferenceIdeal.nD Cert.QkvCReferenceIdeal.τ).loc Cert.QkvCReferenceIdeal.main_arg0) = m ((c.tc : Thread Cert.QkvCIdeal.nD Cert.QkvCIdeal.τ).loc Cert.QkvCIdeal.main_arg0)
      ∧ m' ((c.tc : Thread Cert.QkvCReferenceIdeal.nD Cert.QkvCReferenceIdeal.τ).loc Cert.QkvCReferenceIdeal.main_arg1) = m ((c.tc : Thread Cert.QkvCIdeal.nD Cert.QkvCIdeal.τ).loc Cert.QkvCIdeal.main_arg1)) →
    ∃ (v0 : (c : Dev Cert.QkvCIdeal.nD) → Buf (Elt Ideal) ((c.tc : Thread Cert.QkvCIdeal.nD Cert.QkvCIdeal.τ).loc Cert.QkvCIdeal.main_v2)),
      θ_run (Cert.QkvCIdeal.defs (F := Ideal)) (onTc (τ := Cert.QkvCIdeal.τ) (Cert.QkvCIdeal.main (F := Ideal))) ⟨m, fun _ => 0, g⟩ (fun r => ∀ c : Dev Cert.QkvCIdeal.nD,
          r.2.mem ((c.tc : Thread Cert.QkvCIdeal.nD Cert.QkvCIdeal.τ).loc Cert.QkvCIdeal.main_v2) = v0 c
          ∧ r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
          ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1))
      ∧ θ_run (Cert.QkvCReferenceIdeal.defs (F := Ideal)) (onTc (τ := Cert.QkvCReferenceIdeal.τ) (Cert.QkvCReferenceIdeal.main (F := Ideal))) ⟨m', fun _ => 0, g'⟩ (fun r => ∀ c : Dev Cert.QkvCReferenceIdeal.nD,
          r.2.mem ((c.tc : Thread Cert.QkvCReferenceIdeal.nD Cert.QkvCReferenceIdeal.τ).loc Cert.QkvCReferenceIdeal.main_v3) = v0 c
          ∧ r.2.mem ((c.tc : Thread Cert.QkvCReferenceIdeal.nD Cert.QkvCReferenceIdeal.τ).loc Cert.QkvCReferenceIdeal.main_arg0) = m' ((c.tc : Thread Cert.QkvCReferenceIdeal.nD Cert.QkvCReferenceIdeal.τ).loc Cert.QkvCReferenceIdeal.main_arg0)
          ∧ r.2.mem ((c.tc : Thread Cert.QkvCReferenceIdeal.nD Cert.QkvCReferenceIdeal.τ).loc Cert.QkvCReferenceIdeal.main_arg1) = m' ((c.tc : Thread Cert.QkvCReferenceIdeal.nD Cert.QkvCReferenceIdeal.τ).loc Cert.QkvCReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v3) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v25) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_PeerQuery_PeerQueryIdeal : Prop :=
  True

def algebraic_PeerQueryIdeal_PeerQueryReferenceIdeal [hPeerQueryIdeal : Cert.PeerQueryIdeal.Facts] [hPeerQueryReferenceIdeal : Cert.PeerQueryReferenceIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.PeerQueryReferenceIdeal.nD Cert.PeerQueryReferenceIdeal.τ Cert.PeerQueryReferenceIdeal.sig) → Buf (Elt Ideal) ℓ) (g' : Dev Cert.PeerQueryReferenceIdeal.nD → PrngReg), Pre_PeerQueryIdeal m →
    (∀ c : Dev Cert.PeerQueryIdeal.nD,
      m' ((c.tc : Thread Cert.PeerQueryReferenceIdeal.nD Cert.PeerQueryReferenceIdeal.τ).loc Cert.PeerQueryReferenceIdeal.main_arg0) = m ((c.tc : Thread Cert.PeerQueryIdeal.nD Cert.PeerQueryIdeal.τ).loc Cert.PeerQueryIdeal.main_arg0)
      ∧ m' ((c.tc : Thread Cert.PeerQueryReferenceIdeal.nD Cert.PeerQueryReferenceIdeal.τ).loc Cert.PeerQueryReferenceIdeal.main_arg1) = m ((c.tc : Thread Cert.PeerQueryIdeal.nD Cert.PeerQueryIdeal.τ).loc Cert.PeerQueryIdeal.main_arg1)) →
    ∃ (v0 : (c : Dev Cert.PeerQueryIdeal.nD) → Buf (Elt Ideal) ((c.tc : Thread Cert.PeerQueryIdeal.nD Cert.PeerQueryIdeal.τ).loc Cert.PeerQueryIdeal.main_v1)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v1) = v0 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ θ_run (Cert.PeerQueryReferenceIdeal.defs (F := Ideal)) (onTc (τ := Cert.PeerQueryReferenceIdeal.τ) (Cert.PeerQueryReferenceIdeal.main (F := Ideal))) ⟨m', fun _ => 0, g'⟩ (fun r => ∀ c : Dev Cert.PeerQueryReferenceIdeal.nD,
          r.2.mem ((c.tc : Thread Cert.PeerQueryReferenceIdeal.nD Cert.PeerQueryReferenceIdeal.τ).loc Cert.PeerQueryReferenceIdeal.main_v1) = v0 c
          ∧ r.2.mem ((c.tc : Thread Cert.PeerQueryReferenceIdeal.nD Cert.PeerQueryReferenceIdeal.τ).loc Cert.PeerQueryReferenceIdeal.main_arg0) = m' ((c.tc : Thread Cert.PeerQueryReferenceIdeal.nD Cert.PeerQueryReferenceIdeal.τ).loc Cert.PeerQueryReferenceIdeal.main_arg0)
          ∧ r.2.mem ((c.tc : Thread Cert.PeerQueryReferenceIdeal.nD Cert.PeerQueryReferenceIdeal.τ).loc Cert.PeerQueryReferenceIdeal.main_arg1) = m' ((c.tc : Thread Cert.PeerQueryReferenceIdeal.nD Cert.PeerQueryReferenceIdeal.τ).loc Cert.PeerQueryReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Gmlp_GmlpIdeal : Prop :=
  True

def algebraic_GmlpIdeal_GmlpReferenceIdeal [hGmlpIdeal : Cert.GmlpIdeal.Facts] [hGmlpReferenceIdeal : Cert.GmlpReferenceIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpIdeal m →
    (∀ c : Dev Cert.GmlpIdeal.nD,
      m' ((c.tc : Thread Cert.GmlpReferenceIdeal.nD Cert.GmlpReferenceIdeal.τ).loc Cert.GmlpReferenceIdeal.main_arg0) = m ((c.tc : Thread Cert.GmlpIdeal.nD Cert.GmlpIdeal.τ).loc Cert.GmlpIdeal.main_arg0)
      ∧ m' ((c.tc : Thread Cert.GmlpReferenceIdeal.nD Cert.GmlpReferenceIdeal.τ).loc Cert.GmlpReferenceIdeal.main_arg1) = m ((c.tc : Thread Cert.GmlpIdeal.nD Cert.GmlpIdeal.τ).loc Cert.GmlpIdeal.main_arg1)
      ∧ m' ((c.tc : Thread Cert.GmlpReferenceIdeal.nD Cert.GmlpReferenceIdeal.τ).loc Cert.GmlpReferenceIdeal.main_arg2) = m ((c.tc : Thread Cert.GmlpIdeal.nD Cert.GmlpIdeal.τ).loc Cert.GmlpIdeal.main_arg2)
      ∧ m' ((c.tc : Thread Cert.GmlpReferenceIdeal.nD Cert.GmlpReferenceIdeal.τ).loc Cert.GmlpReferenceIdeal.main_arg3) = m ((c.tc : Thread Cert.GmlpIdeal.nD Cert.GmlpIdeal.τ).loc Cert.GmlpIdeal.main_arg3)) →
    ∃ (v0 : (c : Dev Cert.GmlpIdeal.nD) → Buf (Elt Ideal) ((c.tc : Thread Cert.GmlpIdeal.nD Cert.GmlpIdeal.τ).loc Cert.GmlpIdeal.main_v4)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v4) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v55) = v0 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v58) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v4_0)) (v1 : (c : Dev Cert.GatesIdeal.nD) → Buf (Elt Ideal) ((c.tc : Thread Cert.GatesIdeal.nD Cert.GatesIdeal.τ).loc Cert.GatesIdeal.main_v4_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v4_0) = v0 c
          ∧ r.2.mem ((c.tc : Thread Cert.GatesIdeal.nD Cert.GatesIdeal.τ).loc Cert.GatesIdeal.main_v4_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v21) = v0 c
          ∧ r.2.mem ((c.tc : Thread Cert.GatesReferenceIdeal.nD Cert.GatesReferenceIdeal.τ).loc Cert.GatesReferenceIdeal.main_v23) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v5) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v35) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def Claim : Prop :=
  ∃ (hBand : Cert.Band.Facts) (hBandIdeal : Cert.BandIdeal.Facts) (hBandReferenceIdeal : Cert.BandReferenceIdeal.Facts) (hQkvA : Cert.QkvA.Facts) (hQkvAIdeal : Cert.QkvAIdeal.Facts) (hQkvAReferenceIdeal : Cert.QkvAReferenceIdeal.Facts) (hZA : Cert.ZA.Facts) (hZAIdeal : Cert.ZAIdeal.Facts) (hZAReferenceIdeal : Cert.ZAReferenceIdeal.Facts) (hBetaAlpha : Cert.BetaAlpha.Facts) (hBetaAlphaIdeal : Cert.BetaAlphaIdeal.Facts) (hBetaAlphaReferenceIdeal : Cert.BetaAlphaReferenceIdeal.Facts) (hUvB : Cert.UvB.Facts) (hUvBIdeal : Cert.UvBIdeal.Facts) (hUvBReferenceIdeal : Cert.UvBReferenceIdeal.Facts) (hQkvC : Cert.QkvC.Facts) (hQkvCIdeal : Cert.QkvCIdeal.Facts) (hQkvCReferenceIdeal : Cert.QkvCReferenceIdeal.Facts) (hGate : Cert.Gate.Facts) (hGateIdeal : Cert.GateIdeal.Facts) (hGateReferenceIdeal : Cert.GateReferenceIdeal.Facts) (hMerge : Cert.Merge.Facts) (hMergeIdeal : Cert.MergeIdeal.Facts) (hMergeReferenceIdeal : Cert.MergeReferenceIdeal.Facts) (hOutProj : Cert.OutProj.Facts) (hOutProjIdeal : Cert.OutProjIdeal.Facts) (hOutProjReferenceIdeal : Cert.OutProjReferenceIdeal.Facts) (hPeerQuery : Cert.PeerQuery.Facts) (hPeerQueryIdeal : Cert.PeerQueryIdeal.Facts) (hPeerQueryReferenceIdeal : Cert.PeerQueryReferenceIdeal.Facts) (hNorm : Cert.Norm.Facts) (hNormIdeal : Cert.NormIdeal.Facts) (hNormReferenceIdeal : Cert.NormReferenceIdeal.Facts) (hGmlp : Cert.Gmlp.Facts) (hGmlpIdeal : Cert.GmlpIdeal.Facts) (hGmlpReferenceIdeal : Cert.GmlpReferenceIdeal.Facts) (hConv : Cert.Conv.Facts) (hConvIdeal : Cert.ConvIdeal.Facts) (hConvReferenceIdeal : Cert.ConvReferenceIdeal.Facts) (hGates : Cert.Gates.Facts) (hGatesIdeal : Cert.GatesIdeal.Facts) (hGatesReferenceIdeal : Cert.GatesReferenceIdeal.Facts) (hExperts : Cert.Experts.Facts) (hExpertsIdeal : Cert.ExpertsIdeal.Facts) (hExpertsReferenceIdeal : Cert.ExpertsReferenceIdeal.Facts) (hPre_finite_scores : Cert.Pre_finite_scores.Facts),
    quiescent_Band (hBand := hBand)
    ∧ quiescent_BandIdeal (hBandIdeal := hBandIdeal)
    ∧ quiescent_BandIdeal_pre_finite_scores (hBandIdeal := hBandIdeal) (hPre_finite_scores := hPre_finite_scores)
    ∧ quiescent_BandReferenceIdeal (hBandReferenceIdeal := hBandReferenceIdeal)
    ∧ quiescent_BandReferenceIdeal_pre_finite_scores (hBandReferenceIdeal := hBandReferenceIdeal) (hPre_finite_scores := hPre_finite_scores)
    ∧ quiescent_QkvA (hQkvA := hQkvA)
    ∧ quiescent_QkvAIdeal (hQkvAIdeal := hQkvAIdeal)
    ∧ quiescent_QkvAReferenceIdeal (hQkvAReferenceIdeal := hQkvAReferenceIdeal)
    ∧ quiescent_ZA (hZA := hZA)
    ∧ quiescent_ZAIdeal (hZAIdeal := hZAIdeal)
    ∧ quiescent_ZAReferenceIdeal (hZAReferenceIdeal := hZAReferenceIdeal)
    ∧ quiescent_BetaAlpha (hBetaAlpha := hBetaAlpha)
    ∧ quiescent_BetaAlphaIdeal (hBetaAlphaIdeal := hBetaAlphaIdeal)
    ∧ quiescent_BetaAlphaReferenceIdeal (hBetaAlphaReferenceIdeal := hBetaAlphaReferenceIdeal)
    ∧ quiescent_UvB (hUvB := hUvB)
    ∧ quiescent_UvBIdeal (hUvBIdeal := hUvBIdeal)
    ∧ quiescent_UvBReferenceIdeal (hUvBReferenceIdeal := hUvBReferenceIdeal)
    ∧ quiescent_QkvC (hQkvC := hQkvC)
    ∧ quiescent_QkvCIdeal (hQkvCIdeal := hQkvCIdeal)
    ∧ quiescent_QkvCReferenceIdeal (hQkvCReferenceIdeal := hQkvCReferenceIdeal)
    ∧ quiescent_Gate (hGate := hGate)
    ∧ quiescent_GateIdeal (hGateIdeal := hGateIdeal)
    ∧ quiescent_GateReferenceIdeal (hGateReferenceIdeal := hGateReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_PeerQuery (hPeerQuery := hPeerQuery)
    ∧ quiescent_PeerQueryIdeal (hPeerQueryIdeal := hPeerQueryIdeal)
    ∧ quiescent_PeerQueryReferenceIdeal (hPeerQueryReferenceIdeal := hPeerQueryReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Gmlp (hGmlp := hGmlp)
    ∧ quiescent_GmlpIdeal (hGmlpIdeal := hGmlpIdeal)
    ∧ quiescent_GmlpReferenceIdeal (hGmlpReferenceIdeal := hGmlpReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ preserves_Band_BandIdeal
    ∧ algebraic_BandIdeal_BandReferenceIdeal_pre_finite_scores (hBandIdeal := hBandIdeal) (hBandReferenceIdeal := hBandReferenceIdeal) (hPre_finite_scores := hPre_finite_scores)
    ∧ preserves_QkvA_QkvAIdeal
    ∧ algebraic_QkvAIdeal_QkvAReferenceIdeal (hQkvAIdeal := hQkvAIdeal) (hQkvAReferenceIdeal := hQkvAReferenceIdeal)
    ∧ preserves_ZA_ZAIdeal
    ∧ algebraic_ZAIdeal_ZAReferenceIdeal (hZAIdeal := hZAIdeal) (hZAReferenceIdeal := hZAReferenceIdeal)
    ∧ preserves_BetaAlpha_BetaAlphaIdeal
    ∧ algebraic_BetaAlphaIdeal_BetaAlphaReferenceIdeal (hBetaAlphaIdeal := hBetaAlphaIdeal) (hBetaAlphaReferenceIdeal := hBetaAlphaReferenceIdeal)
    ∧ preserves_UvB_UvBIdeal
    ∧ algebraic_UvBIdeal_UvBReferenceIdeal (hUvBIdeal := hUvBIdeal) (hUvBReferenceIdeal := hUvBReferenceIdeal)
    ∧ preserves_QkvC_QkvCIdeal
    ∧ algebraic_QkvCIdeal_QkvCReferenceIdeal (hQkvCIdeal := hQkvCIdeal) (hQkvCReferenceIdeal := hQkvCReferenceIdeal)
    ∧ preserves_Gate_GateIdeal
    ∧ algebraic_GateIdeal_GateReferenceIdeal (hGateIdeal := hGateIdeal) (hGateReferenceIdeal := hGateReferenceIdeal)
    ∧ preserves_Merge_MergeIdeal
    ∧ algebraic_MergeIdeal_MergeReferenceIdeal (hMergeIdeal := hMergeIdeal) (hMergeReferenceIdeal := hMergeReferenceIdeal)
    ∧ preserves_OutProj_OutProjIdeal
    ∧ algebraic_OutProjIdeal_OutProjReferenceIdeal (hOutProjIdeal := hOutProjIdeal) (hOutProjReferenceIdeal := hOutProjReferenceIdeal)
    ∧ preserves_PeerQuery_PeerQueryIdeal
    ∧ algebraic_PeerQueryIdeal_PeerQueryReferenceIdeal (hPeerQueryIdeal := hPeerQueryIdeal) (hPeerQueryReferenceIdeal := hPeerQueryReferenceIdeal)
    ∧ preserves_Norm_NormIdeal
    ∧ algebraic_NormIdeal_NormReferenceIdeal (hNormIdeal := hNormIdeal) (hNormReferenceIdeal := hNormReferenceIdeal)
    ∧ preserves_Gmlp_GmlpIdeal
    ∧ algebraic_GmlpIdeal_GmlpReferenceIdeal (hGmlpIdeal := hGmlpIdeal) (hGmlpReferenceIdeal := hGmlpReferenceIdeal)
    ∧ preserves_Conv_ConvIdeal
    ∧ algebraic_ConvIdeal_ConvReferenceIdeal (hConvIdeal := hConvIdeal) (hConvReferenceIdeal := hConvReferenceIdeal)
    ∧ preserves_Gates_GatesIdeal
    ∧ algebraic_GatesIdeal_GatesReferenceIdeal (hGatesIdeal := hGatesIdeal) (hGatesReferenceIdeal := hGatesReferenceIdeal)
    ∧ preserves_Experts_ExpertsIdeal
    ∧ algebraic_ExpertsIdeal_ExpertsReferenceIdeal (hExpertsIdeal := hExpertsIdeal) (hExpertsReferenceIdeal := hExpertsReferenceIdeal)
-- ==== Pre_finite_scores.lean ====
abbrev S8192x3072 : Shape := ⟨2, ![8192, 3072]⟩
abbrev S128 : Shape := ⟨1, ![128]⟩
abbrev S8x257 : Shape := ⟨2, ![8, 257]⟩
abbrev S8192x2048 : Shape := ⟨2, ![8192, 2048]⟩
abbrev S_ : Shape := ⟨0, ![]⟩

class Facts : Prop where
  slices_S8192x3072_S8192x2048_0_0 : S8192x3072.Slices ![0, 0] S8192x2048
  bitsLt_bf16_f32 : FTy.bits .bf16 < FTy.bits .f32
  bcast_S_S8192x2048 : S_.BroadcastsInDim S8192x2048 (![] : Fin 0 → Fin S8192x2048.rank)
  bcast_S_S128 : S_.BroadcastsInDim S128 (![] : Fin 0 → Fin S128.rank)
  bcast_S_S8x257 : S_.BroadcastsInDim S8x257 (![] : Fin 0 → Fin S8x257.rank)

variable [Facts]

def fn {F : FTy → Type} [FloatOps F] (main_arg0 : FVec F S8192x3072 .bf16) (main_arg1 : FVec F S128 .f32) (main_arg2 : FVec F S128 .f32) (main_arg3 : FVec F S8x257 .f32) : IVec S8192x2048 1 × IVec S128 1 × IVec S128 1 × IVec S8x257 1 :=
  let main_v0 : FVec F S8192x2048 .bf16 := (extractStridedSlice S8192x2048 ![0, 0] · slices_S8192x3072_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S128 .f32 := Host.absf main_arg1
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_v8 : FVec F S128 .f32 := Host.absf main_arg2
  let main_cst_1 : FVec F S_ .f32 := constant S_ .f32 0x7F800000#32
  let main_v9 : FVec F S128 .f32 := broadcastInDim S128 ![] bcast_S_S128 main_cst_1
  let main_v10 : IVec S128 1 := cmpf .olt main_v8 main_v9
  let main_v11 : FVec F S8x257 .f32 := Host.absf main_arg3
  let main_cst_2 : FVec F S_ .f32 := constant S_ .f32 0x7F800000#32
  let main_v12 : FVec F S8x257 .f32 := broadcastInDim S8x257 ![] bcast_S_S8x257 main_cst_2
  let main_v13 : IVec S8x257 1 := cmpf .olt main_v11 main_v12
  (main_v4, main_v7, main_v10, main_v13)
-- ==== Band.lean ====
abbrev S8192x3072 : Shape := ⟨2, ![8192, 3072]⟩
abbrev S128 : Shape := ⟨1, ![128]⟩
abbrev S8x257 : Shape := ⟨2, ![8, 257]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S_ : Shape := ⟨0, ![]⟩
abbrev S64x576x1 : Shape := ⟨3, ![64, 576, 1]⟩
abbrev S8x64x576 : Shape := ⟨3, ![8, 64, 576]⟩
abbrev S1x128 : Shape := ⟨2, ![1, 128]⟩
abbrev S8192x1024 : Shape := ⟨2, ![8192, 1024]⟩
abbrev S512x128 : Shape := ⟨2, ![512, 128]⟩
abbrev S1x64x576 : Shape := ⟨3, ![1, 64, 576]⟩
abbrev S512 : Shape := ⟨1, ![512]⟩
abbrev S512x1 : Shape := ⟨2, ![512, 1]⟩
abbrev S1024x128 : Shape := ⟨2, ![1024, 128]⟩
abbrev S576x128 : Shape := ⟨2, ![576, 128]⟩
abbrev S64x128 : Shape := ⟨2, ![64, 128]⟩

abbrev nBuf : Space → Nat
  | .hbm => 37
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S128, .f32⟩
  | .hbm, ⟨2, _⟩ => ⟨S128, .f32⟩
  | .hbm, ⟨3, _⟩ => ⟨S8x257, .f32⟩
  | .hbm, ⟨4, _⟩ => ⟨S64, .i32⟩
  | .hbm, ⟨5, _⟩ => ⟨S64x1, .i32⟩
  | .hbm, ⟨6, _⟩ => ⟨S576, .i32⟩
  | .hbm, ⟨7, _⟩ => ⟨S1x576, .i32⟩
  | .hbm, ⟨8, _⟩ => ⟨S64x576, .i32⟩
  | .hbm, ⟨9, _⟩ => ⟨S64x576, .i32⟩
  | .hbm, ⟨10, _⟩ => ⟨S64x576, .i32⟩
  | .hbm, ⟨11, _⟩ => ⟨S_, .i32⟩
  | .hbm, ⟨12, _⟩ => ⟨S64x576, .i32⟩
  | .hbm, ⟨13, _⟩ => ⟨S64x576, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i1⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S64x576, .i32⟩
  | .hbm, ⟨32, _⟩ => ⟨S64x576x1, .i32⟩
  | .hbm, ⟨33, _⟩ => ⟨S8x64x576, .f32⟩
  | .hbm, ⟨34, _⟩ => ⟨S1x128, .f32⟩
  | .hbm, ⟨35, _⟩ => ⟨S1x128, .f32⟩
  | .hbm, ⟨36, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S1x128, .f32⟩
  | .local _ .vmem, ⟨11, _⟩ => ⟨S1x128, .f32⟩
  | .local _ .vmem, ⟨12, _⟩ => ⟨S1x64x576, .f32⟩
  | .local _ .vmem, ⟨13, _⟩ => ⟨S1x64x576, .f32⟩
  | .local _ .vmem, ⟨14, _⟩ => ⟨S512x128, .bf16⟩
  | .local _ .vmem, ⟨15, _⟩ => ⟨S512x128, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c8_i32_0 : BitVec 32 := 8#32
  let v4 : BitVec 32 := Scalar.addi c8_i32_0 arg1
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c8_i32_0 : BitVec 32 := 8#32
  let v2 : BitVec 32 := Scalar.addi c8_i32_0 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c16_i32 : BitVec 32 := 16#32
  let v4 : BitVec 32 := Scalar.addi c16_i32 arg1
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x64x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== BandIdeal.lean ====
variable {F : FTy → Type} [FloatOps F] [Named F]
def κ : String → Option EReal := fun
  | "mask" => some ⊥
  | _ => none
-- ==== BandReferenceIdeal.lean ====
abbrev S8192x3072 : Shape := ⟨2, ![8192, 3072]⟩
abbrev S128 : Shape := ⟨1, ![128]⟩
abbrev S8x257 : Shape := ⟨2, ![8, 257]⟩
abbrev S8192x1024 : Shape := ⟨2, ![8192, 1024]⟩
abbrev S2x4096x8x128 : Shape := ⟨4, ![2, 4096, 8, 128]⟩
abbrev S_ : Shape := ⟨0, ![]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S2x64x64x8x128 : Shape := ⟨5, ![2, 64, 64, 8, 128]⟩
abbrev S2x4608x8x128 : Shape := ⟨4, ![2, 4608, 8, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S2x64x576x8x128 : Shape := ⟨5, ![2, 64, 576, 8, 128]⟩
abbrev S2x8x64x64x576 : Shape := ⟨5, ![2, 8, 64, 64, 576]⟩
abbrev S8x64x576 : Shape := ⟨3, ![8, 64, 576]⟩
abbrev S1x1x64x1x576 : Shape := ⟨5, ![1, 1, 64, 1, 576]⟩
abbrev S1x8x1x64x576 : Shape := ⟨5, ![1, 8, 1, 64, 576]⟩
abbrev S2x8x64x64 : Shape := ⟨4, ![2, 8, 64, 64]⟩
abbrev S2x8x64x64x1 : Shape := ⟨5, ![2, 8, 64, 64, 1]⟩
abbrev S2x64x8x128x64 : Shape := ⟨5, ![2, 64, 8, 128, 64]⟩

abbrev nBuf : Space → Nat
  | .hbm => 142
  | .vmem => 0
  | .smem => 0
  | _ => 0

abbrev hbmTy0_0 (i : Nat) : BufTy := match i % 128 with
  | 0 => ⟨S8192x3072, .bf16⟩
  | 1 => ⟨S128, .f32⟩
  | 2 => ⟨S128, .f32⟩
  | 3 => ⟨S8x257, .f32⟩
  | 4 => ⟨S8192x3072, .f32⟩
  | 5 => ⟨S8192x1024, .f32⟩
  | 6 => ⟨S8192x1024, .f32⟩
  | 7 => ⟨S8192x1024, .f32⟩
  | 8 => ⟨S2x4096x8x128, .f32⟩
  | 9 => ⟨S2x4096x8x128, .f32⟩
  | 10 => ⟨S2x4096x8x128, .f32⟩
  | 11 => ⟨S2x4096x8x128, .f32⟩
  | 12 => ⟨S_, .f32⟩
  | 13 => ⟨S2x4096x8, .f32⟩
  | 14 => ⟨S2x4096x8x1, .f32⟩
  | 15 => ⟨S_, .f32⟩
  | 16 => ⟨S2x4096x8x1, .f32⟩
  | 17 => ⟨S2x4096x8x1, .f32⟩
  | 18 => ⟨S_, .f32⟩
  | 19 => ⟨S2x4096x8x1, .f32⟩
  | 20 => ⟨S2x4096x8x1, .f32⟩
  | 21 => ⟨S2x4096x8x1, .f32⟩
  | 22 => ⟨S2x4096x8x128, .f32⟩
  | 23 => ⟨S2x4096x8x128, .f32⟩
  | 24 => ⟨S1x1x1x128, .f32⟩
  | 25 => ⟨S2x4096x8x128, .f32⟩
  | 26 => ⟨S2x4096x8x128, .f32⟩
  | 27 => ⟨S2x64x64x8x128, .f32⟩
  | 28 => ⟨S2x4096x8x128, .f32⟩
  | 29 => ⟨S_, .f32⟩
  | 30 => ⟨S2x4096x8, .f32⟩
  | 31 => ⟨S2x4096x8x1, .f32⟩
  | 32 => ⟨S_, .f32⟩
  | 33 => ⟨S2x4096x8x1, .f32⟩
  | 34 => ⟨S2x4096x8x1, .f32⟩
  | 35 => ⟨S_, .f32⟩
  | 36 => ⟨S2x4096x8x1, .f32⟩
  | 37 => ⟨S2x4096x8x1, .f32⟩
  | 38 => ⟨S2x4096x8x1, .f32⟩
  | 39 => ⟨S2x4096x8x128, .f32⟩
  | 40 => ⟨S2x4096x8x128, .f32⟩
  | 41 => ⟨S1x1x1x128, .f32⟩
  | 42 => ⟨S2x4096x8x128, .f32⟩
  | 43 => ⟨S2x4096x8x128, .f32⟩
  | 44 => ⟨S_, .i32⟩
  | 45 => ⟨S_, .f32⟩
  | 46 => ⟨S2x4608x8x128, .f32⟩
  | 47 => ⟨S_, .i32⟩
  | 48 => ⟨S_, .f32⟩
  | 49 => ⟨S2x4608x8x128, .f32⟩
  | 50 => ⟨S64, .i32⟩
  | 51 => ⟨S64x1, .i32⟩
  | 52 => ⟨S_, .i32⟩
  | 53 => ⟨S64x1, .i32⟩
  | 54 => ⟨S64x1, .i32⟩
  | 55 => ⟨S576, .i32⟩
  | 56 => ⟨S1x576, .i32⟩
  | 57 => ⟨S64x576, .i32⟩
  | 58 => ⟨S64x576, .i32⟩
  | 59 => ⟨S64x576, .i32⟩
  | 60 => ⟨S_, .i32⟩
  | 61 => ⟨S64x576, .i32⟩
  | 62 => ⟨S64x576, .i1⟩
  | 63 => ⟨S_, .i32⟩
  | 64 => ⟨S64x576, .i32⟩
  | 65 => ⟨S64x576, .i32⟩
  | 66 => ⟨S64x576, .i32⟩
  | 67 => ⟨S64x576x1, .i32⟩
  | 68 => ⟨S2x64x576x8x128, .f32⟩
  | 69 => ⟨S_, .i32⟩
  | 70 => ⟨S64x576, .i32⟩
  | 71 => ⟨S64x576, .i1⟩
  | 72 => ⟨S_, .i32⟩
  | 73 => ⟨S64x576, .i32⟩
  | 74 => ⟨S64x576, .i32⟩
  | 75 => ⟨S64x576, .i32⟩
  | 76 => ⟨S64x576x1, .i32⟩
  | 77 => ⟨S2x64x576x8x128, .f32⟩
  | 78 => ⟨S2x8x64x64x576, .f32⟩
  | 79 => ⟨S_, .f32⟩
  | 80 => ⟨S2x8x64x64x576, .f32⟩
  | 81 => ⟨S2x8x64x64x576, .f32⟩
  | 82 => ⟨S64, .i32⟩
  | 83 => ⟨S64x1, .i32⟩
  | 84 => ⟨S576, .i32⟩
  | 85 => ⟨S1x576, .i32⟩
  | 86 => ⟨S64x576, .i32⟩
  | 87 => ⟨S64x576, .i32⟩
  | 88 => ⟨S64x576, .i32⟩
  | 89 => ⟨S_, .i32⟩
  | 90 => ⟨S64x576, .i32⟩
  | 91 => ⟨S64x576, .i32⟩
  | 92 => ⟨S_, .i32⟩
  | 93 => ⟨S_, .i32⟩
  | 94 => ⟨S_, .i32⟩
  | 95 => ⟨S64x576, .i32⟩
  | 96 => ⟨S64x576, .i32⟩
  | 97 => ⟨S_, .i32⟩
  | 98 => ⟨S64x576, .i32⟩
  | 99 => ⟨S64x576, .i32⟩
  | 100 => ⟨S_, .i32⟩
  | 101 => ⟨S64x576, .i32⟩
  | 102 => ⟨S64x576, .i32⟩
  | 103 => ⟨S_, .i32⟩
  | 104 => ⟨S64x576, .i32⟩
  | 105 => ⟨S64x576, .i1⟩
  | 106 => ⟨S_, .i32⟩
  | 107 => ⟨S64x576, .i32⟩
  | 108 => ⟨S64x576, .i32⟩
  | 109 => ⟨S64x576, .i32⟩
  | 110 => ⟨S64x576x1, .i32⟩
  | 111 => ⟨S8x64x576, .f32⟩
  | 112 => ⟨S_, .i32⟩
  | 113 => ⟨S64x576, .i32⟩
  | 114 => ⟨S64x576, .i1⟩
  | 115 => ⟨S1x1x64x1x576, .i1⟩
  | 116 => ⟨S1x8x1x64x576, .f32⟩
  | 117 => ⟨S2x8x64x64x576, .f32⟩
  | 118 => ⟨S2x8x64x64x576, .f32⟩
  | 119 => ⟨S_, .f32⟩
  | 120 => ⟨S_, .f32⟩
  | 121 => ⟨S2x8x64x64x576, .i1⟩
  | 122 => ⟨S2x8x64x64x576, .f32⟩
  | 123 => ⟨S2x8x64x64x576, .f32⟩
  | 124 => ⟨S_, .f32⟩
  | 125 => ⟨S2x8x64x64, .f32⟩
  | 126 => ⟨S_, .f32⟩
  | 127 => ⟨S2x8x64x64, .f32⟩
  | _ => ⟨S8192x3072, .bf16⟩

abbrev hbmTy0_1 (i : Nat) : BufTy := match i % 128 with
  | 0 => ⟨S2x8x64x64, .f32⟩
  | 1 => ⟨S2x8x64x64x1, .f32⟩
  | 2 => ⟨S2x8x64x64x576, .f32⟩
  | 3 => ⟨S2x8x64x64x576, .f32⟩
  | 4 => ⟨S2x8x64x64x576, .f32⟩
  | 5 => ⟨S_, .f32⟩
  | 6 => ⟨S2x8x64x64, .f32⟩
  | 7 => ⟨S2x8x64x64x1, .f32⟩
  | 8 => ⟨S2x8x64x64x576, .f32⟩
  | 9 => ⟨S2x8x64x64x576, .f32⟩
  | 10 => ⟨S2x64x8x128x64, .f32⟩
  | 11 => ⟨S2x64x64x8x128, .f32⟩
  | 12 => ⟨S8192x1024, .f32⟩
  | 13 => ⟨S8192x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_call0_v0 : Ref sig .tc := ⟨.hbm, 45, rfl⟩
abbrev main_v34 : Ref sig .tc := ⟨.hbm, 46, rfl⟩
abbrev main_c_5 : Ref sig .tc := ⟨.hbm, 47, rfl⟩
abbrev main_call1_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_12 : Ref sig .tc := ⟨.hbm, 89, rfl⟩
abbrev main_v69 : Ref sig .tc := ⟨.hbm, 90, rfl⟩
abbrev main_v70 : Ref sig .tc := ⟨.hbm, 91, rfl⟩
abbrev main_c_13 : Ref sig .tc := ⟨.hbm, 92, rfl⟩
abbrev main_c_14 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_c_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v87 : Ref sig .tc := ⟨.hbm, 123, rfl⟩
abbrev main_cst_20 : Ref sig .tc := ⟨.hbm, 124, rfl⟩
abbrev main_v88 : Ref sig .tc := ⟨.hbm, 125, rfl⟩
abbrev main_cst_21 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_22 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]
-- ==== QkvA.lean ====
abbrev S8192x2048 : Shape := ⟨2, ![8192, 2048]⟩
abbrev S2048x15376 : Shape := ⟨2, ![2048, 15376]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S2048x3072, .f32⟩
  | .hbm, ⟨3, _⟩ => ⟨S2048x3072, .bf16⟩
  | .hbm, ⟨4, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvAReferenceIdeal.lean ====
abbrev S8192x2048 : Shape := ⟨2, ![8192, 2048]⟩
abbrev S2048x15376 : Shape := ⟨2, ![2048, 15376]⟩
abbrev S8192x15376 : Shape := ⟨2, ![8192, 15376]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S8192x2048, .f32⟩
  | .hbm, ⟨3, _⟩ => ⟨S8192x15376, .f32⟩
  | .hbm, ⟨4, _⟩ => ⟨S8192x3072, .f32⟩
  | .hbm, ⟨5, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ZA.lean ====
abbrev S8192x2048 : Shape := ⟨2, ![8192, 2048]⟩
abbrev S2048x15376 : Shape := ⟨2, ![2048, 15376]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S2048x1024, .f32⟩
  | .hbm, ⟨3, _⟩ => ⟨S2048x1024, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZAReferenceIdeal.lean ====
abbrev S8192x2048 : Shape := ⟨2, ![8192, 2048]⟩
abbrev S2048x15376 : Shape := ⟨2, ![2048, 15376]⟩
abbrev S8192x15376 : Shape := ⟨2, ![8192, 15376]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S8192x2048, .f32⟩
  | .hbm, ⟨3, _⟩ => ⟨S8192x15376, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BetaAlpha.lean ====
abbrev S8192x2048 : Shape := ⟨2, ![8192, 2048]⟩
abbrev S2048x15376 : Shape := ⟨2, ![2048, 15376]⟩
abbrev S2048x8 : Shape := ⟨2, ![2048, 8]⟩
abbrev S_ : Shape := ⟨0, ![]⟩
abbrev S2048x128 : Shape := ⟨2, ![2048, 128]⟩
abbrev S2048x256 : Shape := ⟨2, ![2048, 256]⟩
abbrev S8192x256 : Shape := ⟨2, ![8192, 256]⟩
abbrev S1024x2048 : Shape := ⟨2, ![1024, 2048]⟩
abbrev S1024x256 : Shape := ⟨2, ![1024, 256]⟩

abbrev nBuf : Space → Nat
  | .hbm => 13
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S2048x8, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x8, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x256, .f32⟩
  | .hbm, ⟨11, _⟩ => ⟨S2048x256, .bf16⟩
  | .hbm, ⟨12, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BetaAlphaReferenceIdeal.lean ====
abbrev S8192x2048 : Shape := ⟨2, ![8192, 2048]⟩
abbrev S2048x15376 : Shape := ⟨2, ![2048, 15376]⟩
abbrev S8192x15376 : Shape := ⟨2, ![8192, 15376]⟩
abbrev S_ : Shape := ⟨0, ![]⟩
abbrev S8192x120 : Shape := ⟨2, ![8192, 120]⟩
abbrev S8192x8 : Shape := ⟨2, ![8192, 8]⟩
abbrev S8192x256 : Shape := ⟨2, ![8192, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S8192x2048, .f32⟩
  | .hbm, ⟨3, _⟩ => ⟨S8192x15376, .f32⟩
  | .hbm, ⟨4, _⟩ => ⟨S_, .f32⟩
  | .hbm, ⟨5, _⟩ => ⟨S8192x120, .f32⟩
  | .hbm, ⟨6, _⟩ => ⟨S8192x8, .f32⟩
  | .hbm, ⟨7, _⟩ => ⟨S8192x8, .f32⟩
  | .hbm, ⟨8, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UvB.lean ====
abbrev S8192x2048 : Shape := ⟨2, ![8192, 2048]⟩
abbrev S2048x15376 : Shape := ⟨2, ![2048, 15376]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S2048x2048, .f32⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UvBReferenceIdeal.lean ====
abbrev S8192x2048 : Shape := ⟨2, ![8192, 2048]⟩
abbrev S2048x15376 : Shape := ⟨2, ![2048, 15376]⟩
abbrev S8192x15376 : Shape := ⟨2, ![8192, 15376]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S8192x2048, .f32⟩
  | .hbm, ⟨3, _⟩ => ⟨S8192x15376, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QkvC.lean ====
abbrev S8192x2048 : Shape := ⟨2, ![8192, 2048]⟩
abbrev S2048x15376 : Shape := ⟨2, ![2048, 15376]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S2048x3072, .f32⟩
  | .hbm, ⟨3, _⟩ => ⟨S2048x3072, .bf16⟩
  | .hbm, ⟨4, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvCReferenceIdeal.lean ====
abbrev S8192x2048 : Shape := ⟨2, ![8192, 2048]⟩
abbrev S2048x15376 : Shape := ⟨2, ![2048, 15376]⟩
abbrev S8192x15376 : Shape := ⟨2, ![8192, 15376]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S8192x2048, .f32⟩
  | .hbm, ⟨3, _⟩ => ⟨S8192x15376, .f32⟩
  | .hbm, ⟨4, _⟩ => ⟨S8192x3072, .f32⟩
  | .hbm, ⟨5, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gate.lean ====
abbrev S8192x2048 : Shape := ⟨2, ![8192, 2048]⟩
abbrev S2048x15376 : Shape := ⟨2, ![2048, 15376]⟩
abbrev S2048x6144 : Shape := ⟨2, ![2048, 6144]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S2048x6144, .f32⟩
  | .hbm, ⟨3, _⟩ => ⟨S2048x6144, .bf16⟩
  | .hbm, ⟨4, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateReferenceIdeal.lean ====
abbrev S8192x2048 : Shape := ⟨2, ![8192, 2048]⟩
abbrev S2048x15376 : Shape := ⟨2, ![2048, 15376]⟩
abbrev S8192x15376 : Shape := ⟨2, ![8192, 15376]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15376, .f32⟩
  | .hbm, ⟨2, _⟩ => ⟨S8192x2048, .f32⟩
  | .hbm, ⟨3, _⟩ => ⟨S8192x15376, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S8192x1024 : Shape := ⟨2, ![8192, 1024]⟩
abbrev S8192x6144 : Shape := ⟨2, ![8192, 6144]⟩
abbrev S1024x2048 : Shape := ⟨2, ![1024, 2048]⟩
abbrev S8192x2048 : Shape := ⟨2, ![8192, 2048]⟩
abbrev S1024x1024 : Shape := ⟨2, ![1024, 1024]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x6144, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .bf16⟩
  | .hbm, ⟨8, _⟩ => ⟨S1024x2048, .bf16⟩
  | .hbm, ⟨9, _⟩ => ⟨S1024x2048, .bf16⟩
  | .hbm, ⟨10, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S8192x1024 : Shape := ⟨2, ![8192, 1024]⟩
abbrev S8192x6144 : Shape := ⟨2, ![8192, 6144]⟩
abbrev S1024x2048 : Shape := ⟨2, ![1024, 2048]⟩
abbrev S_ : Shape := ⟨0, ![]⟩
abbrev S8192x3x2048 : Shape := ⟨3, ![8192, 3, 2048]⟩
abbrev S8192x1x2048 : Shape := ⟨3, ![8192, 1, 2048]⟩
abbrev S8192x2048 : Shape := ⟨2, ![8192, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x6144, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x6144, .f32⟩
  | .hbm, ⟨11, _⟩ => ⟨S8192x6144, .f32⟩
  | .hbm, ⟨12, _⟩ => ⟨S8192x6144, .f32⟩
  | .hbm, ⟨13, _⟩ => ⟨S_, .f32⟩
  | .hbm, ⟨14, _⟩ => ⟨S8192x6144, .f32⟩
  | .hbm, ⟨15, _⟩ => ⟨S8192x6144, .f32⟩
  | .hbm, ⟨16, _⟩ => ⟨S_, .f32⟩
  | .hbm, ⟨17, _⟩ => ⟨S8192x6144, .f32⟩
  | .hbm, ⟨18, _⟩ => ⟨S8192x6144, .f32⟩
  | .hbm, ⟨19, _⟩ => ⟨S8192x3x2048, .f32⟩
  | .hbm, ⟨20, _⟩ => ⟨S8192x1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjReferenceIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PeerQuery.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQueryReferenceIdeal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Gmlp.lean ====
abbrev S8192x2048 : Shape := ⟨2, ![8192, 2048]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S8192x1024 : Shape := ⟨2, ![8192, 1024]⟩
abbrev S512x1024 : Shape := ⟨2, ![512, 1024]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S128x8, .f32⟩
  | .hbm, ⟨5, _⟩ => ⟨S128x8x128, .f32⟩
  | .hbm, ⟨6, _⟩ => ⟨S128x1024, .f32⟩
  | .hbm, ⟨7, _⟩ => ⟨S1x1024, .f32⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S8x128x128, .f32⟩
  | .local _ .vmem, ⟨6, _⟩ => ⟨S128x1024, .f32⟩
  | .local _ .vmem, ⟨7, _⟩ => ⟨S512x1024, .bf16⟩
  | .local _ .vmem, ⟨8, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpReferenceIdeal.lean ====
abbrev S8192x2048 : Shape := ⟨2, ![8192, 2048]⟩
abbrev S1024 : Shape := ⟨1, ![1024]⟩
abbrev S8x128x128 : Shape := ⟨3, ![8, 128, 128]⟩
abbrev S8x128 : Shape := ⟨2, ![8, 128]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x32x128x8x128 : Shape := ⟨5, ![2, 32, 128, 8, 128]⟩
abbrev S128x128 : Shape := ⟨2, ![128, 128]⟩
abbrev S8x2x32x128x128 : Shape := ⟨5, ![8, 2, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S2x32x128x8x128, .f32⟩
  | .hbm, ⟨58, _⟩ => ⟨S_, .i1⟩
  | .hbm, ⟨59, _⟩ => ⟨S128x128, .i1⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .i1⟩
  | .hbm, ⟨67, _⟩ => ⟨S128x128, .i1⟩
  | .hbm, ⟨68, _⟩ => ⟨S128x128, .i1⟩
  | .hbm, ⟨69, _⟩ => ⟨S_, .f32⟩
  | .hbm, ⟨70, _⟩ => ⟨S_, .f32⟩
  | .hbm, ⟨71, _⟩ => ⟨S8x128x128, .i1⟩
  | .hbm, ⟨72, _⟩ => ⟨S8x128x128, .f32⟩
  | .hbm, ⟨73, _⟩ => ⟨S8x128x128, .f32⟩
  | .hbm, ⟨74, _⟩ => ⟨S8x2x32x128x128, .f32⟩
  | .hbm, ⟨75, _⟩ => ⟨S2x32x128x8x128, .f32⟩
  | .hbm, ⟨76, _⟩ => ⟨S128x8, .f32⟩
  | .hbm, ⟨77, _⟩ => ⟨S128x8x1, .f32⟩
  | .hbm, ⟨78, _⟩ => ⟨S1x1x128x8x1, .f32⟩
  | .hbm, ⟨79, _⟩ => ⟨S2x32x128x8x128, .f32⟩
  | .hbm, ⟨80, _⟩ => ⟨S2x32x128x8x128, .f32⟩
  | .hbm, ⟨81, _⟩ => ⟨S8192x1024, .f32⟩
  | .hbm, ⟨82, _⟩ => ⟨S8192x1024, .f32⟩
  | .hbm, ⟨83, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_v43 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v44 : Ref sig .tc := ⟨.hbm, 68, rfl⟩
abbrev main_cst_10 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Conv.lean ====
abbrev S8192x3072 : Shape := ⟨2, ![8192, 3072]⟩
abbrev S4x3072 : Shape := ⟨2, ![4, 3072]⟩
abbrev S512x512 : Shape := ⟨2, ![512, 512]⟩
abbrev S16x512 : Shape := ⟨2, ![16, 512]⟩
abbrev S4x512 : Shape := ⟨2, ![4, 512]⟩
abbrev S528x512 : Shape := ⟨2, ![528, 512]⟩
abbrev S1x512 : Shape := ⟨2, ![1, 512]⟩
abbrev S512x128 : Shape := ⟨2, ![512, 128]⟩
abbrev S512 : Shape := ⟨1, ![512]⟩
abbrev S512x1 : Shape := ⟨2, ![512, 1]⟩

abbrev nBuf : Space → Nat
  | .hbm => 3
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S4x3072, .f32⟩
  | .hbm, ⟨2, _⟩ => ⟨S8192x3072, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S4x512, .f32⟩
  | .local _ .vmem, ⟨5, _⟩ => ⟨S4x512, .f32⟩
  | .local _ .vmem, ⟨6, _⟩ => ⟨S512x512, .f32⟩
  | .local _ .vmem, ⟨7, _⟩ => ⟨S512x512, .f32⟩
  | .local _ .vmem, ⟨8, _⟩ => ⟨S528x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ConvReferenceIdeal.lean ====
abbrev S8192x3072 : Shape := ⟨2, ![8192, 3072]⟩
abbrev S4x3072 : Shape := ⟨2, ![4, 3072]⟩
abbrev S2x4096x3072 : Shape := ⟨3, ![2, 4096, 3072]⟩
abbrev S_ : Shape := ⟨0, ![]⟩
abbrev S2x4099x3072 : Shape := ⟨3, ![2, 4099, 3072]⟩
abbrev S1x3072 : Shape := ⟨2, ![1, 3072]⟩
abbrev S3072 : Shape := ⟨1, ![3072]⟩
abbrev S1x1x3072 : Shape := ⟨3, ![1, 1, 3072]⟩
abbrev S2x4096x1024 : Shape := ⟨3, ![2, 4096, 1024]⟩
abbrev S2x4096x8x128 : Shape := ⟨4, ![2, 4096, 8, 128]⟩
abbrev S2x4096x8 : Shape := ⟨3, ![2, 4096, 8]⟩
abbrev S2x4096x8x1 : Shape := ⟨4, ![2, 4096, 8, 1]⟩
abbrev S8192x1024 : Shape := ⟨2, ![8192, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x3072, .f32⟩
  | .hbm, ⟨2, _⟩ => ⟨S8192x3072, .f32⟩
  | .hbm, ⟨3, _⟩ => ⟨S2x4096x3072, .f32⟩
  | .hbm, ⟨4, _⟩ => ⟨S_, .i32⟩
  | .hbm, ⟨5, _⟩ => ⟨S_, .f32⟩
  | .hbm, ⟨6, _⟩ => ⟨S2x4099x3072, .f32⟩
  | .hbm, ⟨7, _⟩ => ⟨S2x4096x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S2x4096x3072, .f32⟩
  | .hbm, ⟨12, _⟩ => ⟨S2x4096x3072, .f32⟩
  | .hbm, ⟨13, _⟩ => ⟨S2x4096x3072, .f32⟩
  | .hbm, ⟨14, _⟩ => ⟨S1x3072, .f32⟩
  | .hbm, ⟨15, _⟩ => ⟨S3072, .f32⟩
  | .hbm, ⟨16, _⟩ => ⟨S1x1x3072, .f32⟩
  | .hbm, ⟨17, _⟩ => ⟨S2x4096x3072, .f32⟩
  | .hbm, ⟨18, _⟩ => ⟨S2x4096x3072, .f32⟩
  | .hbm, ⟨19, _⟩ => ⟨S2x4096x3072, .f32⟩
  | .hbm, ⟨20, _⟩ => ⟨S2x4096x3072, .f32⟩
  | .hbm, ⟨21, _⟩ => ⟨S1x3072, .f32⟩
  | .hbm, ⟨22, _⟩ => ⟨S3072, .f32⟩
  | .hbm, ⟨23, _⟩ => ⟨S1x1x3072, .f32⟩
  | .hbm, ⟨24, _⟩ => ⟨S2x4096x3072, .f32⟩
  | .hbm, ⟨25, _⟩ => ⟨S2x4096x3072, .f32⟩
  | .hbm, ⟨26, _⟩ => ⟨S2x4096x3072, .f32⟩
  | .hbm, ⟨27, _⟩ => ⟨S2x4096x3072, .f32⟩
  | .hbm, ⟨28, _⟩ => ⟨S1x3072, .f32⟩
  | .hbm, ⟨29, _⟩ => ⟨S3072, .f32⟩
  | .hbm, ⟨30, _⟩ => ⟨S1x1x3072, .f32⟩
  | .hbm, ⟨31, _⟩ => ⟨S2x4096x3072, .f32⟩
  | .hbm, ⟨32, _⟩ => ⟨S2x4096x3072, .f32⟩
  | .hbm, ⟨33, _⟩ => ⟨S2x4096x3072, .f32⟩
  | .hbm, ⟨34, _⟩ => ⟨S2x4096x3072, .f32⟩
  | .hbm, ⟨35, _⟩ => ⟨S2x4096x3072, .f32⟩
  | .hbm, ⟨36, _⟩ => ⟨S_, .f32⟩
  | .hbm, ⟨37, _⟩ => ⟨S2x4096x3072, .f32⟩
  | .hbm, ⟨38, _⟩ => ⟨S2x4096x3072, .f32⟩
  | .hbm, ⟨39, _⟩ => ⟨S_, .f32⟩
  | .hbm, ⟨40, _⟩ => ⟨S2x4096x3072, .f32⟩
  | .hbm, ⟨41, _⟩ => ⟨S2x4096x3072, .f32⟩
  | .hbm, ⟨42, _⟩ => ⟨S2x4096x3072, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x8x128, .f32⟩
  | .hbm, ⟨47, _⟩ => ⟨S2x4096x8x128, .f32⟩
  | .hbm, ⟨48, _⟩ => ⟨S2x4096x8x128, .f32⟩
  | .hbm, ⟨49, _⟩ => ⟨S2x4096x8x128, .f32⟩
  | .hbm, ⟨50, _⟩ => ⟨S_, .f32⟩
  | .hbm, ⟨51, _⟩ => ⟨S2x4096x8, .f32⟩
  | .hbm, ⟨52, _⟩ => ⟨S2x4096x8x1, .f32⟩
  | .hbm, ⟨53, _⟩ => ⟨S_, .f32⟩
  | .hbm, ⟨54, _⟩ => ⟨S2x4096x8x1, .f32⟩
  | .hbm, ⟨55, _⟩ => ⟨S2x4096x8x1, .f32⟩
  | .hbm, ⟨56, _⟩ => ⟨S2x4096x8x1, .f32⟩
  | .hbm, ⟨57, _⟩ => ⟨S2x4096x8x128, .f32⟩
  | .hbm, ⟨58, _⟩ => ⟨S2x4096x8x128, .f32⟩
  | .hbm, ⟨59, _⟩ => ⟨S_, .f32⟩
  | .hbm, ⟨60, _⟩ => ⟨S2x4096x8x128, .f32⟩
  | .hbm, ⟨61, _⟩ => ⟨S2x4096x8x128, .f32⟩
  | .hbm, ⟨62, _⟩ => ⟨S2x4096x8x128, .f32⟩
  | .hbm, ⟨63, _⟩ => ⟨S_, .f32⟩
  | .hbm, ⟨64, _⟩ => ⟨S2x4096x8, .f32⟩
  | .hbm, ⟨65, _⟩ => ⟨S2x4096x8x1, .f32⟩
  | .hbm, ⟨66, _⟩ => ⟨S_, .f32⟩
  | .hbm, ⟨67, _⟩ => ⟨S2x4096x8x1, .f32⟩
  | .hbm, ⟨68, _⟩ => ⟨S2x4096x8x1, .f32⟩
  | .hbm, ⟨69, _⟩ => ⟨S2x4096x8x1, .f32⟩
  | .hbm, ⟨70, _⟩ => ⟨S2x4096x8x128, .f32⟩
  | .hbm, ⟨71, _⟩ => ⟨S2x4096x8x128, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x3072, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst : Ref sig .tc := ⟨.hbm, 50, rfl⟩
abbrev main_v38 : Ref sig .tc := ⟨.hbm, 51, rfl⟩
abbrev main_v39 : Ref sig .tc := ⟨.hbm, 52, rfl⟩
abbrev main_cst_0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_1 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_2 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Gates.lean ====
abbrev S8192x256 : Shape := ⟨2, ![8192, 256]⟩
abbrev S8 : Shape := ⟨1, ![8]⟩
abbrev S_ : Shape := ⟨0, ![]⟩
abbrev S128 : Shape := ⟨1, ![128]⟩
abbrev S1x128 : Shape := ⟨2, ![1, 128]⟩
abbrev S8192x1024 : Shape := ⟨2, ![8192, 1024]⟩
abbrev S512x256 : Shape := ⟨2, ![512, 256]⟩
abbrev S512x1024 : Shape := ⟨2, ![512, 1024]⟩
abbrev S512x128 : Shape := ⟨2, ![512, 128]⟩
abbrev S512x512 : Shape := ⟨2, ![512, 512]⟩
abbrev S128x1024 : Shape := ⟨2, ![128, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S8192x1024, .f32⟩
  | .hbm, ⟨12, _⟩ => ⟨S8192x1024, .f32⟩
  | .local _ .vmem, ⟨0, _⟩ => ⟨S512x256, .f32⟩
  | .local _ .vmem, ⟨1, _⟩ => ⟨S512x256, .f32⟩
  | .local _ .vmem, ⟨2, _⟩ => ⟨S1x128, .f32⟩
  | .local _ .vmem, ⟨3, _⟩ => ⟨S1x128, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesReferenceIdeal.lean ====
abbrev S8192x256 : Shape := ⟨2, ![8192, 256]⟩
abbrev S8 : Shape := ⟨1, ![8]⟩
abbrev S8192x8 : Shape := ⟨2, ![8192, 8]⟩
abbrev S_ : Shape := ⟨0, ![]⟩
abbrev S1x8 : Shape := ⟨2, ![1, 8]⟩
abbrev S128x64x8 : Shape := ⟨3, ![128, 64, 8]⟩
abbrev S8192x8x128 : Shape := ⟨3, ![8192, 8, 128]⟩
abbrev S8192x1024 : Shape := ⟨2, ![8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8, .f32⟩
  | .hbm, ⟨2, _⟩ => ⟨S8, .f32⟩
  | .hbm, ⟨3, _⟩ => ⟨S8192x8, .f32⟩
  | .hbm, ⟨4, _⟩ => ⟨S8192x8, .f32⟩
  | .hbm, ⟨5, _⟩ => ⟨S8192x8, .f32⟩
  | .hbm, ⟨6, _⟩ => ⟨S8192x8, .f32⟩
  | .hbm, ⟨7, _⟩ => ⟨S_, .f32⟩
  | .hbm, ⟨8, _⟩ => ⟨S8192x8, .f32⟩
  | .hbm, ⟨9, _⟩ => ⟨S8192x8, .f32⟩
  | .hbm, ⟨10, _⟩ => ⟨S_, .f32⟩
  | .hbm, ⟨11, _⟩ => ⟨S8192x8, .f32⟩
  | .hbm, ⟨12, _⟩ => ⟨S8192x8, .f32⟩
  | .hbm, ⟨13, _⟩ => ⟨S8, .f32⟩
  | .hbm, ⟨14, _⟩ => ⟨S8, .f32⟩
  | .hbm, ⟨15, _⟩ => ⟨S1x8, .f32⟩
  | .hbm, ⟨16, _⟩ => ⟨S8192x8, .f32⟩
  | .hbm, ⟨17, _⟩ => ⟨S8192x8, .f32⟩
  | .hbm, ⟨18, _⟩ => ⟨S_, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .i1⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S1x8, .f32⟩
  | .hbm, ⟨33, _⟩ => ⟨S8192x8, .f32⟩
  | .hbm, ⟨34, _⟩ => ⟨S8192x8, .f32⟩
  | .hbm, ⟨35, _⟩ => ⟨S128x64x8, .f32⟩
  | .hbm, ⟨36, _⟩ => ⟨S_, .f32⟩
  | .hbm, ⟨37, _⟩ => ⟨S_, .f32⟩
  | .hbm, ⟨38, _⟩ => ⟨S128x64x8, .f32⟩
  | .hbm, ⟨39, _⟩ => ⟨S8192x8, .f32⟩
  | .hbm, ⟨40, _⟩ => ⟨S8192x8x128, .f32⟩
  | .hbm, ⟨41, _⟩ => ⟨S8192x1024, .f32⟩
  | .hbm, ⟨42, _⟩ => ⟨S8192x8x128, .f32⟩
  | .hbm, ⟨43, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_call0_cst : Ref sig .tc := ⟨.hbm, 36, rfl⟩
abbrev main_call1_call0_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Experts.lean ====
abbrev S8192x2048 : Shape := ⟨2, ![8192, 2048]⟩
abbrev S16384x2048 : Shape := ⟨2, ![16384, 2048]⟩
abbrev S8x128x8192 : Shape := ⟨3, ![8, 128, 8192]⟩
abbrev S8x8192 : Shape := ⟨2, ![8, 8192]⟩
abbrev S2048x16384 : Shape := ⟨2, ![2048, 16384]⟩
abbrev S128x8x8192 : Shape := ⟨3, ![128, 8, 8192]⟩
abbrev S512x2048 : Shape := ⟨2, ![512, 2048]⟩
abbrev S2048x512 : Shape := ⟨2, ![2048, 512]⟩
abbrev S4x8x512 : Shape := ⟨3, ![4, 8, 512]⟩
abbrev S8x128x512 : Shape := ⟨3, ![8, 128, 512]⟩
abbrev S8x512 : Shape := ⟨2, ![8, 512]⟩
abbrev S512x512 : Shape := ⟨2, ![512, 512]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩

abbrev nBuf : Space → Nat
  | .hbm => 15
  | .vmem => 22
  | .smem => 0
  | _ => 0

abbrev bufTy : (tb : Table) → Fin (tcTables nBuf tb) → BufTy
  | .hbm, ⟨0, _⟩ => ⟨S8192x2048, .bf16⟩
  | .hbm, ⟨1, _⟩ => ⟨S16384x2048, .f32⟩
  | .hbm, ⟨2, _⟩ => ⟨S16384x2048, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8x8192, .f32⟩
  | .hbm, ⟨8, _⟩ => ⟨S8192x2048, .f32⟩
  | .hbm, ⟨9, _⟩ => ⟨S16384x2048, .bf16⟩
  | .hbm, ⟨10, _⟩ => ⟨S16384x2048, .bf16⟩
  | .hbm, ⟨11, _⟩ => ⟨S2048x16384, .bf16⟩
  | .hbm, ⟨12, _⟩ => ⟨S128x8x8192, .f32⟩
  | .hbm, ⟨13, _⟩ => ⟨S128x8x8192, .f32⟩
  | .hbm, ⟨14, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S4x8x512, .f32⟩
  | .local _ .vmem, ⟨7, _⟩ => ⟨S4x8x512, .f32⟩
  | .local _ .vmem, ⟨8, _⟩ => ⟨S4x8x512, .f32⟩
  | .local _ .vmem, ⟨9, _⟩ => ⟨S4x8x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S8x512, .f32⟩
  | .local _ .vmem, ⟨15, _⟩ => ⟨S8x512, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S2048x512, .f32⟩
  | .local _ .vmem, ⟨21, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v2640 : BitVec 1 := Scalar.cmpi .eq arg1 c31_i32
  let v2641 : BitVec 32 := Scalar.extui v2640
  let c0_i32_2035 : BitVec 32 := 0#32
  let v2642 : BitVec 1 := Scalar.cmpi .ne v2641 c0_i32_2035
  v2642

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ExpertsReferenceIdeal.lean ====
abbrev S8192x2048 : Shape := ⟨2, ![8192, 2048]⟩
abbrev S16384x2048 : Shape := ⟨2, ![16384, 2048]⟩
abbrev S8x128x8192 : Shape := ⟨3, ![8, 128, 8192]⟩
abbrev S8x8192 : Shape := ⟨2, ![8, 8192]⟩
abbrev S8x128x1x8192 : Shape := ⟨4, ![8, 128, 1, 8192]⟩
abbrev S8x1x128x8192 : Shape := ⟨4, ![8, 1, 128, 8192]⟩
abbrev S8x128x128x8192 : Shape := ⟨4, ![8, 128, 128, 8192]⟩
abbrev S8x1x1x8192 : Shape := ⟨4, ![8, 1, 1, 8192]⟩
abbrev S_ : Shape := ⟨0, ![]⟩
abbrev S128x128x8192 : Shape := ⟨3, ![128, 128, 8192]⟩
abbrev S16384x8192 : Shape := ⟨2, ![16384, 8192]⟩
abbrev S2048x8192 : Shape := ⟨2, ![2048, 8192]⟩
abbrev S8192x16384 : Shape := ⟨2, ![8192, 16384]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S16384x2048, .f32⟩
  | .hbm, ⟨2, _⟩ => ⟨S16384x2048, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8x8192, .f32⟩
  | .hbm, ⟨8, _⟩ => ⟨S8192x2048, .f32⟩
  | .hbm, ⟨9, _⟩ => ⟨S8x128x1x8192, .f32⟩
  | .hbm, ⟨10, _⟩ => ⟨S8x1x128x8192, .f32⟩
  | .hbm, ⟨11, _⟩ => ⟨S8x128x128x8192, .f32⟩
  | .hbm, ⟨12, _⟩ => ⟨S8x128x128x8192, .f32⟩
  | .hbm, ⟨13, _⟩ => ⟨S8x128x128x8192, .f32⟩
  | .hbm, ⟨14, _⟩ => ⟨S8x1x1x8192, .f32⟩
  | .hbm, ⟨15, _⟩ => ⟨S8x128x128x8192, .f32⟩
  | .hbm, ⟨16, _⟩ => ⟨S8x128x128x8192, .i1⟩
  | .hbm, ⟨17, _⟩ => ⟨S8x128x1x8192, .f32⟩
  | .hbm, ⟨18, _⟩ => ⟨S8x1x128x8192, .f32⟩
  | .hbm, ⟨19, _⟩ => ⟨S8x128x128x8192, .f32⟩
  | .hbm, ⟨20, _⟩ => ⟨S8x128x128x8192, .f32⟩
  | .hbm, ⟨21, _⟩ => ⟨S8x128x128x8192, .f32⟩
  | .hbm, ⟨22, _⟩ => ⟨S_, .f32⟩
  | .hbm, ⟨23, _⟩ => ⟨S_, .f32⟩
  | .hbm, ⟨24, _⟩ => ⟨S8x128x128x8192, .f32⟩
  | .hbm, ⟨25, _⟩ => ⟨S8x128x128x8192, .f32⟩
  | .hbm, ⟨26, _⟩ => ⟨S_, .f32⟩
  | .hbm, ⟨27, _⟩ => ⟨S128x128x8192, .f32⟩
  | .hbm, ⟨28, _⟩ => ⟨S16384x8192, .f32⟩
  | .hbm, ⟨29, _⟩ => ⟨S8192x2048, .f32⟩
  | .hbm, ⟨30, _⟩ => ⟨S2048x8192, .f32⟩
  | .hbm, ⟨31, _⟩ => ⟨S16384x8192, .f32⟩
  | .hbm, ⟨32, _⟩ => ⟨S16384x8192, .f32⟩
  | .hbm, ⟨33, _⟩ => ⟨S16384x8192, .f32⟩
  | .hbm, ⟨34, _⟩ => ⟨S_, .f32⟩
  | .hbm, ⟨35, _⟩ => ⟨S16384x8192, .f32⟩
  | .hbm, ⟨36, _⟩ => ⟨S16384x8192, .f32⟩
  | .hbm, ⟨37, _⟩ => ⟨S16384x8192, .f32⟩
  | .hbm, ⟨38, _⟩ => ⟨S_, .f32⟩
  | .hbm, ⟨39, _⟩ => ⟨S16384x8192, .f32⟩
  | .hbm, ⟨40, _⟩ => ⟨S16384x8192, .f32⟩
  | .hbm, ⟨41, _⟩ => ⟨S16384x8192, .f32⟩
  | .hbm, ⟨42, _⟩ => ⟨S_, .f32⟩
  | .hbm, ⟨43, _⟩ => ⟨S16384x8192, .f32⟩
  | .hbm, ⟨44, _⟩ => ⟨S16384x8192, .f32⟩
  | .hbm, ⟨45, _⟩ => ⟨S_, .f32⟩
  | .hbm, ⟨46, _⟩ => ⟨S16384x8192, .f32⟩
  | .hbm, ⟨47, _⟩ => ⟨S16384x8192, .f32⟩
  | .hbm, ⟨48, _⟩ => ⟨S16384x8192, .f32⟩
  | .hbm, ⟨49, _⟩ => ⟨S16384x8192, .f32⟩
  | .hbm, ⟨50, _⟩ => ⟨S8192x16384, .f32⟩
  | .hbm, ⟨51, _⟩ => ⟨S8192x2048, .f32⟩
  | .hbm, ⟨52, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Proof.Attention.lean ====
module

public import Idealize.ShloMosaic.Lib.Pipeline.ValueKit
public import Idealize.ShloMosaic.Lib.KernelVsHost

@[expose] public section

/-! Attention of one query over a band of 576 keys, as functions of plain rows of numbers. -/

noncomputable section

open Idealize.ShloMosaic

namespace Cert.Attention

/-- A row divided by its root mean square and multiplied by its gains. -/
def normed (x g : Fin 128 → EReal) (d : Fin 128) : EReal :=
  x d * Ideal.rsqrt (Ideal.div (∑ e, x e * x e) (Ideal.ofBits .f32 1124073472#32) + Ideal.ofBits .f32 897988541#32) * g d

/-- The scaled product of a query and a key, and the bias of their distance. -/
def score (q k : Fin 128 → EReal) (b : EReal) : EReal :=
  (∑ d, q d * k d) * Ideal.ofBits .f32 1035273459#32 + b

/-- The largest score. -/
def top (s : Fin 576 → EReal) : EReal := Finset.fold max ⊥ s Finset.univ

/-- The exponential of a score less the largest one. -/
def power (s : Fin 576 → EReal) (κ : Fin 576) : EReal := Ideal.exp (s κ - top s)

/-- The mean of the values, weighted by the exponentials of the scores. -/
def mean (s v : Fin 576 → EReal) : EReal := ∑ κ, Ideal.div (power s κ) (∑ μ, power s μ) * v κ

/-- The bits of minus infinity denote it. -/
theorem ofBits_bot : Ideal.ofBits .f32 4286578688#32 = ⊥ := by
  simp [Ideal.ofBits, Ideal.ieee]

/-- A number that is not infinite. -/
def IsReal (x : EReal) : Prop := ∃ r : ℝ, x = r

/-- A number whose absolute value is below infinity is not infinite. -/
theorem IsReal.of_abs {x : EReal} (h : Ideal.cmp .olt (max x (-x)) (Ideal.ofBits .f32 2139095040#32) = 1#1) : IsReal x := by
  have htop : Ideal.ofBits .f32 2139095040#32 = ⊤ := by simp [Ideal.ofBits, Ideal.ieee]
  rw [htop] at h
  induction x with
  | bot => simp [Ideal.cmp] at h
  | top => simp [Ideal.cmp] at h
  | coe r => exact ⟨r, rfl⟩

/-- Products of real numbers are real. -/
theorem IsReal.mul {x y : EReal} : IsReal x → IsReal y → IsReal (x * y) := by
  rintro ⟨a, rfl⟩ ⟨b, rfl⟩; exact ⟨a * b, (EReal.coe_mul a b).symm⟩

/-- Sums of two real numbers are real. -/
theorem IsReal.add {x y : EReal} : IsReal x → IsReal y → IsReal (x + y) := by
  rintro ⟨a, rfl⟩ ⟨b, rfl⟩; exact ⟨a + b, (EReal.coe_add a b).symm⟩

/-- A sum of real numbers, as an extended one. -/
theorem coe_sum {n : ℕ} (g : Fin n → ℝ) : ((∑ i, g i : ℝ) : EReal) = ∑ i, (g i : EReal) :=
  map_sum (⟨⟨Real.toEReal, EReal.coe_zero⟩, EReal.coe_add⟩ : ℝ →+ EReal) g Finset.univ

/-- Sums of rows of real numbers are real. -/
theorem IsReal.sum {n : ℕ} {f : Fin n → EReal} (h : ∀ i, IsReal (f i)) : IsReal (∑ i, f i) := by
  choose g hg using h
  refine ⟨∑ i, g i, ?_⟩
  rw [Finset.sum_congr rfl fun i _ => hg i]
  exact (coe_sum _).symm

/-- The scale of the scores is real. -/
theorem isReal_scale : IsReal (Ideal.ofBits .f32 1035273459#32) := by
  simp [Ideal.ofBits, Ideal.ieee, IsReal, -EReal.coe_mul]

/-- The reciprocal of a root mean square of a real row is real. -/
theorem isReal_rsqrt {x : Fin 128 → EReal} (h : ∀ d, IsReal (x d)) :
    IsReal (Ideal.rsqrt (Ideal.div (∑ e, x e * x e) (Ideal.ofBits .f32 1124073472#32) + Ideal.ofBits .f32 897988541#32)) := by
  choose g hg using h
  have hs : ∑ e, x e * x e = ((∑ e, g e * g e : ℝ) : EReal) := by
    rw [Finset.sum_congr rfl fun i _ => by rw [hg i, ← EReal.coe_mul]]
    exact (coe_sum _).symm
  have hn : 0 ≤ ∑ e, g e * g e := Finset.sum_nonneg fun e _ => mul_self_nonneg _
  have hc : ∃ c : ℝ, 0 < c ∧ Ideal.ofBits .f32 1124073472#32 = c := by
    refine ⟨_, ?_, by simp [Ideal.ofBits, Ideal.ieee, -EReal.coe_mul]; rfl⟩
    norm_num
  have he : ∃ c : ℝ, 0 < c ∧ Ideal.ofBits .f32 897988541#32 = c := by
    refine ⟨_, ?_, by simp [Ideal.ofBits, Ideal.ieee, -EReal.coe_mul]; rfl⟩
    norm_num
  obtain ⟨c, c0, hc⟩ := hc
  obtain ⟨ε, e0, he⟩ := he
  have hp : 0 < (∑ e, g e * g e) * c⁻¹ + ε := by positivity
  rw [hs, hc, he, Ideal.div, if_neg (by exact_mod_cast c0.ne'), ← EReal.coe_inv, ← EReal.coe_mul, ← EReal.coe_add]
  exact ⟨_, (if_neg hp.not_gt).trans (if_neg hp.ne')⟩

/-- A normed real row is real. -/
theorem isReal_normed {x g : Fin 128 → EReal} (hx : ∀ d, IsReal (x d)) (hg : ∀ d, IsReal (g d)) (d : Fin 128) : IsReal (normed x g d) :=
  ((hx d).mul (isReal_rsqrt hx)).mul (hg d)

/-- The score of real rows is real. -/
theorem isReal_score {q k : Fin 128 → EReal} {b : EReal} (hq : ∀ d, IsReal (q d)) (hk : ∀ d, IsReal (k d)) (hb : IsReal b) : IsReal (score q k b) :=
  ((IsReal.sum fun d => (hq d).mul (hk d)).mul isReal_scale).add hb

/-- Exponentials are not negative. -/
theorem exp_nonneg (x : EReal) : 0 ≤ Ideal.exp x := by
  induction x with
  | bot => exact le_refl _
  | top => exact le_top
  | coe r => exact EReal.coe_nonneg.mpr (Real.exp_pos r).le

/-- Where one score is real and the others are real or minus infinity, the exponentials do not sum to zero. -/
theorem sum_power_ne {s : Fin 576 → EReal} (h : ∀ κ, s κ ≠ ⊤) (κ₀ : Fin 576) (h₀ : s κ₀ ≠ ⊥) : ∑ μ, power s μ ≠ 0 := by
  have htop : top s = Finset.univ.sup s := rfl
  obtain ⟨μ, -, hμ⟩ := Finset.exists_mem_eq_sup Finset.univ ⟨κ₀, Finset.mem_univ _⟩ s
  have hb : s μ ≠ ⊥ := fun e => h₀ (le_bot_iff.mp (e ▸ hμ ▸ Finset.le_sup (f := s) (Finset.mem_univ κ₀)))
  have h1 : power s μ = 1 := by
    unfold power
    rw [htop, hμ]
    lift s μ to ℝ using ⟨h μ, hb⟩ with r
    rw [← EReal.coe_sub, sub_self]
    exact congrArg Real.toEReal Real.exp_zero
  refine ne_of_gt (lt_of_lt_of_le zero_lt_one ?_)
  rw [← h1]
  exact Finset.single_le_sum (f := power s) (fun i _ => exp_nonneg _) (Finset.mem_univ μ)

/-- The mean does not depend on the values at minus infinity. -/
theorem mean_congr {s v w : Fin 576 → EReal} (h : ∀ κ, s κ ≠ ⊤) (κ₀ : Fin 576) (h₀ : s κ₀ ≠ ⊥) (hv : ∀ κ, s κ ≠ ⊥ → v κ = w κ) :
    mean s v = mean s w := by
  refine Finset.sum_congr rfl fun κ _ => ?_
  by_cases e : s κ = ⊥
  · have : Ideal.div (power s κ) (∑ μ, power s μ) = 0 := by
      rw [Ideal.div, if_neg (sum_power_ne h κ₀ h₀)]
      unfold power
      rw [e, EReal.bot_sub]
      exact zero_mul _
    rw [this, zero_mul, zero_mul]
  · rw [hv κ e]

end Cert.Attention
end
-- ==== Proof.BandReference.lean ====
module

public import proofs.«01_k».proof.Proof.Gen.BandReferenceIdeal.Run
public import proofs.«01_k».proof.Proof.Attention
public import Idealize.ShloMosaic.Lib.KernelVsHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.BandReferenceIdeal.Gen

/-- The heads of a third of the projection's columns. -/
def heads (o : ℕ) (h : S8192x3072.Slices ![0, o] S8192x1024) (x : FVec Ideal S8192x3072 .bf16) : FVec Ideal S2x4096x8x128 .f32 :=
  shapeCast S2x4096x8x128 (extractStridedSlice S8192x1024 ![0, o] (extf .f32 x bitsLt_bf16_f32) h) shapeCasts_S8192x1024_S2x4096x8x128

/-- Each head's row divided by its root mean square and multiplied by the gains. -/
def normed (x : FVec Ideal S2x4096x8x128 .f32) (g : FVec Ideal S128 .f32) : FVec Ideal S2x4096x8x128 .f32 :=
  mulf (mulf x (broadcastInDim S2x4096x8x128 ![0, 1, 2, 3] bcast_S2x4096x8x1_S2x4096x8x128_0_1_2_3 (Host.rsqrt (addf (Host.divf
    (broadcastInDim S2x4096x8x1 ![0, 1, 2] bcast_S2x4096x8_S2x4096x8x1_0_1_2 (Host.reduceAdd (mulf x x) (constant S_ .f32 0x00000000#32) reducesTo_S2x4096x8x128_S2x4096x8_d3 h_S_))
    (broadcastInDim S2x4096x8x1 ![] bcast_S_S2x4096x8x1 (constant S_ .f32 0x43000000#32))) (broadcastInDim S2x4096x8x1 ![] bcast_S_S2x4096x8x1 (constant S_ .f32 0x358637BD#32))))))
    (broadcastInDim S2x4096x8x128 ![0, 1, 2, 3] bcast_S1x1x1x128_S2x4096x8x128_0_1_2_3 (broadcastInDim S1x1x1x128 ![3] bcast_S128_S1x1x1x128_3 g))

/-- The padded positions that a chunk of queries sees. -/
def seen : IVec S64x576 32 :=
  addi (broadcastInDim S64x576 ![0, 1] bcast_S64x1_S64x576_0_1 (muli (broadcastInDim S64x1 ![0] bcast_S64_S64x1_0 (iotaInDim S64 32 0)) (broadcastInDim S64x1 ![] bcast_S_S64x1 (constantI S_ 32 64#32))))
    (broadcastInDim S64x576 ![0, 1] bcast_S1x576_S64x576_0_1 (broadcastInDim S1x576 ![1] bcast_S576_S1x576_1 (iotaInDim S576 32 0)))

/-- The start rows of a gather, counted from the end where negative. -/
def start (p : IVec S64x576 32) (n : BitVec 32) : IVec S64x576x1 32 :=
  broadcastInDim S64x576x1 ![0, 1] bcast_S64x576_S64x576x1_0_1 (select (cmpi .slt p (broadcastInDim S64x576 ![] bcast_S_S64x576 (constantI S_ 32 0#32)))
    (addi p (broadcastInDim S64x576 ![] bcast_S_S64x576 (constantI S_ 32 n))) p)

/-- The rows that each chunk of queries sees. -/
def windowed (x : FVec Ideal S2x4096x8x128 .f32) : FVec Ideal S2x64x576x8x128 .f32 :=
  Host.gather gather_S2x4608x8x128_S64x576x1_S2x64x576x8x128_034_1_n_n_1_2_218128
    (pad S2x4608x8x128 ![0, 512, 0, 0] ![0, 0, 0, 0] ![0, 0, 0, 0] x (sitofp .f32 (constantI S_ 32 0#32)) pads_S2x4096x8x128_S2x4608x8x128_000_51200_000_000 h_S_)
    (start seen 4608#32)

/-- The clipped distances, as columns of the bias table. -/
def distance : IVec S64x576 32 :=
  addi (minsi (broadcastInDim S64x576 ![] bcast_S_S64x576 (constantI S_ 32 128#32))
    (maxsi (broadcastInDim S64x576 ![] bcast_S_S64x576 (constantI S_ 32 4294967168#32))
      (addi (subi (broadcastInDim S64x576 ![0, 1] bcast_S64x1_S64x576_0_1 (broadcastInDim S64x1 ![0] bcast_S64_S64x1_0 (iotaInDim S64 32 0)))
        (broadcastInDim S64x576 ![0, 1] bcast_S1x576_S64x576_0_1 (broadcastInDim S1x576 ![1] bcast_S576_S1x576_1 (iotaInDim S576 32 0))))
        (broadcastInDim S64x576 ![] bcast_S_S64x576 (constantI S_ 32 512#32)))))
    (broadcastInDim S64x576 ![] bcast_S_S64x576 (constantI S_ 32 128#32))

/-- The position bias between a chunk's queries and the keys that it sees. -/
def bias (B : FVec Ideal S8x257 .f32) : FVec Ideal S8x64x576 .f32 :=
  Host.gather gather_S8x257_S64x576x1_S8x64x576_0_1_n_n_1_2_81 B
    (start distance 257#32)

/-- The scores, minus infinity where there is no key. -/
def scores (q : FVec Ideal S2x4096x8x128 .f32) (k : FVec Ideal S2x64x576x8x128 .f32) (B : FVec Ideal S8x64x576 .f32) : FVec Ideal S2x8x64x64x576 .f32 :=
  select (broadcastInDim S2x8x64x64x576 ![0, 1, 2, 3, 4] bcast_S1x1x64x1x576_S2x8x64x64x576_0_1_2_3_4
      (broadcastInDim S1x1x64x1x576 ![2, 4] bcast_S64x576_S1x1x64x1x576_2_4 (cmpi .sge seen (broadcastInDim S64x576 ![] bcast_S_S64x576 (constantI S_ 32 512#32)))))
    (addf (mulf (Host.dotGeneral dot_S2x64x64x8x128_S2x64x576x8x128_S2x8x64x64x576_4_4_2_2_031_031 none (shapeCast S2x64x64x8x128 q shapeCasts_S2x4096x8x128_S2x64x64x8x128) k)
        (broadcastInDim S2x8x64x64x576 ![] bcast_S_S2x8x64x64x576 (constant S_ .f32 0x3DB504F3#32)))
      (broadcastInDim S2x8x64x64x576 ![0, 1, 2, 3, 4] bcast_S1x8x1x64x576_S2x8x64x64x576_0_1_2_3_4 (broadcastInDim S1x8x1x64x576 ![1, 3, 4] bcast_S8x64x576_S1x8x1x64x576_1_3_4 B)))
    (broadcastInDim S2x8x64x64x576 ![] bcast_S_S2x8x64x64x576 (constant S_ .f32 0xFF800000#32))

/-- The largest score of each query. -/
def top (s : FVec Ideal S2x8x64x64x576 .f32) : FVec Ideal S2x8x64x64 .f32 :=
  Host.reduce FloatOps.maximumf s (constant S_ .f32 0xFF800000#32) reducesTo_S2x8x64x64x576_S2x8x64x64_d4 h_S_

/-- The exponentials of the scores less their maximum. -/
def powers (s : FVec Ideal S2x8x64x64x576 .f32) (t : FVec Ideal S2x8x64x64 .f32) : FVec Ideal S2x8x64x64x576 .f32 :=
  Host.exp (subf s (broadcastInDim S2x8x64x64x576 ![0, 1, 2, 3, 4] bcast_S2x8x64x64x1_S2x8x64x64x576_0_1_2_3_4 (broadcastInDim S2x8x64x64x1 ![0, 1, 2, 3] bcast_S2x8x64x64_S2x8x64x64x1_0_1_2_3
    (maximumf (broadcastInDim S2x8x64x64 ![] bcast_S_S2x8x64x64 (constant S_ .f32 0xFF800000#32)) t))))

/-- The exponentials divided by their sum. -/
def weights (p : FVec Ideal S2x8x64x64x576 .f32) : FVec Ideal S2x8x64x64x576 .f32 :=
  Host.divf p (broadcastInDim S2x8x64x64x576 ![0, 1, 2, 3, 4] bcast_S2x8x64x64x1_S2x8x64x64x576_0_1_2_3_4 (broadcastInDim S2x8x64x64x1 ![0, 1, 2, 3] bcast_S2x8x64x64_S2x8x64x64x1_0_1_2_3
    (Host.reduceAdd p (constant S_ .f32 0x00000000#32) reducesTo_S2x8x64x64x576_S2x8x64x64_d4 h_S_)))

/-- The values mixed by the weights, heads side by side. -/
def mixed (p : FVec Ideal S2x8x64x64x576 .f32) (v : FVec Ideal S2x64x576x8x128 .f32) : FVec Ideal S8192x1024 .bf16 :=
  truncf .bf16 (shapeCast S8192x1024 (transpose S2x64x64x8x128 [0, 1, 4, 2, 3]
    (Host.dotGeneral dot_S2x64x576x8x128_S2x8x64x64x576_S2x64x8x128x64_2_4_4_3_013_021 none v p) transposes_S2x64x8x128x64_S2x64x64x8x128_0_1_4_2_3) shapeCasts_S2x64x64x8x128_S8192x1024) bitsLt_bf16_f32

/-- The band attention. -/
def result (x : FVec Ideal S8192x3072 .bf16) (gq gk : FVec Ideal S128 .f32) (B : FVec Ideal S8x257 .f32) : FVec Ideal S8192x1024 .bf16 :=
  let s := scores (normed (heads 0 slices_S8192x3072_S8192x1024_0_0 x) gq) (windowed (normed (heads 1024 slices_S8192x3072_S8192x1024_0_1024 x) gk)) (bias B)
  mixed (weights (powers s (top s))) (windowed (heads 2048 slices_S8192x3072_S8192x1024_0_2048 x))

/-- The heads read at an entry. -/
theorem heads_at (o : ℕ) (h : S8192x3072.Slices ![0, o] S8192x1024) (ho : o ≤ 2048) (x : FVec Ideal S8192x3072 .bf16) (b : Fin 2) (s : Fin 4096) (e : Fin 8) (d : Fin 128) :
    heads o h x (ix4 b s e d) = x (ix2 ⟨b * 4096 + s, by omega⟩ ⟨o + (e * 128 + d), by omega⟩) := by
  pointwise [heads]

/-- The normed heads read at an entry. -/
theorem normed_at (x : FVec Ideal S2x4096x8x128 .f32) (g : FVec Ideal S128 .f32) (b : Fin 2) (s : Fin 4096) (e : Fin 8) (d : Fin 128) :
    normed x g (ix4 b s e d) = Attention.normed (fun d => x (ix4 b s e d)) (fun d => g (ix1 d)) d := by
  pointwise [normed, Attention.normed]

/-- The padded positions as numbers. -/
theorem seen_at (n : Fin 64) (κ : Fin 576) : seen (ix2 n κ) = BitVec.ofNat 32 (64 * n + κ) := by
  pointwise [seen]
  apply BitVec.eq_of_toNat_eq
  simp only [IntOp.addi, IntOp.muli, BitVec.toNat_add, BitVec.toNat_mul, BitVec.toNat_ofNat]
  omega

/-- The rows gathered at start positions. -/
theorem gather_at (X : FVec Ideal S2x4608x8x128 .f32) (I : IVec S64x576x1 32) (b : Fin 2) (n : Fin 64) (κ : Fin 576) (e : Fin 8) (d : Fin 128) :
    Host.gather gather_S2x4608x8x128_S64x576x1_S2x64x576x8x128_034_1_n_n_1_2_218128 X I (ix5 b n κ e d)
      = X (ix4 b ⟨min (I (ix3 n κ 0)).toInt.toNat 4607, by omega⟩ e d) := by
  unfold Host.gather
  congr 1
  funext a
  refine Fin.ext ?_
  generalize hD : gather_S2x4608x8x128_S64x576x1_S2x64x576x8x128_034_1_n_n_1_2_218128 = D
  have hm : D.startIndexMap = [1] := hD ▸ rfl
  have hk : D.sKept = [0, 2, 3] := hD ▸ rfl
  have hs (a : Fin 4) (h : a ≠ 1) : D.start (ix5 b n κ e d) I a = 0 := by
    unfold GatherDims.start
    rw [dif_neg (by rw [hm]; simpa using h)]
  have ho (a : Fin 4) (h : a ∈ D.sKept) : D.offCoord (ix5 b n κ e d) a = ((ix4 b 0 e d : S2x4608x8x128.Idx) a).val := by
    unfold GatherDims.offCoord
    rw [dif_pos h]
    rw [hk] at h
    subst hD
    fin_cases a
    · rfl
    · exact absurd h (by decide)
    · rfl
    · rfl
  change D.start _ I a + D.batchCoord _ a + D.offCoord _ a = _
  rw [GatherDims.batchCoord_eq_zero _ _ _ (by subst hD; exact List.not_mem_nil)]
  fin_cases a
  · exact (congrArg₂ (fun u v => u + 0 + v) (hs 0 (by decide)) (ho 0 (by rw [hk]; decide))).trans (by simp)
  · have h1 : D.offCoord (ix5 b n κ e d) (1 : Fin 4) = 0 := GatherDims.offCoord_eq_zero _ _ _ (by rw [hk]; decide)
    refine (congrArg (fun v => D.start (ix5 b n κ e d) I (1 : Fin 4) + 0 + v) h1).trans ?_
    have hin : (1 : Fin 4) ∈ D.startIndexMap := by rw [hm]; decide
    unfold GatherDims.start
    rw [dif_pos hin]
    simp only [Nat.add_zero]
    subst hD
    refine congrArg (fun z => min (I z).toInt.toNat 4607) ?_
    funext b
    refine Fin.ext ?_
    match b with
    | ⟨0, _⟩ => rfl
    | ⟨1, _⟩ => rfl
    | ⟨2, _⟩ => rfl
  · exact (congrArg₂ (fun u v => u + 0 + v) (hs 2 (by decide)) (ho 2 (by rw [hk]; decide))).trans (by simp)
  · exact (congrArg₂ (fun u v => u + 0 + v) (hs 3 (by decide)) (ho 3 (by rw [hk]; decide))).trans (by simp)

/-- The padded rows read at an entry. -/
theorem padded_at (x : FVec Ideal S2x4096x8x128 .f32) (b : Fin 2) (s : Fin 4608) (e : Fin 8) (d : Fin 128) :
    pad S2x4608x8x128 ![0, 512, 0, 0] ![0, 0, 0, 0] ![0, 0, 0, 0] x (sitofp .f32 (constantI S_ 32 0#32)) pads_S2x4096x8x128_S2x4608x8x128_000_51200_000_000 h_S_ (ix4 b s e d)
      = if h : 512 ≤ s.val then x (ix4 b ⟨s - 512, by omega⟩ e d) else 0 := by
  pointwise []
  by_cases h : 512 ≤ s.val
  · simp only [dif_pos h, dif_pos (show 512 ≤ s.val ∧ s.val - 512 < 4096 by omega)]
  · simp only [dif_neg h, dif_neg (show ¬ (512 ≤ s.val ∧ s.val - 512 < 4096) by omega)]
    exact sitofp_zero

/-- Start rows that are not negative are the positions. -/
theorem start_at (p : IVec S64x576 32) (N : BitVec 32) (n : Fin 64) (κ : Fin 576) (h : 0 ≤ (p (ix2 n κ)).toInt) : start p N (ix3 n κ 0) = p (ix2 n κ) := by
  pointwise [start]
  generalize p (ix2 n κ) = z at h ⊢
  unfold Scalar.select IntOp.cmpi
  rw [if_neg]
  have hs : BitVec.slt z 0#32 = false := decide_eq_false (by simpa using h)
  show ¬ BitVec.ofBool (BitVec.slt z 0#32) = 1
  rw [hs]
  decide

/-- A position as a number. -/
theorem toInt_ofNat (k : ℕ) (hk : k < 4608) : (BitVec.ofNat 32 k).toInt = k := by
  rw [BitVec.toInt_eq_toNat_of_lt (by rw [BitVec.toNat_ofNat]; omega), BitVec.toNat_ofNat]
  omega

/-- The rows that a chunk sees, read at an entry: zero before the first row. -/
theorem windowed_at (x : FVec Ideal S2x4096x8x128 .f32) (b : Fin 2) (n : Fin 64) (κ : Fin 576) (e : Fin 8) (d : Fin 128) :
    windowed x (ix5 b n κ e d) = if h : 512 ≤ 64 * n.val + κ then x (ix4 b ⟨64 * n + κ - 512, by omega⟩ e d) else 0 := by
  have ht : (seen (ix2 n κ)).toInt = (64 * n.val + κ.val : ℕ) := by rw [seen_at]; exact toInt_ofNat _ (by omega)
  have hi : min (start seen 4608#32 (ix3 n κ 0)).toInt.toNat 4607 = 64 * n.val + κ.val := by
    rw [start_at _ _ _ _ (by omega), ht]; omega
  unfold windowed
  rw [gather_at, padded_at]
  simp only [hi]

/-- The scores read at an entry. -/
theorem scores_at (q : FVec Ideal S2x4096x8x128 .f32) (k : FVec Ideal S2x64x576x8x128 .f32) (B : FVec Ideal S8x64x576 .f32) (b : Fin 2) (e : Fin 8) (n r : Fin 64) (κ : Fin 576) :
    scores q k B (ix5 b e n r κ) = if 512 ≤ 64 * n.val + κ then
      Attention.score (fun d => q (ix4 b ⟨n * 64 + r, by omega⟩ e d)) (fun d => k (ix5 b n κ e d)) (B (ix3 e r κ)) else ⊥ := by
  pointwise [scores, seen_at, Attention.score, Attention.ofBits_bot]
  unfold Scalar.select IntOp.cmpi
  have hz : (512#32).sle (BitVec.ofNat 32 (64 * n.val + κ.val)) = decide (512 ≤ 64 * n.val + κ.val) := by
    rw [BitVec.sle, toInt_ofNat (64 * n.val + κ.val) (by omega)]
    exact decide_eq_decide.mpr (Int.ofNat_le (m := 512))
  show (if BitVec.ofBool ((512#32).sle (BitVec.ofNat 32 (64 * n.val + κ.val))) = 1 then _ else _) = _
  rw [hz]
  by_cases h : 512 ≤ 64 * n.val + κ.val
  · simp only [h, decide_true]; rfl
  · simp only [h, decide_false]; rfl

/-- Reducing over the keys leaves the queries. -/
theorem red : S2x8x64x64x576.Reduces [4] S2x8x64x64 := by decide

/-- The largest score of a query. -/
theorem top_at (s : FVec Ideal S2x8x64x64x576 .f32) (b : Fin 2) (e : Fin 8) (n r : Fin 64) :
    top s (ix4 b e n r) = Attention.top (fun κ => s (ix5 b e n r κ)) := by
  unfold top
  rw [show Host.reduce FloatOps.maximumf s (constant S_ .f32 0xFF800000#32) reducesTo_S2x8x64x64x576_S2x8x64x64_d4 h_S_ = _ from
    hostReduce_maximumf_eq_multiReduction s 0xFF800000#32 _ _ red (.inl rfl) rfl]
  pointwise [Attention.top, Attention.ofBits_bot]

/-- The exponentials read at an entry. -/
theorem powers_at (s : FVec Ideal S2x8x64x64x576 .f32) (t : FVec Ideal S2x8x64x64 .f32) (b : Fin 2) (e : Fin 8) (n r : Fin 64) (κ : Fin 576)
    (h : t (ix4 b e n r) = Attention.top (fun κ => s (ix5 b e n r κ))) :
    powers s t (ix5 b e n r κ) = Attention.power (fun κ => s (ix5 b e n r κ)) κ := by
  unfold Attention.power
  rw [← h]
  pointwise [powers, Attention.ofBits_bot]
  exact congrArg (fun z => Ideal.exp (s (ix5 b e n r κ) - z)) (max_eq_right bot_le)

/-- The weights read at an entry. -/
theorem weights_at (p : FVec Ideal S2x8x64x64x576 .f32) (b : Fin 2) (e : Fin 8) (n r : Fin 64) (κ : Fin 576) :
    weights p (ix5 b e n r κ) = Ideal.div (p (ix5 b e n r κ)) (∑ μ, p (ix5 b e n r μ)) := by
  pointwise [weights]

/-- The mixed values read at an entry. -/
theorem mixed_at (p : FVec Ideal S2x8x64x64x576 .f32) (v : FVec Ideal S2x64x576x8x128 .f32) (b : Fin 2) (e : Fin 8) (n r : Fin 64) (d : Fin 128)
    (i : Fin 8192) (j : Fin 1024) (hi : i.val = 4096 * b + 64 * n + r) (hj : j.val = 128 * e + d) :
    mixed p v (ix2 i j) = ∑ κ, p (ix5 b e n r κ) * v (ix5 b n κ e d) := by
  pointwise [mixed]
  have h1 : (⟨i / 4096, by omega⟩ : Fin 2) = b := Fin.ext (by show i.val / 4096 = _; omega)
  have h2 : (⟨i / 64 % 64, by omega⟩ : Fin 64) = n := Fin.ext (by show i.val / 64 % 64 = _; omega)
  have h3 : (⟨i % 64, by omega⟩ : Fin 64) = r := Fin.ext (by show i.val % 64 = _; omega)
  have h4 : (⟨j / 128, by omega⟩ : Fin 8) = e := Fin.ext (by show j.val / 128 = _; omega)
  have h5 : (⟨j % 128, by omega⟩ : Fin 128) = d := Fin.ext (by show j.val % 128 = _; omega)
  simp only [h1, h2, h3, h4, h5]
  exact Finset.sum_congr rfl fun κ _ => mul_comm _ _

/-- The row of a head in one of the projection's thirds. -/
def row (x : FVec Ideal S8192x3072 .bf16) (R : Fin 8192) (o : ℕ) (ho : o ≤ 2048) (e : Fin 8) (d : Fin 128) : EReal :=
  x (ix2 R ⟨o + (e * 128 + d), by omega⟩)

/-- The position whose key a chunk sees at a place. -/
abbrev spot (b : Fin 2) (n : Fin 64) (κ : Fin 576) : Fin 8192 := ⟨b * 4096 + (64 * n + κ - 512), by omega⟩

/-- The scores of a query. -/
def line (x : FVec Ideal S8192x3072 .bf16) (gq gk : FVec Ideal S128 .f32) (B : FVec Ideal S8x257 .f32) (b : Fin 2) (n r : Fin 64) (e : Fin 8) (κ : Fin 576) : EReal :=
  if 512 ≤ 64 * n.val + κ then
    Attention.score (Attention.normed (row x ⟨b * 4096 + (n * 64 + r), by omega⟩ 0 (by omega) e) (fun d => gq (ix1 d)))
      (Attention.normed (row x (spot b n κ) 1024 (by omega) e) (fun d => gk (ix1 d))) (bias B (ix3 e r κ))
  else ⊥

/-- The band attention read at an entry. -/
theorem result_at (x : FVec Ideal S8192x3072 .bf16) (gq gk : FVec Ideal S128 .f32) (B : FVec Ideal S8x257 .f32) (b : Fin 2) (n r : Fin 64) (e : Fin 8) (d : Fin 128)
    (i : Fin 8192) (j : Fin 1024) (hi : i.val = 4096 * b + 64 * n + r) (hj : j.val = 128 * e + d) :
    result x gq gk B (ix2 i j) = Attention.mean (line x gq gk B b n r e)
      (fun κ => if 512 ≤ 64 * n.val + κ then row x (spot b n κ) 2048 (by omega) e d else 0) := by
  unfold result
  generalize hs : scores _ _ _ = s
  have hl (κ : Fin 576) : s (ix5 b e n r κ) = line x gq gk B b n r e κ := by
    rw [← hs, scores_at]
    unfold line row
    by_cases h : 512 ≤ 64 * n.val + κ.val
    · simp only [if_pos h, windowed_at, dif_pos h, normed_at, heads_at 0 _ (by omega), heads_at 1024 _ (by omega)]
    · simp only [if_neg h]
  simp only [mixed_at _ _ b e n r d i j hi hj, weights_at, powers_at _ _ b e n r _ (top_at s b e n r), hl, windowed_at, heads_at _ _ (Nat.le_refl 2048)]
  rfl

variable (m : (ℓ : Loc nD τ sig) → Buf (Elt Ideal) ℓ)

/-- The reference's result is this function of its arguments. -/
theorem result_eq (c : Dev nD) : Value.res_main_v102 (F := Ideal) m c
    = result (m ((c : Thread nD τ).loc main_arg0)) (m ((c : Thread nD τ).loc main_arg1)) (m ((c : Thread nD τ).loc main_arg2)) (m ((c : Thread nD τ).loc main_arg3)) := by
  unfold Value.res_main_v102; rfl

end Cert.BandReferenceIdeal.Gen
end
-- ==== Proof.Band.lean ====
/- The band attention: each block of the kernel's output holds, chunk by chunk, the mean of the values that the chunk's queries see. -/
module

public import proofs.«01_k».proof.Proof.Gen.BandIdeal.Frame
public import proofs.«01_k».proof.Proof.Gen.BandReferenceIdeal
public import proofs.«01_k».proof.Proof.Attention
public import proofs.«01_k».proof.Proof.BandReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BandIdeal.Gen

/-- The masked scores of the chunk of queries that starts at row `lo` of its block. -/
def lines (lo : ℕ) (hk : S1024x128.Slices ![lo, 0] S576x128) (hq : S512x128.Slices ![lo, 0] S64x128) (off arg2 : BitVec 32)
    (q : FVec Ideal S512x128 .bf16) (k : FVec Ideal S1024x128 .bf16) (b : FVec Ideal S64x576 .f32) : FVec Ideal S64x576 .f32 :=
  select (ori (broadcast S64x576 (Scalar.cmpi .sgt arg2 0#32)) (cmpi .sge (addi (iota .tc S64x576 32 [1] iota_S64x576_d1_w32) (broadcast S64x576 off)) (broadcast S64x576 512#32)))
    (addf (mulf (matmul dot_S64x128_S576x128_S64x576_1_1_0_0_n_n none (extractStridedSlice S64x128 ![lo, 0] q hq) (extractStridedSlice S576x128 ![lo, 0] k hk) (constant S64x576 .f32 0x00000000#32))
      (broadcast S64x576 (Scalar.ofBits .f32 0x3DB504F3#32))) b)
    (broadcast S64x576 (Named.named κ "mask" 0xF149F2CA#32 : Ideal .f32))

/-- The exponentials of the scores less their maximum. -/
def powers (s : FVec Ideal S64x576 .f32) : FVec Ideal S64x576 .f32 :=
  exp (subf s (broadcastTo S64x576 (shapeCast S64x1 (multiReduction .maximumf [1] S64 s 0xFF800000#32 reduces_S64x576_S64 (.inl rfl) rfl) shapeCasts_S64_S64x1) broadcasts_S64x1_S64x576))

/-- The values mixed by the exponentials divided by their sum. -/
def mixed (p : FVec Ideal S64x576 .f32) (v : FVec Ideal S576x128 .bf16) : FVec Ideal S64x128 .bf16 :=
  truncf .bf16 (matmul dot_S64x576_S576x128_S64x128_1_0_0_1_n_n none
    (truncf .bf16 (divf p (broadcastTo S64x576 (shapeCast S64x1 (multiReduction .add [1] S64 p 0x00000000#32 reduces_S64x576_S64 (.inl rfl) rfl) shapeCasts_S64_S64x1) broadcasts_S64x1_S64x576)) bitsLt_bf16_f32)
    v (constant S64x128 .f32 0x00000000#32)) bitsLt_bf16_f32

/-- What the body stores for the chunk of queries that starts at row `lo` of its block. -/
def chunk (lo : ℕ) (hk : S1024x128.Slices ![lo, 0] S576x128) (hq : S512x128.Slices ![lo, 0] S64x128) (off arg2 : BitVec 32)
    (q : FVec Ideal S512x128 .bf16) (k v : FVec Ideal S1024x128 .bf16) (b : FVec Ideal S64x576 .f32) : FVec Ideal S64x128 .bf16 :=
  mixed (powers (lines lo hk hq off arg2 q k b)) (extractStridedSlice S576x128 ![lo, 0] v hk)

/-- The masked scores read at an entry. -/
theorem lines_at (lo : ℕ) (hlo : lo ≤ 448) (hk : S1024x128.Slices ![lo, 0] S576x128) (hq : S512x128.Slices ![lo, 0] S64x128) (n : ℕ) (hn : n < 8)
    (q : FVec Ideal S512x128 .bf16) (k : FVec Ideal S1024x128 .bf16) (b : FVec Ideal S64x576 .f32) (r : Fin 64) (κ : Fin 576) :
    lines lo hk hq (BitVec.ofNat 32 lo) (BitVec.ofNat 32 n) q k b (ix2 r κ) = if 0 < n ∨ 512 ≤ κ.val + lo then
      Attention.score (fun d => q (ix2 ⟨lo + r, by omega⟩ d)) (fun d => k (ix2 ⟨lo + κ, by omega⟩ d)) (b (ix2 r κ)) else ⊥ := by
  have hN : (Named.named Cert.BandIdeal.κ "mask" 0xF149F2CA#32 : Ideal .f32) = ⊥ := IdealRules.named_const.ideal_named_scalar _ _ _ _ rfl
  pointwise [lines, Attention.score, hN]
  have h1 : IntOp.cmpi .sgt (BitVec.ofNat 32 n) 0#32 = BitVec.ofBool (decide (0 < n)) := by
    show BitVec.ofBool (decide ((0 : ℤ) < (BitVec.ofNat 32 n).toInt)) = _
    rw [Cert.BandReferenceIdeal.Gen.toInt_ofNat n (by omega)]
    exact congrArg BitVec.ofBool (decide_eq_decide.mpr (Int.ofNat_lt (n := 0)))
  have h2 : IntOp.cmpi .sge (IntOp.addi (BitVec.ofNat 32 κ.val) (BitVec.ofNat 32 lo)) 512#32 = BitVec.ofBool (decide (512 ≤ κ.val + lo)) := by
    show BitVec.ofBool (decide ((512 : ℤ) ≤ (BitVec.ofNat 32 κ.val + BitVec.ofNat 32 lo).toInt)) = _
    rw [← BitVec.ofNat_add, Cert.BandReferenceIdeal.Gen.toInt_ofNat (κ.val + lo) (by omega)]
    exact congrArg BitVec.ofBool (decide_eq_decide.mpr (Int.ofNat_le (m := 512)))
  show Scalar.select (IntOp.ori (IntOp.cmpi .sgt (BitVec.ofNat 32 n) 0#32) _) _ _ = _
  rw [h1, h2]
  by_cases a : 0 < n <;> by_cases b : 512 ≤ κ.val + lo <;> simp only [a, b, decide_true, decide_false, or_true, true_or, or_self, if_true, if_false] <;> rfl

/-- The exponentials read at an entry. -/
theorem powers_at (s : FVec Ideal S64x576 .f32) (r : Fin 64) (κ : Fin 576) : powers s (ix2 r κ) = Attention.power (fun κ => s (ix2 r κ)) κ := by
  pointwise [powers, Attention.power, Attention.top, Attention.ofBits_bot]

/-- The mixed values read at an entry. -/
theorem mixed_at (p : FVec Ideal S64x576 .f32) (v : FVec Ideal S576x128 .bf16) (r : Fin 64) (d : Fin 128) :
    mixed p v (ix2 r d) = ∑ κ, Ideal.div (p (ix2 r κ)) (∑ μ, p (ix2 r μ)) * v (ix2 κ d) := by
  pointwise [mixed]

/-- The chunk read at an entry. -/
theorem chunk_at (lo : ℕ) (hlo : lo ≤ 448) (hk : S1024x128.Slices ![lo, 0] S576x128) (hq : S512x128.Slices ![lo, 0] S64x128) (n : ℕ) (hn : n < 8)
    (q : FVec Ideal S512x128 .bf16) (k v : FVec Ideal S1024x128 .bf16) (b : FVec Ideal S64x576 .f32) (r : Fin 64) (d : Fin 128) :
    chunk lo hk hq (BitVec.ofNat 32 lo) (BitVec.ofNat 32 n) q k v b (ix2 r d) = Attention.mean (fun κ => if 0 < n ∨ 512 ≤ κ.val + lo then
      Attention.score (fun d => q (ix2 ⟨lo + r, by omega⟩ d)) (fun d => k (ix2 ⟨lo + κ, by omega⟩ d)) (b (ix2 r κ)) else ⊥) (fun κ => v (ix2 ⟨lo + κ, by omega⟩ d)) := by
  unfold chunk Attention.mean
  simp only [mixed_at, powers_at, lines_at lo hlo hk hq n hn]
  refine Finset.sum_congr rfl fun κ _ => congrArg _ ?_
  pointwise []

/-- The queries' and keys' rows normed. -/
theorem queries_at (x : Vec Ideal S512x128 .bf16) (g : Vec Ideal S1x128 .f32) (r : Fin 512) (d : Fin 128) :
    k0_pay1 (F := Ideal) x g (ix2 r d) = Attention.normed (fun d => x (ix2 r d)) (fun d => g (ix2 0 d)) d := by
  pointwise [k0_pay1, Attention.normed]

/-- The rows of two blocks, one under the other. -/
def stack (x y : Vec Ideal S512x128 .bf16) (p : Fin 1024) (d : Fin 128) : EReal :=
  if h : p.val < 512 then x (ix2 ⟨p, h⟩ d) else y (ix2 ⟨p - 512, by omega⟩ d)

/-- The keys' rows normed, the previous block's over the block's own. -/
theorem keys_at (x y : Vec Ideal S512x128 .bf16) (g : Vec Ideal S1x128 .f32) (p : Fin 1024) (d : Fin 128) :
    k0_pay6 (F := Ideal) (k0_pay2 x g) (k0_pay3 g) (k0_pay4 y) (k0_pay5 y) (ix2 p d) = Attention.normed (stack x y p) (fun d => g (ix2 0 d)) d := by
  pointwise [k0_pay6, k0_pay2, k0_pay3, k0_pay4, k0_pay5, Attention.normed]
  unfold stack
  by_cases h : p.val < 512
  · simp only [dif_pos h]
  · simp only [dif_neg h]

/-- The values' rows, the previous block's over the block's own. -/
theorem values_at (x y : Vec Ideal S512x128 .bf16) (p : Fin 1024) (d : Fin 128) :
    k0_pay7 (F := Ideal) x y (ix2 p d) = stack x y p d := by
  pointwise [k0_pay7, stack]

/-- A row of the output block: the mean of the values that its query sees, from the blocks' rows. -/
def entry (n : ℕ) (x0 x1 x2 x3 x4 : Vec Ideal S512x128 .bf16) (x5 x6 : Vec Ideal S1x128 .f32) (x7 : Vec Ideal S1x64x576 .f32) (lo : ℕ) (hlo : lo ≤ 448) (r : Fin 64) (d : Fin 128) : EReal :=
  Attention.mean (fun κ => if 0 < n ∨ 512 ≤ κ.val + lo then
      Attention.score (Attention.normed (fun d => x0 (ix2 ⟨lo + r, by omega⟩ d)) (fun d => x5 (ix2 0 d)))
        (Attention.normed (stack x1 x2 ⟨lo + κ, by omega⟩) (fun d => x6 (ix2 0 d))) (x7 (ix3 0 r κ)) else ⊥)
    (fun κ => stack x3 x4 ⟨lo + κ, by omega⟩ d)

/-- The output block from the blocks' rows, entry by entry. -/
def block (n : ℕ) (x0 x1 x2 x3 x4 : Vec Ideal S512x128 .bf16) (x5 x6 : Vec Ideal S1x128 .f32) (x7 : Vec Ideal S1x64x576 .f32) (y : S512x128.Idx) : EReal :=
  entry n x0 x1 x2 x3 x4 x5 x6 x7 ((y 0).val / 64 * 64) (by have : (y 0).val < 512 := (y 0).isLt; omega) ⟨(y 0).val % 64, by omega⟩ (y 1)

/-- The bias block as a matrix. -/
theorem bias_at (x : Vec Ideal S1x64x576 .f32) (r : Fin 64) (κ : Fin 576) : k0_pay8 (F := Ideal) x (ix2 r κ) = x (ix3 0 r κ) := by
  pointwise [k0_pay8]

/-- A chunk's entries, from the blocks' rows. -/
theorem piece (lo : ℕ) (hlo : lo ≤ 448) (hk : S1024x128.Slices ![lo, 0] S576x128) (hq : S512x128.Slices ![lo, 0] S64x128) (n : ℕ) (hn : n < 8)
    (x0 x1 x2 x3 x4 : Vec Ideal S512x128 .bf16) (x5 x6 : Vec Ideal S1x128 .f32) (x7 : Vec Ideal S1x64x576 .f32) (x : S64x128.Idx) :
    chunk lo hk hq (BitVec.ofNat 32 lo) (BitVec.ofNat 32 n) (k0_pay1 x0 x5) (k0_pay6 (k0_pay2 x1 x6) (k0_pay3 x6) (k0_pay4 x2) (k0_pay5 x2)) (k0_pay7 x3 x4) (k0_pay8 x7) x
      = entry n x0 x1 x2 x3 x4 x5 x6 x7 lo hlo (x 0) (x 1) := by
  obtain ⟨r, d, rfl⟩ : ∃ (r : Fin 64) (d : Fin 128), x = ix2 r d := ⟨x 0, x 1, by funext a; match a with | ⟨0, _⟩ => rfl | ⟨1, _⟩ => rfl⟩
  rw [chunk_at lo hlo hk hq n hn]
  simp only [queries_at, keys_at, values_at, bias_at]
  rfl

/-- A chunk's entries, at their place in the block. -/
theorem piece_at (lo : ℕ) (hlo : lo ≤ 448) (h64 : lo % 64 = 0) (hk : S1024x128.Slices ![lo, 0] S576x128) (hq : S512x128.Slices ![lo, 0] S64x128) (n : ℕ) (hn : n < 8)
    (x0 x1 x2 x3 x4 : Vec Ideal S512x128 .bf16) (x5 x6 : Vec Ideal S1x128 .f32) (x7 : Vec Ideal S1x64x576 .f32) (x : S64x128.Idx) (y : S512x128.Idx)
    (h0 : (y 0).val = lo + (x 0).val) (h1 : (y 1).val = (x 1).val) :
    chunk lo hk hq (BitVec.ofNat 32 lo) (BitVec.ofNat 32 n) (k0_pay1 x0 x5) (k0_pay6 (k0_pay2 x1 x6) (k0_pay3 x6) (k0_pay4 x2) (k0_pay5 x2)) (k0_pay7 x3 x4) (k0_pay8 x7) x
      = block n x0 x1 x2 x3 x4 x5 x6 x7 y := by
  rw [piece lo hlo hk hq n hn]
  unfold block
  have hx : (x 0).val < 64 := (x 0).isLt
  have e0 : (y 0).val / 64 * 64 = lo := by omega
  have e1 : (⟨(y 0).val % 64, by omega⟩ : Fin 64) = x 0 := Fin.ext (by show (y 0).val % 64 = (x 0).val; omega)
  have e2 : y 1 = x 1 := Fin.ext h1
  simp only [e0, e1]
  exact congrArg _ e2.symm

set_option maxHeartbeats 1000000 in
/-- The output block, entry by entry. -/
theorem out_at (i : grid0.Coords) (x0 x1 x2 x3 x4 : Vec Ideal S512x128 .bf16) (x5 x6 : Vec Ideal S1x128 .f32) (x7 : Vec Ideal S1x64x576 .f32) (y : S512x128.Idx) :
    out0_8 (F := Ideal) i x0 x1 x2 x3 x4 x5 x6 x7 y = block (i 2).val x0 x1 x2 x3 x4 x5 x6 x7 y := by
  have hn : (i 2).val < 8 := (i 2).isLt
  unfold out0_8 k0_pay30 k0_pay36 k0_pay31 k0_pay32 k0_pay33 k0_pay34 k0_pay37 k0_pay38 k0_pay35
  frame_out
  canon_tiles x h
  · exact piece_at 448 (by decide) (by decide) _ _ _ hn x0 x1 x2 x3 x4 x5 x6 x7 x y h0 h1
  · exact piece_at 384 (by decide) (by decide) _ _ _ hn x0 x1 x2 x3 x4 x5 x6 x7 x y h0 h1
  · exact piece_at 320 (by decide) (by decide) _ _ _ hn x0 x1 x2 x3 x4 x5 x6 x7 x y h0 h1
  · exact piece_at 256 (by decide) (by decide) _ _ _ hn x0 x1 x2 x3 x4 x5 x6 x7 x y h0 h1
  · exact piece_at 192 (by decide) (by decide) _ _ _ hn x0 x1 x2 x3 x4 x5 x6 x7 x y h0 h1
  · exact piece_at 128 (by decide) (by decide) _ _ _ hn x0 x1 x2 x3 x4 x5 x6 x7 x y h0 h1
  · exact piece_at 64 (by decide) (by decide) _ _ _ hn x0 x1 x2 x3 x4 x5 x6 x7 x y h0 h1
  · exact piece_at 0 (by decide) (by decide) _ _ _ hn x0 x1 x2 x3 x4 x5 x6 x7 x y (by omega) h1

variable (m : (ℓ : Loc nD τ sig) → Buf (Elt Ideal) ℓ)

/-- Which blocks the windows take at a grid point. -/
theorem idx : ∀ t : Fin cfg0.N, win0_0.index t = ![t.val / 64 * 8 + t.val % 8, t.val / 8 % 8] ∧ win0_1.index t = ![t.val / 64 * 8 + (t.val % 8 - 1), 8 + t.val / 8 % 8]
    ∧ win0_2.index t = ![t.val / 64 * 8 + t.val % 8, 8 + t.val / 8 % 8] ∧ win0_3.index t = ![t.val / 64 * 8 + (t.val % 8 - 1), 16 + t.val / 8 % 8]
    ∧ win0_4.index t = ![t.val / 64 * 8 + t.val % 8, 16 + t.val / 8 % 8] ∧ win0_5.index t = ![0, 0] ∧ win0_6.index t = ![0, 0] ∧ win0_7.index t = ![t.val / 8 % 8, 0, 0]
    ∧ win0_8.index t = ![t.val / 64 * 8 + t.val % 8, t.val / 8 % 8] ∧ (grid0.coords t 2).val = t.val % 8 :=
  (by decide +kernel : ∀ t : Fin grid0.N, _)

/-- The bias that the call reads is the reference's. -/
theorem entry_bias (c : Dev nD) : V m c main_v18 = Cert.BandReferenceIdeal.Gen.bias (m ((c : Thread nD τ).loc main_arg3)) := by
  simp only [V, hostOps0, hostOps0_1, hostOps0_2, List.flatten_cons, List.flatten_nil,
    List.append_nil, List.cons_append, List.nil_append, StableHlo.TRef.binary, StableHlo.TRef.unary, StableHlo.TRef.toBuf,
    StableHlo.TRef.ofBuf, cast_eq]
  after_results <;> rfl

/-- The gains that the call reads are the arguments'. -/
theorem entry_gains (c : Dev nD) : V m c main_v19 = shapeCast S1x128 (m ((c : Thread nD τ).loc main_arg1)) shapeCasts_S128_S1x128
    ∧ V m c main_v20 = shapeCast S1x128 (m ((c : Thread nD τ).loc main_arg2)) shapeCasts_S128_S1x128 := by
  constructor
  all_goals
    simp only [V, hostOps0, hostOps0_1, hostOps0_2, List.flatten_cons, List.flatten_nil,
      List.append_nil, List.cons_append, List.nil_append, StableHlo.TRef.binary, StableHlo.TRef.unary, StableHlo.TRef.toBuf,
      StableHlo.TRef.ofBuf, cast_eq]
    after_results <;> rfl

/-- The queries', keys' and values' blocks, read at an entry. -/
theorem blocks (c : Dev nD) (t : Fin cfg0.N) (p : Fin 512) (d : Fin 128) (ht : t.val < 128) :
    iblk m c 0 t (ix2 p d) = m ((c : Thread nD τ).loc main_arg0) (ix2 ⟨(t.val / 64 * 8 + t.val % 8) * 512 + p, by omega⟩ ⟨t.val / 8 % 8 * 128 + d, by omega⟩)
    ∧ iblk m c 1 t (ix2 p d) = m ((c : Thread nD τ).loc main_arg0) (ix2 ⟨(t.val / 64 * 8 + (t.val % 8 - 1)) * 512 + p, by omega⟩ ⟨(8 + t.val / 8 % 8) * 128 + d, by omega⟩)
    ∧ iblk m c 2 t (ix2 p d) = m ((c : Thread nD τ).loc main_arg0) (ix2 ⟨(t.val / 64 * 8 + t.val % 8) * 512 + p, by omega⟩ ⟨(8 + t.val / 8 % 8) * 128 + d, by omega⟩)
    ∧ iblk m c 3 t (ix2 p d) = m ((c : Thread nD τ).loc main_arg0) (ix2 ⟨(t.val / 64 * 8 + (t.val % 8 - 1)) * 512 + p, by omega⟩ ⟨(16 + t.val / 8 % 8) * 128 + d, by omega⟩)
    ∧ iblk m c 4 t (ix2 p d) = m ((c : Thread nD τ).loc main_arg0) (ix2 ⟨(t.val / 64 * 8 + t.val % 8) * 512 + p, by omega⟩ ⟨(16 + t.val / 8 % 8) * 128 + d, by omega⟩) := by
  refine ⟨?_, ?_, ?_, ?_, ?_⟩ <;> blk_point [iblk, V, idx t]

/-- The bias block, read at an entry. -/
theorem bias_block (c : Dev nD) (t : Fin cfg0.N) (r : Fin 64) (κ : Fin 576) : iblk m c 7 t (ix3 0 r κ)
    = Cert.BandReferenceIdeal.Gen.bias (m ((c : Thread nD τ).loc main_arg3)) (ix3 ⟨t.val / 8 % 8, by omega⟩ r κ) := by
  rw [← entry_bias m c]
  unfold iblk
  blk_ext [idx t]

/-- The gains' blocks, read at an entry. -/
theorem gains (c : Dev nD) (t : Fin cfg0.N) (d : Fin 128) :
    iblk m c 5 t (ix2 0 d) = m ((c : Thread nD τ).loc main_arg1) (ix1 d) ∧ iblk m c 6 t (ix2 0 d) = m ((c : Thread nD τ).loc main_arg2) (ix1 d) := by
  constructor
  · refine Eq.trans (b := (V m c main_v19 : FVec Ideal S1x128 .f32) (ix2 0 d)) ?_ ?_
    · unfold iblk; blk_ext [idx t]
    · rw [(entry_gains m c).1]; pointwise []
  · refine Eq.trans (b := (V m c main_v20 : FVec Ideal S1x128 .f32) (ix2 0 d)) ?_ ?_
    · unfold iblk; blk_ext [idx t]
    · rw [(entry_gains m c).2]; pointwise []

open Cert.BandReferenceIdeal.Gen (row spot line)

/-- Two blocks' rows, one under the other, are the rows of the positions that a chunk sees. -/
theorem stack_rows (X : FVec Ideal S8192x3072 .bf16) (x y : Vec Ideal S512x128 .bf16) (b : Fin 2) (i e : Fin 8) (o : ℕ) (ho : o * 128 ≤ 2048)
    (hx : ∀ p d, x (ix2 p d) = X (ix2 ⟨(b * 8 + (i - 1)) * 512 + p, by omega⟩ ⟨(o + e) * 128 + d, by omega⟩))
    (hy : ∀ p d, y (ix2 p d) = X (ix2 ⟨(b * 8 + i) * 512 + p, by omega⟩ ⟨(o + e) * 128 + d, by omega⟩))
    (lo : ℕ) (hlo : lo ≤ 448) (h64 : lo % 64 = 0) (n : Fin 64) (hn : n.val = i * 8 + lo / 64) (κ : Fin 576) (hκ : 512 ≤ 64 * n.val + κ) (d : Fin 128) :
    stack x y ⟨lo + κ, by omega⟩ d = row X (spot b n κ) (o * 128) ho e d := by
  unfold stack row spot
  by_cases h : lo + κ.val < 512
  · rw [dif_pos h, hx]
    congr 2 <;> exact Fin.ext (by simp only; omega)
  · rw [dif_neg h, hy]
    congr 2 <;> exact Fin.ext (by simp only; omega)

/-- A block's entry is the entry of the reference that lies at its place, where the blocks hold the arguments' rows and the
scores are computed from finite numbers. -/
theorem entry_eq (X : FVec Ideal S8192x3072 .bf16) (gq gk : FVec Ideal S128 .f32) (B : FVec Ideal S8x257 .f32)
    (x0 x1 x2 x3 x4 : Vec Ideal S512x128 .bf16) (x5 x6 : Vec Ideal S1x128 .f32) (x7 : Vec Ideal S1x64x576 .f32) (b : Fin 2) (g e : Fin 8)
    (hx : ∀ (i : Fin 8192) (j : Fin 3072), j.val < 2048 → Attention.IsReal (X (ix2 i j)))
    (hq : ∀ d : Fin 128, Attention.IsReal (gq (ix1 d))) (hk : ∀ d : Fin 128, Attention.IsReal (gk (ix1 d))) (hb : ∀ i, Attention.IsReal (B i))
    (h0 : ∀ p d, x0 (ix2 p d) = X (ix2 ⟨(b * 8 + g) * 512 + p, by omega⟩ ⟨e * 128 + d, by omega⟩))
    (h1 : ∀ p d, x1 (ix2 p d) = X (ix2 ⟨(b * 8 + (g - 1)) * 512 + p, by omega⟩ ⟨(8 + e) * 128 + d, by omega⟩))
    (h2 : ∀ p d, x2 (ix2 p d) = X (ix2 ⟨(b * 8 + g) * 512 + p, by omega⟩ ⟨(8 + e) * 128 + d, by omega⟩))
    (h3 : ∀ p d, x3 (ix2 p d) = X (ix2 ⟨(b * 8 + (g - 1)) * 512 + p, by omega⟩ ⟨(16 + e) * 128 + d, by omega⟩))
    (h4 : ∀ p d, x4 (ix2 p d) = X (ix2 ⟨(b * 8 + g) * 512 + p, by omega⟩ ⟨(16 + e) * 128 + d, by omega⟩))
    (h5 : ∀ d, x5 (ix2 0 d) = gq (ix1 d)) (h6 : ∀ d, x6 (ix2 0 d) = gk (ix1 d))
    (h7 : ∀ r κ, x7 (ix3 0 r κ) = Cert.BandReferenceIdeal.Gen.bias B (ix3 e r κ))
    (lo : ℕ) (hlo : lo ≤ 448) (h64 : lo % 64 = 0) (n : Fin 64) (hn : n.val = g * 8 + lo / 64) (r : Fin 64) (d : Fin 128) :
    entry g x0 x1 x2 x3 x4 x5 x6 x7 lo hlo r d = Attention.mean (line X gq gk B b n r e)
      (fun κ => if 512 ≤ 64 * n.val + κ.val then row X (spot b n κ) 2048 (by omega) e d else 0) := by
  unfold entry
  have hs (κ : Fin 576) : (if 0 < g.val ∨ 512 ≤ κ.val + lo then
      Attention.score (Attention.normed (fun d => x0 (ix2 ⟨lo + r, by omega⟩ d)) (fun d => x5 (ix2 0 d)))
        (Attention.normed (stack x1 x2 ⟨lo + κ, by omega⟩) (fun d => x6 (ix2 0 d))) (x7 (ix3 0 r κ)) else ⊥)
      = line X gq gk B b n r e κ := by
    unfold line
    by_cases h : 512 ≤ 64 * n.val + κ.val
    · rw [if_pos h, if_pos (by omega)]
      have k1 : (fun d => x0 (ix2 ⟨lo + r, by omega⟩ d)) = row X ⟨b * 4096 + (n * 64 + r), by omega⟩ 0 (by omega) e := by
        funext d
        rw [h0]
        unfold row
        congr 2 <;> exact Fin.ext (by simp only; omega)
      have k2 : stack x1 x2 ⟨lo + κ, by omega⟩ = row X (spot b n κ) 1024 (by omega) e := by
        funext d
        exact stack_rows _ _ _ b g e 8 (by omega) h1 h2 lo hlo h64 n hn κ h d
      rw [k1, k2, h7]
      simp only [h5, h6]
    · rw [if_neg h, if_neg (by omega)]
  refine (congrArg (fun s => Attention.mean s _) (funext hs)).trans ?_
  have hl (κ : Fin 576) (h : 512 ≤ 64 * n.val + κ.val) : Attention.IsReal (line X gq gk B b n r e κ) := by
    unfold line
    rw [if_pos h]
    exact Attention.isReal_score (Attention.isReal_normed (fun d => hx _ _ (by simp only; omega)) hq) (Attention.isReal_normed (fun d => hx _ _ (by simp only; omega)) hk) (hb _)
  refine Attention.mean_congr (fun κ => ?_) ⟨512, by omega⟩ ?_ fun κ hκ => ?_
  · by_cases h : 512 ≤ 64 * n.val + κ.val
    · obtain ⟨a, ha⟩ := hl κ h; rw [ha]; exact EReal.coe_ne_top a
    · unfold line; rw [if_neg h]; exact bot_ne_top
  · obtain ⟨a, ha⟩ := hl ⟨512, by omega⟩ (by simp only; omega); rw [ha]; exact EReal.coe_ne_bot a
  · by_cases h : 512 ≤ 64 * n.val + κ.val
    · rw [if_pos h]
      exact stack_rows _ _ _ b g e 16 (by omega) h3 h4 lo hlo h64 n hn κ h d
    · exact absurd (by unfold line; rw [if_neg h]) hκ

/-- The block that the body leaves at a grid point holds the reference's entries at the block's place, where the scores are
computed from finite numbers. -/
theorem point (c : Dev nD) (t : Fin cfg0.N) (y : S512x128.Idx)
    (hx : ∀ (i : Fin 8192) (j : Fin 3072), j.val < 2048 → Attention.IsReal (m ((c : Thread nD τ).loc main_arg0) (ix2 i j)))
    (hq : ∀ d : Fin 128, Attention.IsReal (m ((c : Thread nD τ).loc main_arg1) (ix1 d)))
    (hk : ∀ d : Fin 128, Attention.IsReal (m ((c : Thread nD τ).loc main_arg2) (ix1 d)))
    (hb : ∀ i, Attention.IsReal (m ((c : Thread nD τ).loc main_arg3) i)) :
    block (t.val % 8) (iblk m c 0 t) (iblk m c 1 t) (iblk m c 2 t) (iblk m c 3 t) (iblk m c 4 t) (iblk m c 5 t) (iblk m c 6 t) (iblk m c 7 t) y
    = Cert.BandReferenceIdeal.Gen.result (m ((c : Thread nD τ).loc main_arg0)) (m ((c : Thread nD τ).loc main_arg1)) (m ((c : Thread nD τ).loc main_arg2)) (m ((c : Thread nD τ).loc main_arg3)) (((cfg0.win 8).blk t).view.emb y) := by
  have ht : t.val < 128 := t.isLt
  have hy0 : (y 0).val < 512 := (y 0).isLt
  have e0 : ((((cfg0.win 8).blk t).view.emb y) 0 : ℕ) = (t.val / 64 * 8 + t.val % 8) * 512 + y 0 := by blk_simp [idx t]
  have e1 : ((((cfg0.win 8).blk t).view.emb y) 1 : ℕ) = t.val / 8 % 8 * 128 + y 1 := by blk_simp [idx t]
  generalize ((cfg0.win 8).blk t).view.emb y = z at e0 e1
  obtain ⟨i, j, rfl⟩ : ∃ (i : Fin 8192) (j : Fin 1024), z = ix2 i j := ⟨z 0, z 1, by funext a; match a with | ⟨0, _⟩ => rfl | ⟨1, _⟩ => rfl⟩
  change i.val = _ at e0
  change j.val = _ at e1
  rw [Cert.BandReferenceIdeal.Gen.result_at _ _ _ _ ⟨t.val / 64, by omega⟩ ⟨t.val % 8 * 8 + (y 0).val / 64, by omega⟩ ⟨(y 0).val % 64, by omega⟩ ⟨t.val / 8 % 8, by omega⟩ (y 1) i j
    (by simp only; omega) (by simp only; omega)]
  exact entry_eq _ _ _ _ _ _ _ _ _ _ _ _ ⟨t.val / 64, by omega⟩ ⟨t.val % 8, by omega⟩ ⟨t.val / 8 % 8, by omega⟩ hx hq hk hb
    (fun p d => (blocks m c t p d ht).1) (fun p d => (blocks m c t p d ht).2.1) (fun p d => (blocks m c t p d ht).2.2.1)
    (fun p d => (blocks m c t p d ht).2.2.2.1) (fun p d => (blocks m c t p d ht).2.2.2.2) (fun d => (gains m c t d).1) (fun d => (gains m c t d).2)
    (fun r κ => bias_block m c t r κ) ((y 0).val / 64 * 64) (by omega) (by omega) _ (by simp only; omega) _ _

/-- The array after the call is the reference's result on the same arguments, where the scores are computed from finite numbers. -/
theorem final (c : Dev nD)
    (hx : ∀ (i : Fin 8192) (j : Fin 3072), j.val < 2048 → Attention.IsReal (m ((c : Thread nD τ).loc main_arg0) (ix2 i j)))
    (hq : ∀ d : Fin 128, Attention.IsReal (m ((c : Thread nD τ).loc main_arg1) (ix1 d)))
    (hk : ∀ d : Fin 128, Attention.IsReal (m ((c : Thread nD τ).loc main_arg2) (ix1 d)))
    (hb : ∀ i, Attention.IsReal (m ((c : Thread nD τ).loc main_arg3) i)) : (dats m 0 c).arrAt 8 (cfgs 0).N
    = Cert.BandReferenceIdeal.Gen.result (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  refine (out_at _ _ _ _ _ _ _ _ _ y).trans ?_
  rw [(idx t).2.2.2.2.2.2.2.2.2]
  exact point m c t y hx hq hk hb

end Cert.BandIdeal.Gen

end
-- ==== Proof.Finite.lean ====
/-
What the precondition of the band attention's value claim says: the numbers from which the scores are computed are finite.
-/
module

public import proofs.«01_k».proof.Pre_finite_scores
public import proofs.«01_k».proof.Proof.Attention
public import Idealize.ShloMosaic.Lib.Pipeline.ValueKit

@[expose] public section

set_option maxRecDepth 16384

noncomputable section

namespace Cert.Pre_finite_scores

open Idealize.ShloMosaic Idealize.ShloMosaic.TcCoe

/-- The shapes' side conditions that the predicate takes. -/
theorem facts : Facts where
  slices_S8192x3072_S8192x2048_0_0 := by decide
  bitsLt_bf16_f32 := by decide
  bcast_S_S8192x2048 := by decide
  bcast_S_S128 := by decide
  bcast_S_S8x257 := by decide

variable [Facts] (X : FVec Ideal S8192x3072 .bf16) (gq gk : FVec Ideal S128 .f32) (B : FVec Ideal S8x257 .f32)

/-- Where the predicate is true, the queries and the keys are real numbers. -/
theorem isReal_rows (h : (fn X gq gk B).1 = fun _ => 1#1) (i : Fin 8192) (j : Fin 3072) (hj : j.val < 2048) : Attention.IsReal (X (ix2 i j)) := by
  refine Attention.IsReal.of_abs (Eq.trans ?_ (congrFun h (ix2 i ⟨j.val, hj⟩)))
  pointwise [fn]
  rfl

/-- Where the predicate is true, the queries' gain is real. -/
theorem isReal_query_gain (h : (fn X gq gk B).2.1 = fun _ => 1#1) (d : Fin 128) : Attention.IsReal (gq (ix1 d)) := by
  refine Attention.IsReal.of_abs (Eq.trans ?_ (congrFun h (ix1 d)))
  pointwise [fn]
  rfl

/-- Where the predicate is true, the keys' gain is real. -/
theorem isReal_key_gain (h : (fn X gq gk B).2.2.1 = fun _ => 1#1) (d : Fin 128) : Attention.IsReal (gk (ix1 d)) := by
  refine Attention.IsReal.of_abs (Eq.trans ?_ (congrFun h (ix1 d)))
  pointwise [fn]
  rfl

/-- Where the predicate is true, the biases are real. -/
theorem isReal_bias (h : (fn X gq gk B).2.2.2 = fun _ => 1#1) (i : S8x257.Idx) : Attention.IsReal (B i) := by
  refine Attention.IsReal.of_abs (Eq.trans ?_ (congrFun h i))
  pointwise [fn]
  rfl

end Cert.Pre_finite_scores

end
-- ==== Proof.Projections.lean ====
/- The input projections: the array that each of these calls leaves is its columns of the one combined
   projection. -/
module

public import proofs.«01_k».proof.Proof.Gen.QkvAIdeal.Frame
public import proofs.«01_k».proof.Proof.Gen.QkvAReferenceIdeal
public import proofs.«01_k».proof.Proof.Gen.ZAIdeal.Frame
public import proofs.«01_k».proof.Proof.Gen.ZAReferenceIdeal
public import proofs.«01_k».proof.Proof.Gen.UvBIdeal.Frame
public import proofs.«01_k».proof.Proof.Gen.UvBReferenceIdeal
public import proofs.«01_k».proof.Proof.Gen.QkvCIdeal.Frame
public import proofs.«01_k».proof.Proof.Gen.QkvCReferenceIdeal
public import proofs.«01_k».proof.Proof.Gen.GateIdeal.Frame
public import proofs.«01_k».proof.Proof.Gen.GateReferenceIdeal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvAReferenceIdeal.Gen

/-- Columns 0 … 3071 of the combined projection: queries, keys and values of the recurrence. -/
abbrev result (h : FVec Ideal S8192x2048 .bf16) (w : FVec Ideal S2048x15376 .f32) : FVec Ideal S8192x3072 .bf16 :=
  truncf .bf16 (extractStridedSlice S8192x3072 ![0, 0]
    (Host.dotGeneral (F := Ideal) (φ₁ := .f32) (φ₂ := .f32) dot_S8192x2048_S2048x15376_S8192x15376_1_0_0_1_n_n none (extf .f32 h bitsLt_bf16_f32) w)
    slices_S8192x15376_S8192x3072_0_0) bitsLt_bf16_f32

end Cert.QkvAReferenceIdeal.Gen

namespace Cert.QkvAIdeal.Gen

variable (m : (ℓ : Loc nD τ sig) → Buf (Elt Ideal) ℓ)

/-- Which blocks the windows take at a grid point. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The block that the body stores at a grid point holds the reference's entries at the block's place. -/
theorem point (c : Dev nD) (t : Fin cfg0.N) (y) : k0_pay1 (iblk m c 0 t) (iblk m c 1 t) y
    = Cert.QkvAReferenceIdeal.Gen.result (m ((c : Thread nD τ).loc main_arg0)) (m ((c : Thread nD τ).loc main_arg1)) (((cfg0.win 2).blk t).view.emb y) := by
  pointwise [k0_pay1, Cert.QkvAReferenceIdeal.Gen.result]
  blk_point [iblk, V, idx t]

/-- The array after the call is the reference's result on the same arguments. -/
theorem final (c : Dev nD) : (dats m 0 c).arrAt 2 (cfgs 0).N
    = Cert.QkvAReferenceIdeal.Gen.result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.QkvAIdeal.Gen

namespace Cert.ZAReferenceIdeal.Gen

/-- Columns 3072 … 4095 of the combined projection: the gate of the recurrence's output. -/
abbrev result (h : FVec Ideal S8192x2048 .bf16) (w : FVec Ideal S2048x15376 .f32) : FVec Ideal S8192x1024 .bf16 :=
  truncf .bf16 (extractStridedSlice S8192x1024 ![0, 3072]
    (Host.dotGeneral (F := Ideal) (φ₁ := .f32) (φ₂ := .f32) dot_S8192x2048_S2048x15376_S8192x15376_1_0_0_1_n_n none (extf .f32 h bitsLt_bf16_f32) w)
    slices_S8192x15376_S8192x1024_0_3072) bitsLt_bf16_f32

end Cert.ZAReferenceIdeal.Gen

namespace Cert.ZAIdeal.Gen

variable (m : (ℓ : Loc nD τ sig) → Buf (Elt Ideal) ℓ)

/-- Which blocks the windows take at a grid point. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The block that the body stores at a grid point holds the reference's entries at the block's place. -/
theorem point (c : Dev nD) (t : Fin cfg0.N) (y) : k0_pay1 (iblk m c 0 t) (iblk m c 1 t) y
    = Cert.ZAReferenceIdeal.Gen.result (m ((c : Thread nD τ).loc main_arg0)) (m ((c : Thread nD τ).loc main_arg1)) (((cfg0.win 2).blk t).view.emb y) := by
  pointwise [k0_pay1, Cert.ZAReferenceIdeal.Gen.result]
  blk_point [iblk, V, idx t]

/-- The array after the call is the reference's result on the same arguments. -/
theorem final (c : Dev nD) : (dats m 0 c).arrAt 2 (cfgs 0).N
    = Cert.ZAReferenceIdeal.Gen.result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ZAIdeal.Gen

namespace Cert.UvBReferenceIdeal.Gen

/-- Columns 4112 … 6159 of the combined projection: both halves of the spatial gating. -/
abbrev result (h : FVec Ideal S8192x2048 .bf16) (w : FVec Ideal S2048x15376 .f32) : FVec Ideal S8192x2048 .bf16 :=
  truncf .bf16 (extractStridedSlice S8192x2048 ![0, 4112]
    (Host.dotGeneral (F := Ideal) (φ₁ := .f32) (φ₂ := .f32) dot_S8192x2048_S2048x15376_S8192x15376_1_0_0_1_n_n none (extf .f32 h bitsLt_bf16_f32) w)
    slices_S8192x15376_S8192x2048_0_4112) bitsLt_bf16_f32

end Cert.UvBReferenceIdeal.Gen

namespace Cert.UvBIdeal.Gen

variable (m : (ℓ : Loc nD τ sig) → Buf (Elt Ideal) ℓ)

/-- Which blocks the windows take at a grid point. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The block that the body stores at a grid point holds the reference's entries at the block's place. -/
theorem point (c : Dev nD) (t : Fin cfg0.N) (y) : k0_pay1 (iblk m c 0 t) (iblk m c 1 t) y
    = Cert.UvBReferenceIdeal.Gen.result (m ((c : Thread nD τ).loc main_arg0)) (m ((c : Thread nD τ).loc main_arg1)) (((cfg0.win 2).blk t).view.emb y) := by
  pointwise [k0_pay1, Cert.UvBReferenceIdeal.Gen.result]
  blk_point [iblk, V, idx t]

/-- The array after the call is the reference's result on the same arguments. -/
theorem final (c : Dev nD) : (dats m 0 c).arrAt 2 (cfgs 0).N
    = Cert.UvBReferenceIdeal.Gen.result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UvBIdeal.Gen

namespace Cert.QkvCReferenceIdeal.Gen

/-- Columns 6160 … 9231 of the combined projection: queries, keys and values of the attention. -/
abbrev result (h : FVec Ideal S8192x2048 .bf16) (w : FVec Ideal S2048x15376 .f32) : FVec Ideal S8192x3072 .bf16 :=
  truncf .bf16 (extractStridedSlice S8192x3072 ![0, 6160]
    (Host.dotGeneral (F := Ideal) (φ₁ := .f32) (φ₂ := .f32) dot_S8192x2048_S2048x15376_S8192x15376_1_0_0_1_n_n none (extf .f32 h bitsLt_bf16_f32) w)
    slices_S8192x15376_S8192x3072_0_6160) bitsLt_bf16_f32

end Cert.QkvCReferenceIdeal.Gen

namespace Cert.QkvCIdeal.Gen

variable (m : (ℓ : Loc nD τ sig) → Buf (Elt Ideal) ℓ)

/-- Which blocks the windows take at a grid point. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The block that the body stores at a grid point holds the reference's entries at the block's place. -/
theorem point (c : Dev nD) (t : Fin cfg0.N) (y) : k0_pay1 (iblk m c 0 t) (iblk m c 1 t) y
    = Cert.QkvCReferenceIdeal.Gen.result (m ((c : Thread nD τ).loc main_arg0)) (m ((c : Thread nD τ).loc main_arg1)) (((cfg0.win 2).blk t).view.emb y) := by
  pointwise [k0_pay1, Cert.QkvCReferenceIdeal.Gen.result]
  blk_point [iblk, V, idx t]

/-- The array after the call is the reference's result on the same arguments. -/
theorem final (c : Dev nD) : (dats m 0 c).arrAt 2 (cfgs 0).N
    = Cert.QkvCReferenceIdeal.Gen.result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.QkvCIdeal.Gen

namespace Cert.GateReferenceIdeal.Gen

/-- Columns 9232 … 15375 of the combined projection: the gates of the three branches. -/
abbrev result (h : FVec Ideal S8192x2048 .bf16) (w : FVec Ideal S2048x15376 .f32) : FVec Ideal S8192x6144 .bf16 :=
  truncf .bf16 (extractStridedSlice S8192x6144 ![0, 9232]
    (Host.dotGeneral (F := Ideal) (φ₁ := .f32) (φ₂ := .f32) dot_S8192x2048_S2048x15376_S8192x15376_1_0_0_1_n_n none (extf .f32 h bitsLt_bf16_f32) w)
    slices_S8192x15376_S8192x6144_0_9232) bitsLt_bf16_f32

end Cert.GateReferenceIdeal.Gen

namespace Cert.GateIdeal.Gen

variable (m : (ℓ : Loc nD τ sig) → Buf (Elt Ideal) ℓ)

/-- Which blocks the windows take at a grid point. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The block that the body stores at a grid point holds the reference's entries at the block's place. -/
theorem point (c : Dev nD) (t : Fin cfg0.N) (y) : k0_pay1 (iblk m c 0 t) (iblk m c 1 t) y
    = Cert.GateReferenceIdeal.Gen.result (m ((c : Thread nD τ).loc main_arg0)) (m ((c : Thread nD τ).loc main_arg1)) (((cfg0.win 2).blk t).view.emb y) := by
  pointwise [k0_pay1, Cert.GateReferenceIdeal.Gen.result]
  blk_point [iblk, V, idx t]

/-- The array after the call is the reference's result on the same arguments. -/
theorem final (c : Dev nD) : (dats m 0 c).arrAt 2 (cfgs 0).N
    = Cert.GateReferenceIdeal.Gen.result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GateIdeal.Gen

end
-- ==== Proof.Dense.lean ====
/- The two square products: the query projection of the expert selection and the output projection with
   its residual. -/
module

public import proofs.«01_k».proof.Proof.Gen.PeerQueryIdeal.Frame
public import proofs.«01_k».proof.Proof.Gen.PeerQueryReferenceIdeal
public import proofs.«01_k».proof.Proof.Gen.OutProjIdeal.Frame
public import proofs.«01_k».proof.Proof.Gen.OutProjReferenceIdeal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PeerQueryReferenceIdeal.Gen

/-- The normed rows times the query weights. -/
abbrev result (h : FVec Ideal S8192x2048 .bf16) (w : FVec Ideal S2048x2048 .f32) : FVec Ideal S8192x2048 .f32 :=
  Host.dotGeneral (F := Ideal) (φ₁ := .f32) (φ₂ := .f32) dot_S8192x2048_S2048x2048_S8192x2048_1_0_0_1_n_n none (extf .f32 h bitsLt_bf16_f32) w

end Cert.PeerQueryReferenceIdeal.Gen

namespace Cert.PeerQueryIdeal.Gen

variable (m : (ℓ : Loc nD τ sig) → Buf (Elt Ideal) ℓ)

/-- Which blocks the windows take at a grid point. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The block that the body stores at a grid point holds the reference's entries at the block's place. -/
theorem point (c : Dev nD) (t : Fin cfg0.N) (y) : k0_pay1 (iblk m c 0 t) (iblk m c 1 t) y
    = Cert.PeerQueryReferenceIdeal.Gen.result (m ((c : Thread nD τ).loc main_arg0)) (m ((c : Thread nD τ).loc main_arg1)) (((cfg0.win 2).blk t).view.emb y) := by
  pointwise [k0_pay1, Cert.PeerQueryReferenceIdeal.Gen.result]
  blk_point [iblk, V, idx t]

/-- The array after the call is the reference's result on the same arguments. -/
theorem final (c : Dev nD) : (dats m 0 c).arrAt 2 (cfgs 0).N
    = Cert.PeerQueryReferenceIdeal.Gen.result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.PeerQueryIdeal.Gen

namespace Cert.OutProjReferenceIdeal.Gen

/-- The residual plus the merged rows times the output weights. -/
abbrev result (h : FVec Ideal S8192x2048 .bf16) (w : FVec Ideal S2048x2048 .f32) (x : FVec Ideal S8192x2048 .f32) : FVec Ideal S8192x2048 .f32 :=
  addf x (Host.dotGeneral (F := Ideal) (φ₁ := .f32) (φ₂ := .f32) dot_S8192x2048_S2048x2048_S8192x2048_1_0_0_1_n_n none (extf .f32 h bitsLt_bf16_f32) w)

end Cert.OutProjReferenceIdeal.Gen

namespace Cert.OutProjIdeal.Gen

variable (m : (ℓ : Loc nD τ sig) → Buf (Elt Ideal) ℓ)

/-- Which blocks the windows take at a grid point. -/
theorem idx : ∀ t : Fin cfg0.N, win0_0.index t = ![t.val % 8, 0] ∧ win0_1.index t = ![0, t.val / 8]
    ∧ win0_3.index t = ![t.val % 8, t.val / 8]
    ∧ win0_2.index t = ![t.val % 8, t.val / 8] :=
  (by decide +kernel : ∀ t : Fin grid0.N, _)

/-- The block that the body stores at a grid point holds the reference's entries at the block's place. -/
theorem point (c : Dev nD) (t : Fin cfg0.N) (y) : k0_pay1 (iblk m c 2 t) (iblk m c 0 t) (iblk m c 1 t) y
    = Cert.OutProjReferenceIdeal.Gen.result (m ((c : Thread nD τ).loc main_arg0)) (m ((c : Thread nD τ).loc main_arg1)) (m ((c : Thread nD τ).loc main_arg2)) (((cfg0.win 3).blk t).view.emb y) := by
  pointwise [k0_pay1, Cert.OutProjReferenceIdeal.Gen.result]
  blk_point [iblk, V, idx t]

/-- The array after the call is the reference's result on the same arguments. -/
theorem final (c : Dev nD) : (dats m 0 c).arrAt 3 (cfgs 0).N
    = Cert.OutProjReferenceIdeal.Gen.result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutProjIdeal.Gen

end
-- ==== Proof.Merge.lean ====
/- The merge of the three branches: each branch's projection weighed by the sigmoid of its gate, and their sum. -/
module

public import proofs.«01_k».proof.Proof.Gen.MergeIdeal.Frame
public import proofs.«01_k».proof.Proof.Gen.MergeReferenceIdeal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeReferenceIdeal.Gen

/-- The sigmoid of the gates, entry by entry. -/
abbrev sigmoids (g : FVec Ideal S8192x6144 .bf16) : FVec Ideal S8192x6144 .f32 :=
  (Host.divf (broadcastInDim S8192x6144 ![] bcast_S_S8192x6144 (constant S_ .f32 0x3F800000#32)) (addf (broadcastInDim S8192x6144 ![] bcast_S_S8192x6144 (constant S_ .f32 0x3F800000#32)) (Host.exp (Host.negf (extf .f32 g bitsLt_bf16_f32)))))

/-- The sum of the three gated projections, cast to bf16. -/
abbrev result (ya yb yc : FVec Ideal S8192x1024 .bf16) (g : FVec Ideal S8192x6144 .bf16) (pa pb pc : FVec Ideal S1024x2048 .f32) : FVec Ideal S8192x2048 .bf16 :=
  truncf .bf16 (addf (addf
    (mulf (shapeCast S8192x2048 (extractStridedSlice S8192x1x2048 ![0, 0, 0] (shapeCast S8192x3x2048 (sigmoids g) shapeCasts_S8192x6144_S8192x3x2048) slices_S8192x3x2048_S8192x1x2048_0_0_0) shapeCasts_S8192x1x2048_S8192x2048)
      (Host.dotGeneral (F := Ideal) (φ₁ := .f32) (φ₂ := .f32) dot_S8192x1024_S1024x2048_S8192x2048_1_0_0_1_n_n none (extf .f32 ya bitsLt_bf16_f32) pa))
    (mulf (shapeCast S8192x2048 (extractStridedSlice S8192x1x2048 ![0, 1, 0] (shapeCast S8192x3x2048 (sigmoids g) shapeCasts_S8192x6144_S8192x3x2048) slices_S8192x3x2048_S8192x1x2048_0_1_0) shapeCasts_S8192x1x2048_S8192x2048)
      (Host.dotGeneral (F := Ideal) (φ₁ := .f32) (φ₂ := .f32) dot_S8192x1024_S1024x2048_S8192x2048_1_0_0_1_n_n none (extf .f32 yb bitsLt_bf16_f32) pb)))
    (mulf (shapeCast S8192x2048 (extractStridedSlice S8192x1x2048 ![0, 2, 0] (shapeCast S8192x3x2048 (sigmoids g) shapeCasts_S8192x6144_S8192x3x2048) slices_S8192x3x2048_S8192x1x2048_0_2_0) shapeCasts_S8192x1x2048_S8192x2048)
      (Host.dotGeneral (F := Ideal) (φ₁ := .f32) (φ₂ := .f32) dot_S8192x1024_S1024x2048_S8192x2048_1_0_0_1_n_n none (extf .f32 yc bitsLt_bf16_f32) pc))) bitsLt_bf16_f32

end Cert.MergeReferenceIdeal.Gen

namespace Cert.MergeIdeal.Gen

variable (m : (ℓ : Loc nD τ sig) → Buf (Elt Ideal) ℓ)

/-- Which blocks the windows take at a grid point. -/
theorem idx : ∀ t : Fin cfg0.N, win0_0.index t = ![t.val % 8, 0] ∧ win0_1.index t = ![t.val % 8, 0] ∧ win0_2.index t = ![t.val % 8, 0] ∧ win0_3.index t = ![0, t.val / 8] ∧ win0_4.index t = ![0, t.val / 8] ∧ win0_5.index t = ![0, t.val / 8] ∧ win0_6.index t = ![t.val % 8, 0 + t.val / 8] ∧ win0_7.index t = ![t.val % 8, 4 + t.val / 8] ∧ win0_8.index t = ![t.val % 8, 8 + t.val / 8] ∧ win0_9.index t = ![t.val % 8, t.val / 8] :=
  (by decide +kernel : ∀ t : Fin grid0.N, _)

/-- The block that the body stores at a grid point holds the reference's entries at the block's place. -/
theorem point (c : Dev nD) (t : Fin cfg0.N) (y) : k0_pay1 (iblk m c 6 t) (iblk m c 0 t) (iblk m c 3 t) (iblk m c 7 t) (iblk m c 1 t) (iblk m c 4 t) (iblk m c 8 t) (iblk m c 2 t) (iblk m c 5 t) y
    = Cert.MergeReferenceIdeal.Gen.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  pointwise [k0_pay1, Cert.MergeReferenceIdeal.Gen.result, Cert.MergeReferenceIdeal.Gen.sigmoids, Ideal.logistic]
  blk_point [iblk, V, idx t]

/-- The array after the call is the reference's result on the same arguments. -/
theorem final (c : Dev nD) : (dats m 0 c).arrAt 9 (cfgs 0).N
    = Cert.MergeReferenceIdeal.Gen.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  exact point m c t y

end Cert.MergeIdeal.Gen

end
-- ==== Proof.Norm.lean ====
/- The RMS norm over the model width. -/
module

public import proofs.«01_k».proof.Proof.Gen.NormIdeal.Frame
public import proofs.«01_k».proof.Proof.Gen.NormReferenceIdeal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormReferenceIdeal.Gen

/-- Each row divided by its root mean square and multiplied by the gains. -/
abbrev result (x : FVec Ideal S8192x2048 .f32) (g : FVec Ideal S2048 .f32) : FVec Ideal S8192x2048 .bf16 :=
  truncf .bf16 (mulf (mulf x (broadcastInDim S8192x2048 ![0, 1] bcast_S8192x1_S8192x2048_0_1 (Host.rsqrt (addf (Host.divf
    (broadcastInDim S8192x1 ![0] bcast_S8192_S8192x1_0 (Host.reduceAdd (mulf x x) (constant S_ .f32 0x00000000#32) reducesTo_S8192x2048_S8192_d1 h_S_))
    (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))) bitsLt_bf16_f32

end Cert.NormReferenceIdeal.Gen

namespace Cert.NormIdeal.Gen

variable (m : (ℓ : Loc nD τ sig) → Buf (Elt Ideal) ℓ)

/-- Which blocks the windows take at a grid point. -/
theorem idx : ∀ t : Fin cfg0.N, win0_0.index t = ![t.val, 0] ∧ win0_1.index t = ![0, 0] ∧ win0_2.index t = ![t.val, 0] :=
  (by decide +kernel : ∀ t : Fin grid0.N, _)

/-- The block that the body stores at a grid point holds the reference's entries at the block's place. -/
theorem point (c : Dev nD) (t : Fin cfg0.N) (y) : k0_pay1 (iblk m c 0 t) (iblk m c 1 t) y
    = Cert.NormReferenceIdeal.Gen.result (m ((c : Thread nD τ).loc main_arg0)) (m ((c : Thread nD τ).loc main_arg1)) (((cfg0.win 2).blk t).view.emb y) := by
  pointwise [k0_pay1, Cert.NormReferenceIdeal.Gen.result]
  blk_point [iblk, V, idx t]

/-- The array after the call is the reference's result on the same arguments. -/
theorem final (c : Dev nD) : (dats m 0 c).arrAt 2 (cfgs 0).N
    = Cert.NormReferenceIdeal.Gen.result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Gen

end
-- ==== Proof.BetaAlpha.lean ====
/- The projections to the write strengths and the decay rates: the eight columns of each, padded by zeros to a lane. -/
module

public import proofs.«01_k».proof.Proof.Gen.BetaAlphaIdeal.Frame
public import proofs.«01_k».proof.Proof.Gen.BetaAlphaReferenceIdeal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.BetaAlphaReferenceIdeal.Gen

/-- The combined projection. -/
abbrev combined (h : FVec Ideal S8192x2048 .bf16) (w : FVec Ideal S2048x15376 .f32) : FVec Ideal S8192x15376 .f32 :=
  Host.dotGeneral (F := Ideal) (φ₁ := .f32) (φ₂ := .f32) dot_S8192x2048_S2048x15376_S8192x15376_1_0_0_1_n_n none (extf .f32 h bitsLt_bf16_f32) w

/-- Columns 4096 … 4103 and 4104 … 4111 of the combined projection, each followed by 120 zeros. -/
abbrev result (h : FVec Ideal S8192x2048 .bf16) (w : FVec Ideal S2048x15376 .f32) : FVec Ideal S8192x256 .f32 :=
  concatenate S8192x256 1 [⟨S8192x8, extractStridedSlice S8192x8 ![0, 4096] (combined h w) slices_S8192x15376_S8192x8_0_4096⟩, ⟨S8192x120, broadcastInDim S8192x120 ![] bcast_S_S8192x120 (constant S_ .f32 0x00000000#32)⟩,
    ⟨S8192x8, extractStridedSlice S8192x8 ![0, 4104] (combined h w) slices_S8192x15376_S8192x8_0_4104⟩, ⟨S8192x120, broadcastInDim S8192x120 ![] bcast_S_S8192x120 (constant S_ .f32 0x00000000#32)⟩] concatenates_S8192x8_S8192x120_S8192x8_S8192x120_S8192x256_d1

end Cert.BetaAlphaReferenceIdeal.Gen

namespace Cert.BetaAlphaIdeal.Gen

variable (m : (ℓ : Loc nD τ sig) → Buf (Elt Ideal) ℓ)

/-- Which blocks the windows take at a grid point. -/
theorem idx : ∀ t : Fin cfg0.N, win0_0.index t = ![t.val, 0] ∧ win0_1.index t = ![0, 0] ∧ win0_2.index t = ![t.val, 0] :=
  (by decide +kernel : ∀ t : Fin grid0.N, _)

/-- Eight columns of the weights, padded by zeros to a lane. -/
abbrev padded (w : FVec Ideal S2048x8 .f32) : FVec Ideal S2048x128 .f32 :=
  pad S2048x128 ![0, 0] ![0, 120] ![0, 0] w (sitofp .f32 (constantI S_ 32 0#32)) pads_S2048x8_S2048x128_000_01200 h_S_

/-- The weights that the call reads, as the host operations before it make them. -/
theorem entry (c : Dev nD) : V m c main_v5 = truncf .bf16 (concatenate S2048x256 1
    [⟨S2048x128, padded (extractStridedSlice S2048x8 ![0, 4096] (m ((c : Thread nD τ).loc main_arg1)) slices_S2048x15376_S2048x8_0_4096)⟩,
     ⟨S2048x128, padded (extractStridedSlice S2048x8 ![0, 4104] (m ((c : Thread nD τ).loc main_arg1)) slices_S2048x15376_S2048x8_0_4104)⟩]
    concatenates_S2048x128_S2048x128_S2048x256_d1) bitsLt_bf16_f32 := by
  simp only [V, hostOps0, hostOps0_1, hostOps0_2, hostOps0_3, hostOps0_4, List.flatten_cons, List.flatten_nil,
    List.append_nil, List.cons_append, List.nil_append, StableHlo.TRef.binary, StableHlo.TRef.unary, StableHlo.TRef.toBuf,
    StableHlo.TRef.ofBuf, cast_eq]
  after_results <;> rfl

/-- The weights that the call reads, entry by entry: the eight columns of the write strengths and of the decay rates,
    each followed by zeros. -/
theorem weights (c : Dev nD) (k : Fin 2048) (l : Fin 256) : (V m c main_v5 : FVec Ideal S2048x256 .bf16) (ix2 k l)
    = if h : (l : ℕ) < 8 then (m ((c : Thread nD τ).loc main_arg1) : FVec Ideal S2048x15376 .f32) (ix2 k ⟨4096 + l, by omega⟩)
      else if h : (l : ℕ) < 128 then (0 : EReal)
      else if h : (l : ℕ) < 136 then (m ((c : Thread nD τ).loc main_arg1) : FVec Ideal S2048x15376 .f32) (ix2 k ⟨4104 + (l - 128), by omega⟩)
      else (0 : EReal) := by
  rw [entry]
  pointwise
  rw [show (FloatOps.sitofp (F := Ideal) .f32 (0#32) : EReal) = 0 by
    show ((((0#32 : BitVec 32).toInt : ℤ) : ℝ) : EReal) = 0; simp]
  blk_point []
  all_goals (exfalso; omega)

/-- The block that the body stores at a grid point holds the reference's entries at the block's place: a zero column of
    the weights gives a zero column of the product. -/
theorem point (c : Dev nD) (t : Fin cfg0.N) (y) : k0_pay1 (iblk m c 0 t) (iblk m c 1 t) y
    = Cert.BetaAlphaReferenceIdeal.Gen.result (m ((c : Thread nD τ).loc main_arg0)) (m ((c : Thread nD τ).loc main_arg1)) (((cfg0.win 2).blk t).view.emb y) := by
  pointwise [k0_pay1, Cert.BetaAlphaReferenceIdeal.Gen.result, Cert.BetaAlphaReferenceIdeal.Gen.combined]
  have hx (k) : iblk m c 0 t (ix2 (y 0) k) = m ((c : Thread nD τ).loc main_arg0) (ix2 ((((cfg0.win 2).blk t).view.emb y) 0) k) := by
    blk_point [iblk, V, idx t]
  have hw (k) := (show iblk m c 1 t (ix2 k (y 1)) = (V m c main_v5 : FVec Ideal S2048x256 .bf16) (ix2 k (y 1)) by
    unfold iblk; blk_ext [idx t]).trans (weights m c _ _)
  have hy : ((((cfg0.win 2).blk t).view.emb y) 1 : ℕ) = y 1 := by blk_simp [idx t]
  have hy' : (((View.whole main_v6).slice ((win0 2).rect t)).emb y 1 : ℕ) = y 1 := hy
  simp only [hx, hw, hy']
  have h120 : ((y 1 : ℕ) - 8 < 120) = ((y 1 : ℕ) < 128) := propext (by omega)
  have h136 : ((y 1 : ℕ) - 128 < 8) = ((y 1 : ℕ) < 136) := propext (by omega)
  have hsub : (y 1 : ℕ) - 8 - 120 = y 1 - 128 := by omega
  simp only [hsub, h120, h136]
  by_cases h8 : (y 1 : ℕ) < 8
  · simp only [dif_pos h8]
  by_cases h128 : (y 1 : ℕ) < 128
  · simp only [dif_neg h8, dif_pos h128, mul_zero, Finset.sum_const_zero]
  by_cases hb : (y 1 : ℕ) < 136
  · simp only [dif_neg h8, dif_neg h128, dif_pos hb]
  · simp only [dif_neg h8, dif_neg h128, dif_neg hb, mul_zero, Finset.sum_const_zero]

/-- The array after the call is the reference's result on the same arguments. -/
theorem final (c : Dev nD) : (dats m 0 c).arrAt 2 (cfgs 0).N
    = Cert.BetaAlphaReferenceIdeal.Gen.result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.BetaAlphaIdeal.Gen

end
-- ==== Proof.Gating.lean ====
/-
The spatial gating unit over the extended reals: the reference's stages, read entry by entry.
-/
module

public import proofs.«01_k».proof.Proof.Gen.GmlpReferenceIdeal.Run
public import Idealize.ShloMosaic.Lib.KernelVsHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Gating

/-- The Gaussian error linear unit by its hyperbolic tangent. -/
def gelu (z : EReal) : EReal :=
  z * (Ideal.ofBits .f32 0x3F000000#32 * (Ideal.ofBits .f32 0x3F800000#32 + Ideal.tanh (Ideal.ofBits .f32 0x3F4C422A#32 * (z + Ideal.ofBits .f32 0x3D372713#32 * (z * z * z)))))

/-- A row divided by its root mean square and multiplied by the gains. -/
def normed (x g : Fin 1024 → EReal) (s : Fin 1024) : EReal :=
  x s * Ideal.rsqrt (Ideal.div (∑ j, x j * x j) (Ideal.ofBits .f32 0x44800000#32) + Ideal.ofBits .f32 0x358637BD#32) * g s

/-- A gated entry: the unit's first half times the mix of the second half's rows up to this one, plus the bias. -/
def entry (u : EReal) (v : Fin 128 → Fin 1024 → EReal) (g : Fin 1024 → EReal) (w : Fin 128 → EReal) (b : EReal) (p : Fin 128) (s : Fin 1024) : EReal :=
  gelu u * (∑ κ, (if κ ≤ p then w κ else 0) * normed (fun j => gelu (v κ j)) g s + b)

/-- A row's number compared with another's as 32-bit words. -/
theorem word_le (p κ : Fin 128) : IntOp.cmpi .sge (BitVec.ofNat 32 p.val) (BitVec.ofNat 32 κ.val) = BitVec.ofBool (decide (κ ≤ p)) := by
  revert p κ
  decide +kernel

end Cert.Gating

namespace Cert.GmlpReferenceIdeal.Gen

/-- A half of the projection's columns. -/
def half (o : ℕ) (h : S8192x2048.Slices ![0, o] S8192x1024) (x : FVec Ideal S8192x2048 .bf16) : FVec Ideal S8192x1024 .f32 :=
  extractStridedSlice S8192x1024 ![0, o] (extf .f32 x bitsLt_bf16_f32) h

/-- The error linear unit of each entry. -/
def unit (x : FVec Ideal S8192x1024 .f32) : FVec Ideal S8192x1024 .f32 :=
  mulf x (mulf (broadcastInDim S8192x1024 ![] bcast_S_S8192x1024 (constant S_ .f32 0x3F000000#32)) (addf (broadcastInDim S8192x1024 ![] bcast_S_S8192x1024 (constant S_ .f32 0x3F800000#32))
    (Host.tanh (mulf (broadcastInDim S8192x1024 ![] bcast_S_S8192x1024 (constant S_ .f32 0x3F4C422A#32)) (addf x (mulf (broadcastInDim S8192x1024 ![] bcast_S_S8192x1024 (constant S_ .f32 0x3D372713#32)) (mulf (mulf x x) x)))))))

/-- Each row divided by its root mean square and multiplied by the gains. -/
def normed (x : FVec Ideal S8192x1024 .f32) (g : FVec Ideal S1024 .f32) : FVec Ideal S8192x1024 .f32 :=
  mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

/-- The lower triangle of each group's weights. -/
def lower (w : FVec Ideal S8x128x128 .f32) : FVec Ideal S8x128x128 .f32 :=
  select (broadcastInDim S8x128x128 ![1, 2] bcast_S128x128_S8x128x128_1_2 (select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1)))) w (broadcastInDim S8x128x128 ![] bcast_S_S8x128x128 (id (constant S_ .f32 0x00000000#32)))

/-- The rows of each block of positions mixed by the weights, plus the bias. -/
def mixed (v : FVec Ideal S8192x1024 .f32) (w : FVec Ideal S8x128x128 .f32) (b : FVec Ideal S8x128 .f32) : FVec Ideal S8192x1024 .f32 :=
  shapeCast _ (addf (transpose S2x32x128x8x128 [1, 2, 4, 0, 3] (Host.dotGeneral dot_S2x32x128x8x128_S8x128x128_S8x2x32x128x128_2_2_014_1_3_0 none (shapeCast _ v shapeCasts_S8192x1024_S2x32x128x8x128) w) transposes_S8x2x32x128x128_S2x32x128x8x128_1_2_4_0_3)
    (broadcastInDim S2x32x128x8x128 ![0, 1, 2, 3, 4] bcast_S1x1x128x8x1_S2x32x128x8x128_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] b transposes_S8x128_S128x8_1_0)))))
    shapeCasts_S2x32x128x8x128_S8192x1024

/-- The reference's function of its arguments. -/
def result (x : FVec Ideal S8192x2048 .bf16) (g : FVec Ideal S1024 .f32) (w : FVec Ideal S8x128x128 .f32) (b : FVec Ideal S8x128 .f32) : FVec Ideal S8192x1024 .bf16 :=
  truncf .bf16 (mulf (unit (half 0 slices_S8192x2048_S8192x1024_0_0 x)) (mixed (normed (unit (half 1024 slices_S8192x2048_S8192x1024_0_1024 x)) g) (lower w) b)) bitsLt_bf16_f32

/-- A half's entry. -/
theorem half_at (o : ℕ) (h : S8192x2048.Slices ![0, o] S8192x1024) (ho : o ≤ 1024) (x : FVec Ideal S8192x2048 .bf16) (i : Fin 8192) (s : Fin 1024) :
    half o h x (ix2 i s) = x (ix2 i ⟨o + s, by omega⟩) := by
  pointwise [half]

/-- The unit read at an entry. -/
theorem unit_at (x : FVec Ideal S8192x1024 .f32) (i : Fin 8192) (s : Fin 1024) : unit x (ix2 i s) = Gating.gelu (x (ix2 i s)) := by
  pointwise [unit, Gating.gelu]

/-- The normed rows read at an entry. -/
theorem normed_at (x : FVec Ideal S8192x1024 .f32) (g : FVec Ideal S1024 .f32) (i : Fin 8192) (s : Fin 1024) :
    normed x g (ix2 i s) = Gating.normed (fun s => x (ix2 i s)) (fun s => g (ix1 s)) s := by
  pointwise [normed, Gating.normed]

/-- The lower triangle read at an entry. -/
theorem lower_at (w : FVec Ideal S8x128x128 .f32) (e : Fin 8) (p κ : Fin 128) : lower w (ix3 e p κ) = if κ ≤ p then w (ix3 e p κ) else 0 := by
  have hz : (id (constant S_ .f32 0x00000000#32) : FVec Ideal S_ .f32) ix0 = 0 := by pointwise [id]
  have ha : IntOp.addi (BitVec.ofNat 32 p.val) 0#32 = BitVec.ofNat 32 p.val := BitVec.add_zero _
  pointwise [lower]
  rw [ha, hz, Gating.word_le]
  by_cases h : κ ≤ p <;> simp only [h, decide_true, decide_false, if_true, if_false] <;> rfl

/-- The mixed rows read at an entry. -/
theorem mixed_at (v : FVec Ideal S8192x1024 .f32) (w : FVec Ideal S8x128x128 .f32) (b : FVec Ideal S8x128 .f32) (n : Fin 64) (p : Fin 128) (e : Fin 8) (d : Fin 128) :
    mixed v w b (ix2 ⟨n * 128 + p, by omega⟩ ⟨e * 128 + d, by omega⟩) = ∑ κ : Fin 128, w (ix3 e p κ) * v (ix2 ⟨n * 128 + κ, by omega⟩ ⟨e * 128 + d, by omega⟩) + b (ix2 e p) := by
  pointwise [mixed]
  refine congrArg (· + _) (Finset.sum_congr rfl fun κ _ => (mul_comm _ _).trans (congrArg _ (congrArg (fun i => v (ix2 i _)) (Fin.ext ?_))))
  show (n.val * 128 + p.val) / 4096 * 4096 + (n.val * 128 + p.val) / 128 % 32 * 128 + κ.val = n.val * 128 + κ.val
  omega

/-- The reference's result read at an entry. -/
theorem result_at (x : FVec Ideal S8192x2048 .bf16) (g : FVec Ideal S1024 .f32) (w : FVec Ideal S8x128x128 .f32) (b : FVec Ideal S8x128 .f32) (n : Fin 64) (p : Fin 128) (e : Fin 8)
    (i : Fin 8192) (j : Fin 1024) (hi : i.val = n * 128 + p) (hj : j.val / 128 = e) :
    result x g w b (ix2 i j) = Gating.entry (x (ix2 i ⟨j, by omega⟩)) (fun κ s => x (ix2 ⟨n * 128 + κ, by omega⟩ ⟨1024 + s, by omega⟩)) (fun s => g (ix1 s)) (fun κ => w (ix3 e p κ)) (b (ix2 e p)) p j := by
  obtain ⟨d, hd⟩ : ∃ d : Fin 128, j.val = e * 128 + d := ⟨⟨j.val % 128, by omega⟩, by show j.val = e * 128 + j.val % 128; omega⟩
  obtain rfl : i = ⟨n * 128 + p, by clear hi hj hd; omega⟩ := Fin.ext hi
  obtain rfl : j = ⟨e * 128 + d, by clear hi hj hd; omega⟩ := Fin.ext hd
  unfold result
  show unit _ _ * mixed _ _ _ _ = _
  rw [mixed_at]
  simp only [unit_at, half_at 0 _ (by decide), half_at 1024 _ (by decide), normed_at, lower_at, Nat.zero_add]
  rfl

variable (m : (ℓ : Loc nD τ sig) → Buf (Elt Ideal) ℓ)

/-- The reference's result is this function of its arguments. -/
theorem result_eq (c : Dev nD) : Value.res_main_v55 (F := Ideal) m c
    = result (m ((c : Thread nD τ).loc main_arg0)) (m ((c : Thread nD τ).loc main_arg1)) (m ((c : Thread nD τ).loc main_arg2)) (m ((c : Thread nD τ).loc main_arg3)) := by
  unfold Value.res_main_v55; rfl

end Cert.GmlpReferenceIdeal.Gen
end
-- ==== Proof.Gmlp.lean ====
/- The spatial gating unit: each block of the kernel's output holds the reference's entries. -/
module

public import proofs.«01_k».proof.Proof.Gen.GmlpIdeal.Frame
public import proofs.«01_k».proof.Proof.Gen.GmlpReferenceIdeal
public import proofs.«01_k».proof.Proof.Gating
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GmlpIdeal.Gen

/-- What the body stores for a group of channels and a block of positions. -/
def piece (col : ℕ) (hs : S128x1024.Slices ![0, col] S128x128) (u v : Vec Ideal S128x1024 .bf16) (g : Vec Ideal S1x1024 .f32) (w : Vec Ideal S1x128x128 .f32) (b : Vec Ideal S128x128 .f32) : FVec Ideal S128x128 .bf16 :=
  truncf .bf16 (mulf (extractStridedSlice S128x128 ![0, col] (k0_pay3 u) hs)
    (addf (matmul dot_S128x128_S128x128_S128x128_1_0_0_1_n_n none
        (truncf .bf16 (select k0_pay1 (shapeCast S128x128 w shapeCasts_S1x128x128_S128x128) (broadcast S128x128 (Scalar.ofBits .f32 0x00000000#32))) bitsLt_bf16_f32)
        (extractStridedSlice S128x128 ![0, col] (k0_pay6 (k0_pay2 g) (k0_pay4 v) (k0_pay5 v)) hs) (constant S128x128 .f32 0x00000000#32))
      (shapeCast S128x128 b shapeCasts_S128x128_S128x128))) bitsLt_bf16_f32

/-- The first half's unit read at an entry. -/
theorem unit_at (u : Vec Ideal S128x1024 .bf16) (p : Fin 128) (s : Fin 1024) : k0_pay3 (F := Ideal) u (ix2 p s) = Gating.gelu (u (ix2 p s)) := by
  pointwise [k0_pay3, Gating.gelu]
  rw [mul_comm (u (ix2 p s)) (u (ix2 p s) * u (ix2 p s))]

/-- The second half's normed unit read at an entry. -/
theorem normed_at (v : Vec Ideal S128x1024 .bf16) (g : Vec Ideal S1x1024 .f32) (p : Fin 128) (s : Fin 1024) :
    k0_pay6 (F := Ideal) (k0_pay2 g) (k0_pay4 v) (k0_pay5 v) (ix2 p s) = Gating.normed (fun j => Gating.gelu (v (ix2 p j))) (fun j => g (ix2 0 j)) s := by
  have h (j : Fin 1024) : k0_pay4 (F := Ideal) v (ix2 p j) = Gating.gelu (v (ix2 p j)) := unit_at v p j
  pointwise [k0_pay6, k0_pay2, k0_pay5, Gating.normed, h]

/-- A piece read at an entry. -/
theorem piece_read (col : ℕ) (hc : col ≤ 896) (hs : S128x1024.Slices ![0, col] S128x128) (u v : Vec Ideal S128x1024 .bf16) (g : Vec Ideal S1x1024 .f32) (w : Vec Ideal S1x128x128 .f32)
    (b : Vec Ideal S128x128 .f32) (p s : Fin 128) :
    piece col hs u v g w b (ix2 p s) = Gating.entry (u (ix2 p ⟨col + s, by omega⟩)) (fun κ j => v (ix2 κ j)) (fun j => g (ix2 0 j)) (fun κ => w (ix3 0 p κ)) (b (ix2 p s)) p ⟨col + s, by omega⟩ := by
  have ht (κ : Fin 128) (a z : EReal) : Scalar.select (k0_pay1 (ix2 p κ)) a z = if κ ≤ p then a else z := by
    pointwise [k0_pay1]
    rw [Gating.word_le]
    by_cases h : κ ≤ p <;> simp only [h, decide_true, decide_false, if_true, if_false] <;> rfl
  pointwise [piece, Gating.entry, unit_at, normed_at, ht]

/-- The rows of a block from one of its rows on. -/
theorem rows_at (x : Vec Ideal S512x1024 .bf16) (row : ℕ) (hr : row ≤ 384) (h : ∀ a, (![row, 0] : Fin 2 → ℕ) a + S128x1024.size a ≤ S512x1024.size a) (p : Fin 128) (s : Fin 1024) :
    View.ld x (Rect.unit (s := S512x1024) ![row, 0] S128x1024.size h) (ix2 p s) = x (ix2 ⟨row + p, by omega⟩ s) := by
  pointwise []

/-- A group's weights. -/
theorem weights_at (x : Vec Ideal S8x128x128 .f32) (e : ℕ) (he : e < 8) (h : ∀ a, (![e, 0, 0] : Fin 3 → ℕ) a + S1x128x128.size a ≤ S8x128x128.size a) (p κ : Fin 128) :
    View.ld x (Rect.unit (s := S8x128x128) ![e, 0, 0] S1x128x128.size h) (ix3 0 p κ) = x (ix3 ⟨e, he⟩ p κ) := by
  pointwise []

/-- A group's columns of the bias. -/
theorem columns_at (x : Vec Ideal S128x1024 .f32) (col : ℕ) (hc : col ≤ 896) (h : ∀ a, (![0, col] : Fin 2 → ℕ) a + S128x128.size a ≤ S128x1024.size a) (p s : Fin 128) :
    View.ld x (Rect.unit (s := S128x1024) ![0, col] S128x128.size h) (ix2 p s) = x (ix2 p ⟨col + s, by omega⟩) := by
  pointwise []

/-- The output block from the blocks' rows, entry by entry. -/
def block (x0 x1 : Vec Ideal S512x1024 .bf16) (x2 : Vec Ideal S1x1024 .f32) (x3 : Vec Ideal S8x128x128 .f32) (x4 : Vec Ideal S128x1024 .f32) (r : Fin 512) (j : Fin 1024) : EReal :=
  Gating.entry (x0 (ix2 r j)) (fun κ s => x1 (ix2 ⟨r.val / 128 * 128 + κ, by omega⟩ s)) (fun s => x2 (ix2 0 s)) (fun κ => x3 (ix3 ⟨j.val / 128, by omega⟩ ⟨r.val % 128, by omega⟩ κ))
    (x4 (ix2 ⟨r.val % 128, by omega⟩ j)) ⟨r.val % 128, by omega⟩ j

/-- A piece's entries, at their place in the block. -/
theorem piece_at (row col e : ℕ) (hs : S128x1024.Slices ![0, col] S128x128) (x0 x1 : Vec Ideal S512x1024 .bf16) (x2 : Vec Ideal S1x1024 .f32) (x3 : Vec Ideal S8x128x128 .f32) (x4 : Vec Ideal S128x1024 .f32)
    (hr : ∀ a, (![row, 0] : Fin 2 → ℕ) a + S128x1024.size a ≤ S512x1024.size a) (hw : ∀ a, (![e, 0, 0] : Fin 3 → ℕ) a + S1x128x128.size a ≤ S8x128x128.size a)
    (hb : ∀ a, (![0, col] : Fin 2 → ℕ) a + S128x128.size a ≤ S128x1024.size a) (x : S128x128.Idx) (y : S512x1024.Idx) (hrow : row % 128 = 0 ∧ row ≤ 384) (hcol : col = e * 128 ∧ e < 8)
    (h0 : (y 0).val = row + (x 0).val) (h1 : (y 1).val = col + (x 1).val) :
    piece col hs (View.ld x0 (Rect.unit (s := S512x1024) ![row, 0] S128x1024.size hr)) (View.ld x1 (Rect.unit (s := S512x1024) ![row, 0] S128x1024.size hr)) x2
        (View.ld x3 (Rect.unit (s := S8x128x128) ![e, 0, 0] S1x128x128.size hw)) (View.ld x4 (Rect.unit (s := S128x1024) ![0, col] S128x128.size hb)) x
      = block x0 x1 x2 x3 x4 (y 0) (y 1) := by
  obtain ⟨p, s, rfl⟩ : ∃ (p s : Fin 128), x = ix2 p s := ⟨x 0, x 1, by funext a; match a with | ⟨0, _⟩ => rfl | ⟨1, _⟩ => rfl⟩
  change (y 0).val = row + p.val at h0
  change (y 1).val = col + s.val at h1
  rw [piece_read col (by omega)]
  rw [rows_at x0 row hrow.2 hr, columns_at x4 col (by omega) hb, show (fun (κ : Fin 128) (j : Fin 1024) => View.ld x1 (Rect.unit (s := S512x1024) ![row, 0] S128x1024.size hr) (ix2 κ j))
      = fun (κ : Fin 128) (j : Fin 1024) => x1 (ix2 ⟨row + κ, by omega⟩ j) from funext₂ fun κ j => rows_at x1 row hrow.2 hr κ j,
    show (fun κ : Fin 128 => View.ld x3 (Rect.unit (s := S8x128x128) ![e, 0, 0] S1x128x128.size hw) (ix3 0 p κ)) = fun κ => x3 (ix3 ⟨e, hcol.2⟩ p κ) from funext fun κ => weights_at x3 e hcol.2 hw p κ]
  have e0 : (⟨row + p, by omega⟩ : Fin 512) = y 0 := Fin.ext h0.symm
  have e1 : (⟨col + s, by omega⟩ : Fin 1024) = y 1 := Fin.ext h1.symm
  have e2 : (⟨(y 0).val % 128, by omega⟩ : Fin 128) = p := Fin.ext (by show (y 0).val % 128 = p.val; omega)
  have e3 : (⟨(y 1).val / 128, by have : (y 1).val < 1024 := (y 1).isLt; omega⟩ : Fin 8) = ⟨e, hcol.2⟩ := Fin.ext (by show (y 1).val / 128 = e; omega)
  have e4 : (y 0).val / 128 * 128 = row := by omega
  unfold block
  simp only [e0, e1, e2, e3, e4]

set_option maxHeartbeats 1000000 in
/-- The output block, entry by entry. -/
theorem out_at (x0 x1 : Vec Ideal S512x1024 .bf16) (x2 : Vec Ideal S1x1024 .f32) (x3 : Vec Ideal S8x128x128 .f32) (x4 : Vec Ideal S128x1024 .f32) (y : S512x1024.Idx) :
    out0_5 (F := Ideal) x0 x1 x2 x3 x4 y = block x0 x1 x2 x3 x4 (y 0) (y 1) := by
  unfold_out out0_5
  frame_out
  canon_tiles x h
  all_goals exact piece_at _ _ _ _ x0 x1 x2 x3 x4 _ _ _ x y (by decide) (by decide) (by omega) (by omega)

variable (m : (ℓ : Loc nD τ sig) → Buf (Elt Ideal) ℓ)

/-- Which blocks the windows take at a grid point. -/
theorem idx : ∀ t : Fin cfg0.N, win0_0.index t = ![t.val, 0] ∧ win0_1.index t = ![t.val, 1] ∧ win0_2.index t = ![0, 0] ∧ win0_3.index t = ![0, 0, 0] ∧ win0_4.index t = ![0, 0] ∧ win0_5.index t = ![t.val, 0] :=
  (by decide +kernel : ∀ t : Fin grid0.N, _)

/-- The gain and the bias that the call reads, as rows and columns of the arguments. -/
theorem host (c : Dev nD) : V m c main_v3 = shapeCast S1x1024 (m ((c : Thread nD τ).loc main_arg1)) shapeCasts_S1024_S1x1024
    ∧ V m c main_v2 = shapeCast S128x1024 (broadcastInDim S128x8x128 ![0, 1] bcast_S128x8_S128x8x128_0_1 (transpose S128x8 [1, 0] (m ((c : Thread nD τ).loc main_arg3)) transposes_S8x128_S128x8_1_0)) shapeCasts_S128x8x128_S128x1024 := by
  constructor
  all_goals
    simp only [V, hostOps0, List.flatten_cons, List.flatten_nil, List.append_nil, List.cons_append, List.nil_append]
    after_results <;> rfl

/-- The input blocks, read at an entry. -/
theorem blocks (c : Dev nD) (t : Fin cfg0.N) (r : Fin 512) (s : Fin 1024) (ht : t.val < 16) :
    iblk m c 0 t (ix2 r s) = m ((c : Thread nD τ).loc main_arg0) (ix2 ⟨t.val * 512 + r, by omega⟩ ⟨s, by omega⟩)
    ∧ iblk m c 1 t (ix2 r s) = m ((c : Thread nD τ).loc main_arg0) (ix2 ⟨t.val * 512 + r, by omega⟩ ⟨1024 + s, by omega⟩) := by
  constructor <;> blk_point [iblk, V, idx t]

/-- The weights' block is the argument. -/
theorem weights (c : Dev nD) (t : Fin cfg0.N) (e : Fin 8) (p κ : Fin 128) : iblk m c 3 t (ix3 e p κ) = m ((c : Thread nD τ).loc main_arg2) (ix3 e p κ) := by
  blk_point [iblk, V, idx t]

/-- The gain's block, read at an entry. -/
theorem gain (c : Dev nD) (t : Fin cfg0.N) (s : Fin 1024) : iblk m c 2 t (ix2 0 s) = m ((c : Thread nD τ).loc main_arg1) (ix1 s) := by
  refine Eq.trans (b := (V m c main_v3 : FVec Ideal S1x1024 .f32) (ix2 0 s)) ?_ ?_
  · unfold iblk; blk_ext [idx t]
  · rw [(host m c).1]; pointwise []

/-- The bias' block, read at an entry. -/
theorem bias (c : Dev nD) (t : Fin cfg0.N) (p : Fin 128) (j : Fin 1024) : iblk m c 4 t (ix2 p j) = m ((c : Thread nD τ).loc main_arg3) (ix2 ⟨j.val / 128, by omega⟩ p) := by
  refine Eq.trans (b := (V m c main_v2 : FVec Ideal S128x1024 .f32) (ix2 p j)) ?_ ?_
  · unfold iblk; blk_ext [idx t]
  · rw [(host m c).2]; pointwise []

/-- The block that the body leaves at a grid point, at row `r` and column `j`, is the reference's entry at the row of the whole array. -/
theorem block_at (c : Dev nD) (t : Fin cfg0.N) (r : Fin 512) (j : Fin 1024) (i : Fin 8192) (ht : t.val < 16) (hi : i.val = t.val * 512 + r.val) :
    block (iblk m c 0 t) (iblk m c 1 t) (iblk m c 2 t) (iblk m c 3 t) (iblk m c 4 t) r j
    = Cert.GmlpReferenceIdeal.Gen.result (m ((c : Thread nD τ).loc main_arg0)) (m ((c : Thread nD τ).loc main_arg1)) (m ((c : Thread nD τ).loc main_arg2)) (m ((c : Thread nD τ).loc main_arg3)) (ix2 i j) := by
  rw [Cert.GmlpReferenceIdeal.Gen.result_at _ _ _ _ ⟨t.val * 4 + r.val / 128, by omega⟩ ⟨r.val % 128, by omega⟩ ⟨j.val / 128, by omega⟩ i j
    (by simp only; omega) rfl]
  unfold block
  have k0 : (⟨t.val * 512 + r.val, by omega⟩ : Fin 8192) = i := Fin.ext hi.symm
  have k1 (κ : Fin 128) (s : Fin 1024) : iblk m c 1 t (ix2 ⟨r.val / 128 * 128 + κ, by omega⟩ s) = m ((c : Thread nD τ).loc main_arg0) (ix2 ⟨(t.val * 4 + r.val / 128) * 128 + κ, by omega⟩ ⟨1024 + s, by omega⟩) := by
    rw [(blocks m c t _ s ht).2]
    congr 2
    exact Fin.ext (by simp only; omega)
  rw [(blocks m c t r j ht).1, bias, k0]
  simp only [k1, gain, weights]

/-- The block that the body leaves at a grid point holds the reference's entries at the block's place. -/
theorem point (c : Dev nD) (t : Fin cfg0.N) (y : S512x1024.Idx) : block (iblk m c 0 t) (iblk m c 1 t) (iblk m c 2 t) (iblk m c 3 t) (iblk m c 4 t) (y 0) (y 1)
    = Cert.GmlpReferenceIdeal.Gen.result (m ((c : Thread nD τ).loc main_arg0)) (m ((c : Thread nD τ).loc main_arg1)) (m ((c : Thread nD τ).loc main_arg2)) (m ((c : Thread nD τ).loc main_arg3)) (((cfg0.win 5).blk t).view.emb y) := by
  have e0 : ((((cfg0.win 5).blk t).view.emb y) 0 : ℕ) = t.val * 512 + y 0 := by blk_simp [idx t]
  have e1 : ((((cfg0.win 5).blk t).view.emb y) 1 : ℕ) = y 1 := by blk_simp [idx t]
  generalize ((cfg0.win 5).blk t).view.emb y = z at e0 e1
  obtain ⟨i, j, rfl⟩ : ∃ (i : Fin 8192) (j : Fin 1024), z = ix2 i j := ⟨z 0, z 1, by funext a; match a with | ⟨0, _⟩ => rfl | ⟨1, _⟩ => rfl⟩
  obtain rfl : j = y 1 := Fin.ext e1
  exact block_at m c t (y 0) (y 1) i t.isLt e0

/-- The array after the call is the reference's result on the same arguments. -/
theorem final (c : Dev nD) : (dats m 0 c).arrAt 5 (cfgs 0).N
    = Cert.GmlpReferenceIdeal.Gen.result (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  refine (out_at _ _ _ _ _ y).trans ?_
  exact point m c t y

end Cert.GmlpIdeal.Gen
end
-- ==== Proof.ConvReference.lean ====
/- The convolution ahead of the delta rule: each block of the kernel's output holds the reference's entries. -/
module

public import proofs.«01_k».proof.Proof.Gen.ConvReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Convolution

/-- The entry `d` rows earlier in the same sequence, zero ahead of its start. -/
def tap (x : Fin 8192 → Fin 3072 → EReal) (i : Fin 8192) (j : Fin 3072) (d : ℕ) : EReal :=
  if d ≤ i.val % 4096 then x ⟨i.val - d, by omega⟩ j else 0

/-- The sum of the four taps. -/
def sum (x : Fin 8192 → Fin 3072 → EReal) (w : Fin 4 → Fin 3072 → EReal) (i : Fin 8192) (j : Fin 3072) : EReal :=
  tap x i j 0 * w 3 j + tap x i j 1 * w 2 j + tap x i j 2 * w 1 j + tap x i j 3 * w 0 j

/-- The sum times its logistic. -/
def unit (x : Fin 8192 → Fin 3072 → EReal) (w : Fin 4 → Fin 3072 → EReal) (i : Fin 8192) (j : Fin 3072) : EReal :=
  sum x w i j * Ideal.logistic (sum x w i j)

/-- An entry divided by the length of its head's part of the row. -/
def normed (y : Fin 3072 → EReal) (j : Fin 3072) : EReal :=
  y j * Ideal.rsqrt (∑ κ : Fin 128, y ⟨j.val / 128 * 128 + κ, by omega⟩ * y ⟨j.val / 128 * 128 + κ, by omega⟩ + Ideal.ofBits .f32 0x358637BD#32)

/-- An entry of the result: queries have length one and are scaled, keys have length one, values are as they are. -/
def entry (y : Fin 3072 → EReal) (j : Fin 3072) : EReal :=
  if j.val < 1024 then normed y j * Ideal.ofBits .f32 0x3DB504F3#32 else if j.val < 2048 then normed y j else y j

end Cert.Convolution

namespace Cert.ConvReferenceIdeal.Gen

/-- The rows padded at the front, from row `o` on. -/
def shifted (o : ℕ) (h : S2x4099x3072.Slices ![0, o, 0] S2x4096x3072) (x : FVec Ideal S8192x3072 .bf16) : FVec Ideal S2x4096x3072 .f32 :=
  extractStridedSlice S2x4096x3072 ![0, o, 0] (pad S2x4099x3072 ![0, 3, 0] ![0, 0, 0] ![0, 0, 0] (shapeCast _ (extf .f32 x bitsLt_bf16_f32) shapeCasts_S8192x3072_S2x4096x3072) (sitofp .f32 (constantI S_ 32 0#32)) pads_S2x4096x3072_S2x4099x3072_000_300_000 h_S_) h

/-- A tap's weights at every row. -/
def weights (o : ℕ) (h : S4x3072.Slices ![o, 0] S1x3072) (w : FVec Ideal S4x3072 .f32) : FVec Ideal S2x4096x3072 .f32 :=
  broadcastInDim S2x4096x3072 ![0, 1, 2] bcast_S1x1x3072_S2x4096x3072_0_1_2 (broadcastInDim S1x1x3072 ![2] bcast_S3072_S1x1x3072_2 (shapeCast _ (extractStridedSlice S1x3072 ![o, 0] w h) shapeCasts_S1x3072_S3072))

/-- The sum of the four taps. -/
def taps (x : FVec Ideal S8192x3072 .bf16) (w : FVec Ideal S4x3072 .f32) : FVec Ideal S2x4096x3072 .f32 :=
  addf (addf (addf (mulf (shifted 0 slices_S2x4099x3072_S2x4096x3072_0_0_0 x) (weights 0 slices_S4x3072_S1x3072_0_0 w)) (mulf (shifted 1 slices_S2x4099x3072_S2x4096x3072_0_1_0 x) (weights 1 slices_S4x3072_S1x3072_1_0 w)))
    (mulf (shifted 2 slices_S2x4099x3072_S2x4096x3072_0_2_0 x) (weights 2 slices_S4x3072_S1x3072_2_0 w))) (mulf (shifted 3 slices_S2x4099x3072_S2x4096x3072_0_3_0 x) (weights 3 slices_S4x3072_S1x3072_3_0 w))

/-- The sum times its logistic. -/
def unit (z : FVec Ideal S2x4096x3072 .f32) : FVec Ideal S2x4096x3072 .f32 :=
  mulf z (Host.divf (broadcastInDim S2x4096x3072 ![] bcast_S_S2x4096x3072 (constant S_ .f32 0x3F800000#32)) (addf (broadcastInDim S2x4096x3072 ![] bcast_S_S2x4096x3072 (constant S_ .f32 0x3F800000#32)) (Host.exp (Host.negf z))))

/-- A third of the columns, apart by head. -/
def heads (o : ℕ) (h : S2x4096x3072.Slices ![0, 0, o] S2x4096x1024) (y : FVec Ideal S2x4096x3072 .f32) : FVec Ideal S2x4096x8x128 .f32 :=
  shapeCast _ (extractStridedSlice S2x4096x1024 ![0, 0, o] y h) shapeCasts_S2x4096x1024_S2x4096x8x128

/-- Every head's row divided by its length. -/
def normed (q : FVec Ideal S2x4096x8x128 .f32) : FVec Ideal S2x4096x8x128 .f32 :=
  mulf q (broadcastInDim S2x4096x8x128 ![0, 1, 2, 3] bcast_S2x4096x8x1_S2x4096x8x128_0_1_2_3 (Host.rsqrt (addf (broadcastInDim S2x4096x8x1 ![0, 1, 2] bcast_S2x4096x8_S2x4096x8x1_0_1_2
    (Host.reduceAdd (mulf q q) (constant S_ .f32 0x00000000#32) reducesTo_S2x4096x8x128_S2x4096x8_d3 h_S_)) (broadcastInDim S2x4096x8x1 ![] bcast_S_S2x4096x8x1 (constant S_ .f32 0x358637BD#32)))))

/-- The flat rows of a third. -/
def flat (q : FVec Ideal S2x4096x8x128 .f32) : FVec Ideal S8192x1024 .f32 := shapeCast _ q shapeCasts_S2x4096x8x128_S8192x1024

/-- The reference's function of its arguments. -/
def result (x : FVec Ideal S8192x3072 .bf16) (w : FVec Ideal S4x3072 .f32) : FVec Ideal S8192x3072 .f32 :=
  concatenate S8192x3072 1 [⟨S8192x1024, flat (mulf (normed (heads 0 slices_S2x4096x3072_S2x4096x1024_0_0_0 (unit (taps x w)))) (broadcastInDim S2x4096x8x128 ![] bcast_S_S2x4096x8x128 (constant S_ .f32 0x3DB504F3#32)))⟩,
    ⟨S8192x1024, flat (normed (heads 1024 slices_S2x4096x3072_S2x4096x1024_0_0_1024 (unit (taps x w))))⟩, ⟨S8192x1024, flat (heads 2048 slices_S2x4096x3072_S2x4096x1024_0_0_2048 (unit (taps x w)))⟩]
    concatenates_S8192x1024_S8192x1024_S8192x1024_S8192x3072_d1

/-- The padded rows read at an entry. -/
theorem shifted_at (o : ℕ) (h : S2x4099x3072.Slices ![0, o, 0] S2x4096x3072) (ho : o ≤ 3) (x : FVec Ideal S8192x3072 .bf16) (i : Fin 8192) (j : Fin 3072) :
    shifted o h x (ix3 ⟨i.val / 4096, by omega⟩ ⟨i.val % 4096, by omega⟩ j) = Convolution.tap (fun i j => x (ix2 i j)) i j (3 - o) := by
  pointwise [shifted, Convolution.tap]
  by_cases hd : 3 - o ≤ i.val % 4096
  · rw [dif_pos (by omega), if_pos hd]
    congr 2
    exact Fin.ext (by show i.val / 4096 * 4096 + (o + i.val % 4096 - 3) = i.val - (3 - o); omega)
  · rw [dif_neg (by omega), if_neg hd]
    show ((((0#32 : BitVec 32).toInt : ℤ) : ℝ) : EReal) = 0
    norm_num

/-- A tap's weights read at an entry. -/
theorem weights_at (o : ℕ) (h : S4x3072.Slices ![o, 0] S1x3072) (ho : o < 4) (w : FVec Ideal S4x3072 .f32) (b : Fin 2) (s : Fin 4096) (j : Fin 3072) :
    weights o h w (ix3 b s j) = w (ix2 ⟨o, ho⟩ j) := by
  pointwise [weights]

/-- The unit read at an entry. -/
theorem unit_at (z : FVec Ideal S2x4096x3072 .f32) (b : Fin 2) (s : Fin 4096) (j : Fin 3072) : unit z (ix3 b s j) = z (ix3 b s j) * Ideal.logistic (z (ix3 b s j)) := by
  pointwise [unit, Ideal.logistic]

/-- The sum of the taps, times its logistic, read at an entry. -/
theorem taps_at (x : FVec Ideal S8192x3072 .bf16) (w : FVec Ideal S4x3072 .f32) (i : Fin 8192) (j : Fin 3072) :
    unit (taps x w) (ix3 ⟨i.val / 4096, by omega⟩ ⟨i.val % 4096, by omega⟩ j) = Convolution.unit (fun i j => x (ix2 i j)) (fun a j => w (ix2 a j)) i j := by
  have h : taps x w (ix3 ⟨i.val / 4096, by omega⟩ ⟨i.val % 4096, by omega⟩ j) = Convolution.sum (fun i j => x (ix2 i j)) (fun a j => w (ix2 a j)) i j := by
    show shifted _ _ _ _ * weights _ _ _ _ + shifted _ _ _ _ * weights _ _ _ _ + shifted _ _ _ _ * weights _ _ _ _ + shifted _ _ _ _ * weights _ _ _ _ = _
    rw [shifted_at 0 _ (by decide), shifted_at 1 _ (by decide), shifted_at 2 _ (by decide), shifted_at 3 _ (by decide), weights_at 0 _ (by decide), weights_at 1 _ (by decide),
      weights_at 2 _ (by decide), weights_at 3 _ (by decide)]
    unfold Convolution.sum
    rw [add_comm, add_comm (_ + _) (Convolution.tap _ _ _ 1 * _), add_comm (Convolution.tap _ _ _ 3 * _)]
    simp only [add_assoc]
    rfl
  rw [unit_at, h]; rfl

/-- A third normed and flat, read at an entry. -/
theorem normed_at (o : ℕ) (ho : o % 128 = 0 ∧ o ≤ 2048) (h : S2x4096x3072.Slices ![0, 0, o] S2x4096x1024) (y : FVec Ideal S2x4096x3072 .f32) (i : Fin 8192) (j : Fin 1024) :
    flat (normed (heads o h y)) (ix2 i j) = Convolution.normed (fun j => y (ix3 ⟨i.val / 4096, by omega⟩ ⟨i.val % 4096, by omega⟩ j)) ⟨o + j, by omega⟩ := by
  have e : ∀ κ : Fin 128, o + (j.val / 128 * 128 + κ.val) = (o + j.val) / 128 * 128 + κ.val := fun κ => by omega
  pointwise [flat, normed, heads, Convolution.normed]
  simp only [e]

/-- A third flat, read at an entry. -/
theorem flat_at (o : ℕ) (ho : o ≤ 2048) (h : S2x4096x3072.Slices ![0, 0, o] S2x4096x1024) (y : FVec Ideal S2x4096x3072 .f32) (i : Fin 8192) (j : Fin 1024) :
    flat (heads o h y) (ix2 i j) = y (ix3 ⟨i.val / 4096, by omega⟩ ⟨i.val % 4096, by omega⟩ ⟨o + j, by omega⟩) := by
  pointwise [flat, heads]

/-- A third scaled and flat, read at an entry. -/
theorem scaled_at (q : FVec Ideal S2x4096x8x128 .f32) (i : Fin 8192) (j : Fin 1024) :
    flat (mulf q (broadcastInDim S2x4096x8x128 ![] bcast_S_S2x4096x8x128 (constant S_ .f32 0x3DB504F3#32))) (ix2 i j) = flat q (ix2 i j) * Ideal.ofBits .f32 0x3DB504F3#32 := by
  pointwise [flat]

/-- The three thirds side by side, read at an entry. -/
theorem joined_at (a b d : FVec Ideal S8192x1024 .f32) (i : Fin 8192) (j : Fin 3072) :
    concatenate S8192x3072 1 [⟨S8192x1024, a⟩, ⟨S8192x1024, b⟩, ⟨S8192x1024, d⟩] concatenates_S8192x1024_S8192x1024_S8192x1024_S8192x3072_d1 (ix2 i j)
    = if h : j.val < 1024 then a (ix2 i ⟨j.val, h⟩) else if h : j.val - 1024 < 1024 then b (ix2 i ⟨j.val - 1024, h⟩) else d (ix2 i ⟨j.val - 1024 - 1024, by omega⟩) := by
  pointwise []

/-- The reference's result read at an entry. -/
theorem result_at (x : FVec Ideal S8192x3072 .bf16) (w : FVec Ideal S4x3072 .f32) (i : Fin 8192) (j : Fin 3072) :
    result x w (ix2 i j) = Convolution.entry (Convolution.unit (fun i j => x (ix2 i j)) (fun a j => w (ix2 a j)) i) j := by
  have hc : ∀ j : Fin 3072, unit (taps x w) (ix3 ⟨i.val / 4096, by omega⟩ ⟨i.val % 4096, by omega⟩ j) = Convolution.unit (fun i j => x (ix2 i j)) (fun a j => w (ix2 a j)) i j :=
    fun j => taps_at x w i j
  have e0 : ∀ h : j.val < 1024, (⟨0 + j.val, by omega⟩ : Fin 3072) = j := fun h => Fin.ext (Nat.zero_add _)
  have e1 : ∀ h : ¬ j.val < 1024, ∀ h' : 1024 + (j.val - 1024) < 3072, (⟨1024 + (j.val - 1024), h'⟩ : Fin 3072) = j := fun h h' => Fin.ext (Nat.add_sub_cancel' (Nat.le_of_not_lt h))
  have e2 : ∀ h : ¬ j.val < 2048, ∀ h' : 2048 + (j.val - 1024 - 1024) < 3072, (⟨2048 + (j.val - 1024 - 1024), h'⟩ : Fin 3072) = j :=
    fun h h' => Fin.ext (by show 2048 + (j.val - 1024 - 1024) = j.val; omega)
  unfold result
  rw [joined_at]
  unfold Convolution.entry
  by_cases h1 : j.val < 1024
  · rw [dif_pos h1, if_pos h1]
    rw [scaled_at, normed_at 0 (by decide)]
    simp only [hc, e0 h1]
  · rw [dif_neg h1, if_neg h1]
    by_cases h2 : j.val < 2048
    · rw [dif_pos (by omega), if_pos h2, normed_at 1024 (by decide)]
      simp only [hc, e1 h1]
    · rw [dif_neg (by omega), if_neg h2, flat_at 2048 (by decide)]
      simp only [hc, e2 h2]

variable (m : (ℓ : Loc nD τ sig) → Buf (Elt Ideal) ℓ)

/-- The reference's result is this function of its arguments. -/
theorem result_eq (c : Dev nD) : Value.res_main_v58 (F := Ideal) m c
    = result (m ((c : Thread nD τ).loc main_arg0)) (m ((c : Thread nD τ).loc main_arg1)) := by
  unfold Value.res_main_v58; rfl

end Cert.ConvReferenceIdeal.Gen
end
-- ==== Proof.Conv.lean ====
/- The causal convolution with its unit and norms: each block of the kernel's output holds the reference's entries. -/
module

public import proofs.«01_k».proof.Proof.Gen.ConvIdeal.Frame
public import proofs.«01_k».proof.Proof.ConvReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.Gen

set_option maxHeartbeats 2000000 in
/-- The stored block from the block of the units, read at an entry. -/
theorem normed_at (n : BitVec 32) (y : FVec Ideal S512x512 .f32) (r s : Fin 512) :
    k0_pay1 (F := Ideal) n y (extractStridedSlice S512x128 ![0, 0] y slices_S512x512_o0_0_S512x128)
      (mulf (extractStridedSlice S512x128 ![0, 0] y slices_S512x512_o0_0_S512x128) (extractStridedSlice S512x128 ![0, 0] y slices_S512x512_o0_0_S512x128)) (ix2 r s)
    = Scalar.select (Scalar.cmpi .slt n 4#32) (y (ix2 r s) * Ideal.rsqrt (∑ κ : Fin 128, y (ix2 r ⟨s.val / 128 * 128 + κ, by omega⟩) * y (ix2 r ⟨s.val / 128 * 128 + κ, by omega⟩) + Ideal.ofBits .f32 897988541#32)
      * Scalar.select (Scalar.cmpi .slt n 2#32) (Ideal.ofBits .f32 1035273459#32) 1) (y (ix2 r s)) := by
  pointwise [k0_pay1]
  congr 2
  obtain ⟨s, hs⟩ := s
  have key : ∀ (q : ℕ) (hq : s / 128 = q) (p : Fin 512) (hp : p = ⟨s, hs⟩) (g : Fin 128 → Fin 512) (hg : ∀ κ, (g κ).val = q * 128 + κ.val),
      y (ix2 r p) * Ideal.rsqrt (∑ κ : Fin 128, y (ix2 r (g κ)) * y (ix2 r (g κ)) + Ideal.ofBits .f32 897988541#32)
      = y (ix2 r ⟨s, hs⟩) * Ideal.rsqrt (∑ κ : Fin 128, y (ix2 r ⟨s / 128 * 128 + κ, by omega⟩) * y (ix2 r ⟨s / 128 * 128 + κ, by omega⟩) + Ideal.ofBits .f32 897988541#32) := by
    intro q hq p hp g hg
    subst hp
    have hg' : ∀ κ : Fin 128, g κ = ⟨s / 128 * 128 + κ, by omega⟩ := fun κ => Fin.ext ((hg κ).trans (by show q * 128 + κ.val = s / 128 * 128 + κ.val; omega))
    simp only [hg']
  split_ifs with h1 h2 h3 h4
  · have h : s < 128 := h1
    exact key 0 (by omega) _ rfl (fun κ => ⟨κ.val, by omega⟩) (fun κ => (by show κ.val = 0 * 128 + κ.val; omega))
  all_goals have h1 : ¬ s < 128 := h1
  iterate 2
    have h2 : s - 128 < 128 := h2
    exact key 1 (by omega) _ (Fin.ext (by show 128 + (s - 128) = s; omega)) (fun κ => ⟨128 + κ.val, by omega⟩) (fun κ => (by show 128 + κ.val = 1 * 128 + κ.val; omega))
  all_goals have h2 : ¬ s - 128 < 128 := h2
  iterate 2
    have h2 : s - 128 - 128 < 128 := by assumption
    exact key 2 (by omega) _ (Fin.ext (by show 256 + (s - 128 - 128) = s; omega)) (fun κ => ⟨256 + κ.val, by omega⟩) (fun κ => (by show 256 + κ.val = 2 * 128 + κ.val; omega))
  all_goals
    have h2 : ¬ s - 128 - 128 < 128 := by assumption
    exact key 3 (by omega) _ (Fin.ext (by show 384 + (s - 128 - 128 - 128) = s; omega)) (fun κ => ⟨384 + κ.val, by omega⟩) (fun κ => (by show 384 + κ.val = 3 * 128 + κ.val; omega))

/-- The block of the units from the four taps, read at an entry. -/
theorem conv_at (x0 : Vec Ideal S512x512 .bf16) (w : Vec Ideal S4x512 .f32) (e1 e2 e3 : Vec Ideal S512x512 .f32) (r s : Fin 512) :
    k0_pay5 (F := Ideal) x0 w e1 e2 e3 (ix2 r s) = (x0 (ix2 r s) * w (ix2 3 s) + e1 (ix2 r s) * w (ix2 2 s) + e2 (ix2 r s) * w (ix2 1 s) + e3 (ix2 r s) * w (ix2 0 s))
      * Ideal.logistic (x0 (ix2 r s) * w (ix2 3 s) + e1 (ix2 r s) * w (ix2 2 s) + e2 (ix2 r s) * w (ix2 1 s) + e3 (ix2 r s) * w (ix2 0 s)) := by
  pointwise [k0_pay5, k0_pay2]

/-- The extension read `d` rows earlier: in the block, or in the sixteen rows ahead of it. -/
theorem ext_at (v : View sig .tc .vmem S528x512 .f32) (a : Vec Ideal S512x512 .f32) (b : Vec Ideal S16x512 .f32) (k d : ℕ) (hd : k + d = 16) (h) (r s : Fin 512) :
    v.readCov (Val := Elt Ideal) [⟨Rect.unit ![16, 0] ![512, 512] inb_S528x512_S512x512_16_0, a⟩, ⟨Rect.unit ![0, 0] ![16, 512] inb_S528x512_S16x512_0_0, b⟩]
      (Rect.unit (s := S528x512) ![k, 0] ![512, 512] h).toLoadRect (ix2 r s) = if hr : d ≤ r.val then a (ix2 ⟨r.val - d, by omega⟩ s) else b (ix2 ⟨k + r.val, by omega⟩ s) := by
  rw [View.readCov_eq_canon']
  by_cases hr : d ≤ r.val
  · rw [dif_pos hr]
    have e : (Rect.unit (s := S528x512) ![k, 0] ![512, 512] h).toLoadRect.idx (ix2 r s)
        = (Rect.unit ![16, 0] ![512, 512] inb_S528x512_S512x512_16_0).emb (ix2 ⟨r.val - d, by omega⟩ s) := by
      funext a
      refine Fin.ext ?_
      fin_cases a
      · show k + 1 * r.val = 16 + 1 * (r.val - d)
        omega
      · rfl
    show View.canon _ _ = _
    rw [e, View.canon_cons_emb]
  · rw [dif_neg hr]
    have e : (Rect.unit (s := S528x512) ![k, 0] ![512, 512] h).toLoadRect.idx (ix2 r s)
        = (Rect.unit ![0, 0] ![16, 512] inb_S528x512_S16x512_0_0).emb (ix2 ⟨k + r.val, by omega⟩ s) := by
      funext a
      refine Fin.ext ?_
      fin_cases a
      · show k + 1 * r.val = 0 + 1 * (k + r.val)
        omega
      · rfl
    show View.canon _ _ = _
    rw [e]
    rw [View.canon_cons_of_not_mem, View.canon_cons_emb]
    intro hm
    obtain ⟨q, hq, e⟩ := (LoadRect.mem_set _).mp hm 0
    have e : 0 + 1 * (k + r.val) = 16 + 1 * q := e
    omega

/-- A choice by whether a column block is one of the first four. -/
theorem pick_four (q : Fin 6) (a b : EReal) : Scalar.select (Scalar.cmpi .slt (BitVec.ofNat 32 q.val) 4#32) a b = if q.val < 4 then a else b := by
  fin_cases q <;> rfl

/-- A choice by whether a column block is one of the first two. -/
theorem pick_two (q : Fin 6) (a b : EReal) : Scalar.select (Scalar.cmpi .slt (BitVec.ofNat 32 q.val) 2#32) a b = if q.val < 2 then a else b := by
  fin_cases q <;> rfl

/-- A choice by whether a row block is the first of its sequence. -/
theorem pick_zero (q : Fin 8) (a b : EReal) : Scalar.select (Scalar.cmpi .eq (BitVec.ofNat 32 q.val) 0#32) a b = if q.val = 0 then a else b := by
  fin_cases q <;> rfl

/-- The sixteen rows ahead of a block: zero ahead of a sequence. -/
theorem ahead_at (i : grid0.Coords) (q : Fin 8) (hq : (i 1).val = q.val) (x1 : Vec Ideal S16x512 .bf16) (r : Fin 16) (s : Fin 512) : k0_pay3 (F := Ideal) i x1 (ix2 r s) = if q.val = 0 then 0 else x1 (ix2 r s) := by
  rw [← pick_zero, ← hq]
  pointwise [k0_pay3]

/-- The block of rows itself. -/
theorem here_at (x0 : Vec Ideal S512x512 .bf16) (r s : Fin 512) : k0_pay4 (F := Ideal) x0 (ix2 r s) = x0 (ix2 r s) := by
  pointwise [k0_pay4, k0_pay2]

/-- Which blocks the windows take at a grid point, and the point's place in the grid. -/
theorem idx : ∀ t : Fin cfg0.N, win0_0.index t = ![t.val / 6, t.val % 6] ∧ win0_1.index t = ![t.val / 6 * 32 - 1, t.val % 6] ∧ win0_2.index t = ![0, t.val % 6] ∧ win0_3.index t = ![t.val / 6, t.val % 6]
    ∧ ((grid0.coords t) 2).val = t.val % 6 ∧ ((grid0.coords t) 1).val = t.val / 6 % 8 :=
  (by decide +kernel : ∀ t : Fin grid0.N, _)

variable (m : (ℓ : Loc nD τ sig) → Buf (Elt Ideal) ℓ)

/-- The block of rows, read at an entry. -/
theorem rows (c : Dev nD) (t : Fin cfg0.N) (r s : Fin 512) (ht : t.val < 96) : iblk m c 0 t (ix2 r s) = m ((c : Thread nD τ).loc main_arg0) (ix2 ⟨t.val / 6 * 512 + r, by omega⟩ ⟨t.val % 6 * 512 + s, by omega⟩) := by
  blk_point [iblk, V, idx t]

/-- The sixteen rows ahead, read at an entry. -/
theorem ahead (c : Dev nD) (t : Fin cfg0.N) (r : Fin 16) (s : Fin 512) (ht : t.val < 96) : iblk m c 1 t (ix2 r s) = m ((c : Thread nD τ).loc main_arg0) (ix2 ⟨(t.val / 6 * 32 - 1) * 16 + r, by omega⟩ ⟨t.val % 6 * 512 + s, by omega⟩) := by
  blk_point [iblk, V, idx t]

/-- The weights' block, read at an entry. -/
theorem weights (c : Dev nD) (t : Fin cfg0.N) (a : Fin 4) (s : Fin 512) (ht : t.val < 96) : iblk m c 2 t (ix2 a s) = m ((c : Thread nD τ).loc main_arg1) (ix2 a ⟨t.val % 6 * 512 + s, by omega⟩) := by
  blk_point [iblk, V, idx t]

/-- A tap of the extension at a grid point is the tap of the whole array. -/
theorem tap_at (c : Dev nD) (t : Fin cfg0.N) (v : View sig .tc .vmem S528x512 .f32) (k d : ℕ) (hd : k + d = 16) (h) (r s : Fin 512) (ht : t.val < 96) :
    v.readCov (Val := Elt Ideal) [⟨Rect.unit ![16, 0] ![512, 512] inb_S528x512_S512x512_16_0, k0_pay4 (F := Ideal) (iblk m c 0 t)⟩, ⟨Rect.unit ![0, 0] ![16, 512] inb_S528x512_S16x512_0_0, k0_pay3 (F := Ideal) (grid0.coords t) (iblk m c 1 t)⟩]
      (Rect.unit (s := S528x512) ![k, 0] ![512, 512] h).toLoadRect (ix2 r s)
    = Convolution.tap (fun i j => m ((c : Thread nD τ).loc main_arg0) (ix2 i j)) ⟨t.val / 6 * 512 + r, by omega⟩ ⟨t.val % 6 * 512 + s, by omega⟩ d := by
  rw [ext_at v _ _ k d hd h r s]
  unfold Convolution.tap
  by_cases hr : d ≤ r.val
  · rw [dif_pos hr, if_pos (by show d ≤ (t.val / 6 * 512 + r.val) % 4096; omega), here_at, rows m c t _ s ht]
    have e : (⟨t.val / 6 * 512 + (r.val - d), by omega⟩ : Fin 8192) = ⟨t.val / 6 * 512 + r.val - d, by omega⟩ := Fin.ext (by show t.val / 6 * 512 + (r.val - d) = t.val / 6 * 512 + r.val - d; omega)
    rw [e]
  · rw [dif_neg hr, ahead_at _ ⟨t.val / 6 % 8, by omega⟩ (idx t).2.2.2.2.2]
    by_cases h0 : t.val / 6 % 8 = 0
    · rw [if_pos h0, if_neg (by show ¬ d ≤ (t.val / 6 * 512 + r.val) % 4096; omega)]
    · rw [if_neg h0, if_pos (by show d ≤ (t.val / 6 * 512 + r.val) % 4096; omega), ahead m c t _ s ht]
      have e : (⟨(t.val / 6 * 32 - 1) * 16 + (k + r.val), by omega⟩ : Fin 8192) = ⟨t.val / 6 * 512 + r.val - d, by omega⟩ :=
        Fin.ext (by show (t.val / 6 * 32 - 1) * 16 + (k + r.val) = t.val / 6 * 512 + r.val - d; omega)
      rw [e]

/-- The extension's rows at a grid point from row `k` on. -/
def ext (c : Dev nD) (t : Fin cfg0.N) (v : View sig .tc .vmem S528x512 .f32) (k : ℕ) (h : ∀ a, (![k, 0] : Fin 2 → ℕ) a + (![512, 512] : Fin 2 → ℕ) a ≤ S528x512.size a) : Vec Ideal S512x512 .f32 :=
  v.readCov (Val := Elt Ideal) [⟨Rect.unit ![16, 0] ![512, 512] inb_S528x512_S512x512_16_0, k0_pay4 (F := Ideal) (iblk m c 0 t)⟩, ⟨Rect.unit ![0, 0] ![16, 512] inb_S528x512_S16x512_0_0, k0_pay3 (F := Ideal) (grid0.coords t) (iblk m c 1 t)⟩]
      (Rect.unit (s := S528x512) ![k, 0] ![512, 512] h).toLoadRect

/-- The units of a grid point's block, read at an entry. -/
theorem units_at (c : Dev nD) (t : Fin cfg0.N) (v : View sig .tc .vmem S528x512 .f32) (r s : Fin 512) (ht : t.val < 96) :
    k0_pay5 (F := Ideal) (iblk m c 0 t) (iblk m c 2 t) (ext m c t v 15 inb_S528x512_S512x512_15_0) (ext m c t v 14 inb_S528x512_S512x512_14_0) (ext m c t v 13 inb_S528x512_S512x512_13_0) (ix2 r s)
    = Convolution.unit (fun i j => m ((c : Thread nD τ).loc main_arg0) (ix2 i j)) (fun a j => m ((c : Thread nD τ).loc main_arg1) (ix2 a j)) ⟨t.val / 6 * 512 + r, by omega⟩ ⟨t.val % 6 * 512 + s, by omega⟩ := by
  rw [conv_at]
  unfold ext
  rw [tap_at m c t v 15 1 (by decide) _ r s ht, tap_at m c t v 14 2 (by decide) _ r s ht, tap_at m c t v 13 3 (by decide) _ r s ht, rows m c t r s ht, weights m c t 3 s ht, weights m c t 2 s ht,
    weights m c t 1 s ht, weights m c t 0 s ht]
  unfold Convolution.unit Convolution.sum
  have e : Convolution.tap (fun i j => m ((c : Thread nD τ).loc main_arg0) (ix2 i j)) ⟨t.val / 6 * 512 + r, by omega⟩ ⟨t.val % 6 * 512 + s, by omega⟩ 0
      = m ((c : Thread nD τ).loc main_arg0) (ix2 ⟨t.val / 6 * 512 + r, by omega⟩ ⟨t.val % 6 * 512 + s, by omega⟩) := if_pos (Nat.zero_le _)
  rw [e]

/-- The block that the body leaves at a grid point, as the function of the units' block. -/
theorem out_at (c : Dev nD) (t : Fin cfg0.N) : ∃ v : View sig .tc .vmem S528x512 .f32, outsAt0 (F := Ideal) m c t
    = k0_pay1 (F := Ideal) (BitVec.ofNat 32 ((grid0.coords t) 2).val) (k0_pay5 (F := Ideal) (iblk m c 0 t) (iblk m c 2 t) (ext m c t v 15 inb_S528x512_S512x512_15_0) (ext m c t v 14 inb_S528x512_S512x512_14_0) (ext m c t v 13 inb_S528x512_S512x512_13_0))
      (k0_pay6 (F := Ideal) (iblk m c 0 t) (iblk m c 2 t) (ext m c t v 15 inb_S528x512_S512x512_15_0) (ext m c t v 14 inb_S528x512_S512x512_14_0) (ext m c t v 13 inb_S528x512_S512x512_13_0))
      (k0_pay7 (F := Ideal) (iblk m c 0 t) (iblk m c 2 t) (ext m c t v 15 inb_S528x512_S512x512_15_0) (ext m c t v 14 inb_S528x512_S512x512_14_0) (ext m c t v 13 inb_S528x512_S512x512_13_0)) := by
  refine ⟨scM0_0.view, ?_⟩
  unfold outsAt0 out0_A_3 kernelRun0_A
  frame_out
  rfl

/-- The block that the body leaves at a grid point, read at an entry. -/
theorem block_at (c : Dev nD) (t : Fin cfg0.N) (r s : Fin 512) (i : Fin 8192) (j : Fin 3072) (ht : t.val < 96) (hi : i.val = t.val / 6 * 512 + r.val) (hj : j.val = t.val % 6 * 512 + s.val) :
    outsAt0 (F := Ideal) m c t (ix2 r s) = Cert.ConvReferenceIdeal.Gen.result (m ((c : Thread nD τ).loc main_arg0)) (m ((c : Thread nD τ).loc main_arg1)) (ix2 i j) := by
  obtain ⟨v, hv⟩ := out_at m c t
  rw [hv, Cert.ConvReferenceIdeal.Gen.result_at]
  refine (normed_at _ _ r s).trans ?_
  rw [show i = ⟨t.val / 6 * 512 + r.val, by omega⟩ from Fin.ext hi, show j = ⟨t.val % 6 * 512 + s.val, by omega⟩ from Fin.ext hj]
  have e : ∀ κ : Fin 128, (⟨t.val % 6 * 512 + (s.val / 128 * 128 + κ.val), by omega⟩ : Fin 3072) = ⟨(t.val % 6 * 512 + s.val) / 128 * 128 + κ.val, by omega⟩ :=
    fun κ => Fin.ext (by show t.val % 6 * 512 + (s.val / 128 * 128 + κ.val) = (t.val % 6 * 512 + s.val) / 128 * 128 + κ.val; omega)
  simp only [units_at m c t v r _ ht]
  rw [(idx t).2.2.2.2.1]
  rw [pick_four ⟨t.val % 6, by omega⟩, pick_two ⟨t.val % 6, by omega⟩]
  simp only [e]
  generalize Convolution.unit _ _ _ = y
  unfold Convolution.entry Convolution.normed
  dsimp only
  by_cases h2 : t.val % 6 < 2
  · have h4 : t.val % 6 < 4 := by omega
    have k1 : t.val % 6 * 512 + s.val < 1024 := by omega
    simp only [h2, h4, k1, if_true]
  · have k1 : ¬ t.val % 6 * 512 + s.val < 1024 := by omega
    by_cases h4 : t.val % 6 < 4
    · have k2 : t.val % 6 * 512 + s.val < 2048 := by omega
      simp only [h2, h4, k1, k2, if_true, if_false, mul_one]
    · have k2 : ¬ t.val % 6 * 512 + s.val < 2048 := by omega
      simp only [h4, k1, k2, if_false]

/-- The block that the body leaves at a grid point holds the reference's entries at the block's place. -/
theorem point (c : Dev nD) (t : Fin cfg0.N) (y : S512x512.Idx) : outsAt0 (F := Ideal) m c t y
    = Cert.ConvReferenceIdeal.Gen.result (m ((c : Thread nD τ).loc main_arg0)) (m ((c : Thread nD τ).loc main_arg1)) (((cfg0.win 3).blk t).view.emb y) := by
  have e0 : ((((cfg0.win 3).blk t).view.emb y) 0 : ℕ) = t.val / 6 * 512 + y 0 := by blk_simp [idx t]
  have e1 : ((((cfg0.win 3).blk t).view.emb y) 1 : ℕ) = t.val % 6 * 512 + y 1 := by blk_simp [idx t]
  generalize ((cfg0.win 3).blk t).view.emb y = z at e0 e1
  obtain ⟨i, j, rfl⟩ : ∃ (i : Fin 8192) (j : Fin 3072), z = ix2 i j := ⟨z 0, z 1, by funext a; match a with | ⟨0, _⟩ => rfl | ⟨1, _⟩ => rfl⟩
  obtain ⟨r, s, rfl⟩ : ∃ (r s : Fin 512), y = ix2 r s := ⟨y 0, y 1, by funext a; match a with | ⟨0, _⟩ => rfl | ⟨1, _⟩ => rfl⟩
  exact block_at m c t r s i j t.isLt e0 e1

/-- The array after the call is the reference's result on the same arguments. -/
theorem final (c : Dev nD) : (dats m 0 c).arrAt 3 (cfgs 0).N
    = Cert.ConvReferenceIdeal.Gen.result (m ((c : Thread nD τ).loc main_arg0)) (m ((c : Thread nD τ).loc main_arg1)) := by
  refine (dats m 0 c).arrAt_eq_of_covers 3 _ (by decide +kernel) fun t _ y => ?_
  blk_simp
  rw [after0_3]
  exact point m c t y

end Cert.ConvIdeal.Gen
end
-- ==== Proof.GatesReference.lean ====
/- The two gates of the delta layer: the reference, entry by entry. -/
module

public import proofs.«01_k».proof.Proof.Gen.GatesReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DeltaGates

/-- The logarithm of a row's decay: the softplus of the row's entry and the head's bias, times the head's rate. -/
def decay (x a d : EReal) : EReal :=
  -Ideal.exp a * if x + d ≠ x + d then x + d else max (x + d) 0 + Ideal.log1p (Ideal.exp (-FloatOps.absf (F := Ideal) (φ := .f32) (x + d)))

end Cert.DeltaGates

namespace Cert.GatesReferenceIdeal.Gen

/-- The softplus as the reference computes it. -/
def softplus (z : FVec Ideal S8192x8 .f32) : FVec Ideal S8192x8 .f32 :=
  select (cmpf .une (subf z (broadcastInDim S8192x8 ![] bcast_S_S8192x8 (constant S_ .f32 0x00000000#32))) (subf z (broadcastInDim S8192x8 ![] bcast_S_S8192x8 (constant S_ .f32 0x00000000#32))))
    (addf z (broadcastInDim S8192x8 ![] bcast_S_S8192x8 (constant S_ .f32 0x00000000#32)))
    (addf (maximumf z (broadcastInDim S8192x8 ![] bcast_S_S8192x8 (constant S_ .f32 0x00000000#32)))
      (Host.log1p (Host.exp (Host.negf (Host.absf (subf z (broadcastInDim S8192x8 ![] bcast_S_S8192x8 (constant S_ .f32 0x00000000#32))))))))

/-- A value of every head along the rows. -/
def heads (a : FVec Ideal S8 .f32) : FVec Ideal S8192x8 .f32 := broadcastInDim S8192x8 ![0, 1] bcast_S1x8_S8192x8_0_1 (broadcastInDim S1x8 ![1] bcast_S8_S1x8_1 a)

/-- The logarithm of the decay, at every row and head. -/
def decay (x : FVec Ideal S8192x256 .f32) (a d : FVec Ideal S8 .f32) : FVec Ideal S8192x8 .f32 :=
  mulf (heads (Host.negf (Host.exp a))) (softplus (addf (extractStridedSlice S8192x8 ![0, 128] x slices_S8192x256_S8192x8_0_128) (heads d)))

/-- The sum over the rows of a chunk up to and including a row. -/
def running (g : FVec Ideal S128x64x8 .f32) : FVec Ideal S128x64x8 .f32 :=
  Host.reduceWindowAdd ![1, 64, 1] ![1, 1, 1] ![0, 63, 0] ![0, 0, 0] g (broadcastInDim S_ ![] bcast_S_S_ (constant S_ .f32 0x00000000#32)) reduceWindows_S128x64x8_S128x64x8_w1s1p0_0_w64s1p63_0_w1s1p0_0 h_S_

/-- Every head's value in its 128 columns. -/
def spread (g : FVec Ideal S8192x8 .f32) : FVec Ideal S8192x1024 .f32 :=
  shapeCast _ (broadcastInDim S8192x8x128 ![0, 1] bcast_S8192x8_S8192x8x128_0_1 g) shapeCasts_S8192x8x128_S8192x1024

/-- The reference's first result. -/
def sums (x : FVec Ideal S8192x256 .f32) (a d : FVec Ideal S8 .f32) : FVec Ideal S8192x1024 .f32 :=
  spread (shapeCast _ (running (shapeCast _ (decay x a d) shapeCasts_S8192x8_S128x64x8)) shapeCasts_S128x64x8_S8192x8)

/-- The reference's second result. -/
def betas (x : FVec Ideal S8192x256 .f32) : FVec Ideal S8192x1024 .f32 :=
  spread (Host.divf (broadcastInDim S8192x8 ![] bcast_S_S8192x8 (constant S_ .f32 0x3F800000#32)) (addf (broadcastInDim S8192x8 ![] bcast_S_S8192x8 (constant S_ .f32 0x3F800000#32))
    (Host.exp (Host.negf (extractStridedSlice S8192x8 ![0, 0] x slices_S8192x256_S8192x8_0_0)))))

/-- The window of a chunk's rows. -/
abbrev window : Shape := ⟨3, ![1, 64, 1]⟩

/-- Where a position of the window lies. -/
theorem place : ∀ n : Fin window.numel, n.val < 64 ∧ (window.rowMajor.symm n 0).val = 0 ∧ (window.rowMajor.symm n 1).val = n.val ∧ (window.rowMajor.symm n 2).val = 0 := by
  decide +kernel

/-- The logarithm of the decay, read at an entry. -/
theorem decay_at (x : FVec Ideal S8192x256 .f32) (a d : FVec Ideal S8 .f32) (i : Fin 8192) (e : Fin 8) :
    decay x a d (ix2 i e) = DeltaGates.decay (x (ix2 i ⟨128 + e, by omega⟩)) (a (ix1 e)) (d (ix1 e)) := by
  pointwise [decay, softplus, heads, DeltaGates.decay]

/-- The second result read at an entry. -/
theorem betas_at (x : FVec Ideal S8192x256 .f32) (i : Fin 8192) (j : Fin 1024) : betas x (ix2 i j) = Ideal.logistic (x (ix2 i ⟨j.val / 128, by omega⟩)) := by
  pointwise [betas, spread, Ideal.logistic]

/-- A fold of sums is the start and the sum. -/
theorem fold_sum {n : ℕ} (f : Fin n → EReal) (v : EReal) : (List.finRange n).foldl (fun r k => r + f k) v = v + ∑ k : Fin n, f k := by
  have h : ∀ (l : List (Fin n)) (v : EReal), l.foldl (fun r k => r + f k) v = v + (l.map f).sum := by
    intro l
    induction l with
    | nil => intro v; simp
    | cons k l ih => intro v; rw [List.foldl_cons, ih, List.map_cons, List.sum_cons, add_assoc]
  rw [h, ← List.ofFn_eq_map, List.sum_ofFn]

/-- The sum over the window's positions that lie in the chunk is the sum over the rows up to and including the place. -/
theorem window_sum (f : Fin 64 → EReal) (s : Fin 64) :
    (∑ n : Fin 64, if h : 63 ≤ s.val + n.val then f ⟨s.val + n.val - 63, by omega⟩ else 0) = ∑ q : Fin 64, if q ≤ s then f q else 0 := by
  have h1 : (∑ n : Fin 64, if h : 63 ≤ s.val + n.val then f ⟨s.val + n.val - 63, by omega⟩ else 0)
      = ∑ n : Fin 64, if 63 ≤ s.val + n.val then f ⟨s.val + n.val - 63, by omega⟩ else 0 := Finset.sum_congr rfl fun n _ => by
    by_cases h : 63 ≤ s.val + n.val
    · rw [dif_pos h, if_pos h]
    · rw [dif_neg h, if_neg h]
  rw [h1, ← Finset.sum_filter, ← Finset.sum_filter]
  refine Finset.sum_bij' (fun n _ => ⟨s.val + n.val - 63, by omega⟩) (fun q hq => ⟨q.val + 63 - s.val, by have h : q.val ≤ s.val := (Finset.mem_filter.mp hq).2; omega⟩) ?_ ?_ ?_ ?_ ?_
  · intro n hn
    refine Finset.mem_filter.mpr ⟨Finset.mem_univ _, ?_⟩
    show s.val + n.val - 63 ≤ s.val
    omega
  · intro q hq
    refine Finset.mem_filter.mpr ⟨Finset.mem_univ _, ?_⟩
    have h : q.val ≤ s.val := (Finset.mem_filter.mp hq).2
    show 63 ≤ s.val + (q.val + 63 - s.val)
    omega
  · intro n hn
    have h : 63 ≤ s.val + n.val := (Finset.mem_filter.mp hn).2
    refine Fin.ext ?_
    show s.val + n.val - 63 + 63 - s.val = n.val
    omega
  · intro q hq
    have h : q.val ≤ s.val := (Finset.mem_filter.mp hq).2
    refine Fin.ext ?_
    show s.val + (q.val + 63 - s.val) - 63 = q.val
    omega
  · intro n hn
    rfl

/-- The running sum, read at an entry. -/
theorem running_at (g : FVec Ideal S128x64x8 .f32) (b : Fin 128) (s : Fin 64) (e : Fin 8) : running g (ix3 b s e) = ∑ q : Fin 64, if q ≤ s then g (ix3 b q e) else 0 := by
  unfold running Host.reduceWindowAdd
  show Ideal.hostReduceWindowAdd _ _ _ _ _ _ _ _ = _
  unfold Ideal.hostReduceWindowAdd Host.reduceWindow
  dsimp only
  refine (fold_sum _ _).trans ?_
  have h0 : broadcastInDim S_ ![] bcast_S_S_ (constant (F := Ideal) S_ .f32 0x00000000#32) (Shape.Idx.first h_S_) = (0 : EReal) := Ideal.ofBits_zero_f32
  rw [h0, zero_add]
  refine Eq.trans ?_ (window_sum (fun q => g (ix3 b q e)) s)
  refine Fintype.sum_equiv (finCongr (by decide : window.numel = 64)) _ _ fun n => ?_
  obtain ⟨hn, w0, w1, w2⟩ := place n
  by_cases h : 63 ≤ s.val + n.val
  · have hin : ∀ a : Fin 3, (![0, 63, 0] : Fin 3 → ℕ) a ≤ (ix3 b s e a).val * (![1, 1, 1] : Fin 3 → ℕ) a + (window.rowMajor.symm n a).val
        ∧ (ix3 b s e a).val * (![1, 1, 1] : Fin 3 → ℕ) a + (window.rowMajor.symm n a).val - (![0, 63, 0] : Fin 3 → ℕ) a < (![128, 64, 8] : Fin 3 → ℕ) a := fun a => by
      match a with
      | ⟨0, _⟩ =>
        show 0 ≤ b.val * 1 + (window.rowMajor.symm n 0).val ∧ b.val * 1 + (window.rowMajor.symm n 0).val - 0 < 128
        omega
      | ⟨1, _⟩ =>
        show 63 ≤ s.val * 1 + (window.rowMajor.symm n 1).val ∧ s.val * 1 + (window.rowMajor.symm n 1).val - 63 < 64
        omega
      | ⟨2, _⟩ =>
        show 0 ≤ e.val * 1 + (window.rowMajor.symm n 2).val ∧ e.val * 1 + (window.rowMajor.symm n 2).val - 0 < 8
        omega
    refine (dif_pos hin).trans (Eq.trans ?_ (dif_pos h).symm)
    refine congrArg g (funext fun a => Fin.ext ?_)
    match a with
    | ⟨0, _⟩ =>
      show b.val * 1 + (window.rowMajor.symm n 0).val - 0 = b.val
      omega
    | ⟨1, _⟩ =>
      show s.val * 1 + (window.rowMajor.symm n 1).val - 63 = s.val + n.val - 63
      omega
    | ⟨2, _⟩ =>
      show e.val * 1 + (window.rowMajor.symm n 2).val - 0 = e.val
      omega
  · refine (dif_neg fun hin => h ?_).trans (dif_neg (e := fun _ => (0 : EReal)) h).symm
    have h1 : 63 ≤ s.val * 1 + (window.rowMajor.symm n 1).val := (hin 1).1
    omega

/-- The first result read at an entry. -/
theorem sums_at (x : FVec Ideal S8192x256 .f32) (a d : FVec Ideal S8 .f32) (i : Fin 8192) (j : Fin 1024) :
    sums x a d (ix2 i j) = ∑ q : Fin 64, if q.val ≤ i.val % 64 then decay x a d (ix2 ⟨i.val / 64 * 64 + q, by omega⟩ ⟨j.val / 128, by omega⟩) else 0 := by
  have h : sums x a d (ix2 i j) = running (shapeCast _ (decay x a d) shapeCasts_S8192x8_S128x64x8) (ix3 ⟨i.val / 64, by omega⟩ ⟨i.val % 64, by omega⟩ ⟨j.val / 128, by omega⟩) := by
    unfold sums
    generalize running _ = g
    pointwise [spread]
  rw [h, running_at]
  refine Finset.sum_congr rfl fun q _ => ?_
  have h' : (shapeCast _ (decay x a d) shapeCasts_S8192x8_S128x64x8 : FVec Ideal S128x64x8 .f32) (ix3 ⟨i.val / 64, by omega⟩ q ⟨j.val / 128, by omega⟩) = decay x a d (ix2 ⟨i.val / 64 * 64 + q, by omega⟩ ⟨j.val / 128, by omega⟩) := by
    generalize decay x a d = g
    pointwise []
  rw [h']
  rfl

/-- The reference runs, with the two results of its arguments. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v21) = sums (m ((c : Thread nD τ).loc main_arg0)) (m ((c : Thread nD τ).loc main_arg1)) (m ((c : Thread nD τ).loc main_arg2))
      ∧ r.2.mem ((c : Thread nD τ).loc main_v23) = betas (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans rfl, (h c).2.1.trans rfl, (h c).2.2⟩) (Value.run m ρ)

end Cert.GatesReferenceIdeal.Gen
end
-- ==== Proof.Gates.lean ====
/- The two gates of the delta layer: each block of the kernel's output holds the reference's entries. -/
module

public import proofs.«01_k».proof.Proof.Gen.GatesIdeal.Frame
public import proofs.«01_k».proof.Proof.GatesReference
public import Idealize.ShloMosaic.Lib.Pipeline.ValueKit
public import Idealize.ShloMosaic.Lib.WordCmp
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.WordCmp

namespace Cert.GatesIdeal.Gen
/-- A choice by a decision. -/
theorem pick (p : Prop) [Decidable p] (a b : EReal) : Scalar.select (BitVec.ofBool (decide p)) a b = if p then a else b := by
  by_cases h : p <;> simp only [h, decide_true, decide_false, if_true, if_false] <;> rfl

/-- A row's number over 64, as words. -/
theorem over_64 : ∀ r : Fin 512, IntOp.shrsi .vector (BitVec.ofNat 32 r.val) 6#32 = BitVec.ofNat 32 (r.val / 64) := by
  decide +kernel

/-- A column's number over 128, as words. -/
theorem over_128 : ∀ j : Fin 1024, IntOp.shrsi .vector (BitVec.ofNat 32 j.val) 7#32 = BitVec.ofNat 32 (j.val / 128) := by
  decide +kernel

/-- The rows of a row's chunk up to and including it. -/
theorem tri_at (r s : Fin 512) (a b : EReal) : Scalar.select (k0_pay7 (ix2 r s)) a b = if s.val ≤ r.val ∧ r.val / 64 = s.val / 64 then a else b := by
  have h : k0_pay7 (ix2 r s) = BitVec.ofBool (decide (s.val ≤ r.val ∧ r.val / 64 = s.val / 64)) := by
    pointwise [k0_pay7]
    rw [over_64, over_64, cmpi_sle_ofNat (by omega) (by omega), cmpi_eq_ofNat (by omega) (by omega)]
    by_cases h1 : s.val ≤ r.val <;> by_cases h2 : r.val / 64 = s.val / 64 <;> simp only [h1, h2, true_and, false_and, and_true, and_false, decide_true, decide_false] <;> rfl
  rw [h, pick]

/-- The matrix that spreads a head over its columns. -/
theorem spread_at (h : Fin 128) (j : Fin 1024) : k0_pay1 (F := Ideal) (ix2 h j) = if h.val = j.val / 128 then 1 else 0 := by
  pointwise [k0_pay1]
  rw [over_128, cmpi_eq_ofNat (by omega) (by omega), pick]

/-- The logarithm of the decay in the lane of a head. -/
theorem decay_at (x0 : Vec Ideal S512x256 .f32) (x1 x2 : Vec Ideal S1x128 .f32) (r : Fin 512) (h : Fin 128) (hh : h.val < 8) :
    k0_pay6 (F := Ideal) x0 x1 x2 (ix2 r h) = DeltaGates.decay (x0 (ix2 r ⟨128 + h, by omega⟩)) (x1 (ix2 0 h)) (x2 (ix2 0 h)) := by
  pointwise [k0_pay6, k0_pay4, DeltaGates.decay]
  rw [cmpi_slt_ofNat (by omega) (by omega), pick, if_pos hh, zero_sub, zero_sub]

/-- The logistic in the lane of a head. -/
theorem beta_at (x0 : Vec Ideal S512x256 .f32) (r : Fin 512) (h : Fin 128) (hh : h.val < 8) : k0_pay5 (F := Ideal) x0 (ix2 r h) = Ideal.logistic (x0 (ix2 r ⟨h.val, by omega⟩)) := by
  pointwise [k0_pay5, k0_pay4]
  rw [cmpi_slt_ofNat (by omega) (by omega), pick, if_pos hh]

/-- A sum against the spreading matrix is the entry of the column's head. -/
theorem spread_sum (f : Fin 128 → EReal) (j : Fin 1024) : (∑ h : Fin 128, f h * k0_pay1 (F := Ideal) (ix2 h j)) = f ⟨j.val / 128, by omega⟩ := by
  rw [Finset.sum_eq_single (⟨j.val / 128, by omega⟩ : Fin 128)]
  · rw [spread_at, if_pos rfl, mul_one]
  · intro h _ hne
    rw [spread_at, if_neg (fun e => hne (Fin.ext e)), mul_zero]
  · intro h
    exact absurd (Finset.mem_univ _) h

/-- The sum over a block's rows in a row's chunk, up to the row, is the sum over the chunk's rows. -/
theorem chunk_sum (f : Fin 512 → EReal) (r : Fin 512) : (∑ κ : Fin 512, if κ.val ≤ r.val ∧ r.val / 64 = κ.val / 64 then f κ else 0)
    = ∑ q : Fin 64, if q.val ≤ r.val % 64 then f ⟨r.val / 64 * 64 + q, by omega⟩ else 0 := by
  rw [← Finset.sum_filter, ← Finset.sum_filter]
  refine Finset.sum_bij' (fun κ _ => ⟨κ.val % 64, by omega⟩) (fun q _ => ⟨r.val / 64 * 64 + q.val, by omega⟩) ?_ ?_ ?_ ?_ ?_
  · intro κ hκ
    have h : κ.val ≤ r.val ∧ r.val / 64 = κ.val / 64 := (Finset.mem_filter.mp hκ).2
    refine Finset.mem_filter.mpr ⟨Finset.mem_univ _, ?_⟩
    show κ.val % 64 ≤ r.val % 64
    omega
  · intro q hq
    have h : q.val ≤ r.val % 64 := (Finset.mem_filter.mp hq).2
    refine Finset.mem_filter.mpr ⟨Finset.mem_univ _, ?_⟩
    show r.val / 64 * 64 + q.val ≤ r.val ∧ r.val / 64 = (r.val / 64 * 64 + q.val) / 64
    omega
  · intro κ hκ
    have h : κ.val ≤ r.val ∧ r.val / 64 = κ.val / 64 := (Finset.mem_filter.mp hκ).2
    refine Fin.ext ?_
    show r.val / 64 * 64 + κ.val % 64 = κ.val
    omega
  · intro q hq
    refine Fin.ext ?_
    show (r.val / 64 * 64 + q.val) % 64 = q.val
    omega
  · intro κ hκ
    have h : κ.val ≤ r.val ∧ r.val / 64 = κ.val / 64 := (Finset.mem_filter.mp hκ).2
    exact congrArg f (Fin.ext (by show κ.val = r.val / 64 * 64 + κ.val % 64; omega))

/-- The first output's block, read at an entry. -/
theorem sums_at (x0 : Vec Ideal S512x256 .f32) (x1 x2 : Vec Ideal S1x128 .f32) (r : Fin 512) (j : Fin 1024) :
    out0_3 (F := Ideal) x0 x1 x2 (ix2 r j) = ∑ q : Fin 64, if q.val ≤ r.val % 64 then DeltaGates.decay (x0 (ix2 ⟨r.val / 64 * 64 + q, by omega⟩ ⟨128 + j.val / 128, by omega⟩)) (x1 (ix2 0 ⟨j.val / 128, by omega⟩))
      (x2 (ix2 0 ⟨j.val / 128, by omega⟩)) else 0 := by
  have h : out0_3 (F := Ideal) x0 x1 x2 = k0_pay2 (k0_pay6 x0 x1 x2) k0_pay7 := by
    unfold out0_3
    frame_out
  have e (g : FVec Ideal S512x128 .f32) (v : IVec S512x512 1) : k0_pay2 (F := Ideal) g v (ix2 r j) = ∑ h : Fin 128, (∑ κ : Fin 512, Scalar.select (v (ix2 r κ)) (g (ix2 κ h)) 0) * k0_pay1 (F := Ideal) (ix2 h j) := by
    pointwise [k0_pay2]
  rw [h, e, spread_sum]
  simp only [tri_at]
  rw [chunk_sum (fun κ => k0_pay6 x0 x1 x2 (ix2 κ ⟨j.val / 128, by omega⟩))]
  refine Finset.sum_congr rfl fun q _ => ?_
  rw [decay_at x0 x1 x2 _ _ (by show j.val / 128 < 8; omega)]

/-- The second output's block, read at an entry. -/
theorem betas_at (x0 : Vec Ideal S512x256 .f32) (x1 x2 : Vec Ideal S1x128 .f32) (r : Fin 512) (j : Fin 1024) :
    out0_4 (F := Ideal) x0 x1 x2 (ix2 r j) = Ideal.logistic (x0 (ix2 r ⟨j.val / 128, by omega⟩)) := by
  have h : out0_4 (F := Ideal) x0 x1 x2 = k0_pay3 (k0_pay5 x0) := by
    unfold out0_4
    frame_out
  have e (b : FVec Ideal S512x128 .f32) : k0_pay3 (F := Ideal) b (ix2 r j) = ∑ h : Fin 128, b (ix2 r h) * k0_pay1 (F := Ideal) (ix2 h j) := by
    pointwise [k0_pay3]
  rw [h, e, spread_sum (fun h => k0_pay5 x0 (ix2 r h)), beta_at x0 r _ (by show j.val / 128 < 8; omega)]

/-- Which blocks the windows take at a grid point. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ)

/-- The block of rows, read at an entry. -/
theorem rows (c : Dev nD) (t : Fin cfg0.N) (r : Fin 512) (s : Fin 256) (ht : t.val < 16) : iblk m c 0 t (ix2 r s) = m ((c : Thread nD τ).loc main_arg0) (ix2 ⟨t.val * 512 + r, by omega⟩ s) := by
  blk_point [iblk, V, idx t]

/-- A head's value in a row of 128 lanes. -/
def lanes (a : FVec Ideal S8 .f32) : FVec Ideal S1x128 .f32 :=
  shapeCast _ (pad S128 ![0] ![120] ![0] a (sitofp .f32 (constantI S_ 32 0#32)) pads_S8_S128_01200 h_S_) shapeCasts_S128_S1x128

/-- The lane of a head. -/
theorem lanes_at (a : FVec Ideal S8 .f32) (h : Fin 128) (hh : h.val < 8) : lanes a (ix2 0 h) = a (ix1 ⟨h.val, hh⟩) := by
  pointwise [lanes]
  exact dif_pos hh

/-- The rows of lanes that the call reads. -/
theorem host (c : Dev nD) : V m c main_v1 = lanes (m ((c : Thread nD τ).loc main_arg1)) ∧ V m c main_v3 = lanes (m ((c : Thread nD τ).loc main_arg2)) := by
  constructor
  all_goals
    simp only [V, hostOps0, hostOps0_1, hostOps0_2, hostOps0_3, hostOps0_4, List.flatten_cons, List.flatten_nil, List.append_nil, List.cons_append, List.nil_append,
      StableHlo.TRef.binary, StableHlo.TRef.unary, StableHlo.TRef.toBuf, StableHlo.TRef.ofBuf, cast_eq]
    after_results <;> rfl

/-- The rates' block, in the lane of a head. -/
theorem rates (c : Dev nD) (t : Fin cfg0.N) (h : Fin 128) (hh : h.val < 8) : iblk m c 1 t (ix2 0 h) = m ((c : Thread nD τ).loc main_arg1) (ix1 ⟨h.val, hh⟩) := by
  refine Eq.trans (b := (V m c main_v1 : FVec Ideal S1x128 .f32) (ix2 0 h)) ?_ ?_
  · unfold iblk; blk_ext [idx t]
  · rw [(host m c).1]; exact lanes_at _ h hh

/-- The biases' block, in the lane of a head. -/
theorem biases (c : Dev nD) (t : Fin cfg0.N) (h : Fin 128) (hh : h.val < 8) : iblk m c 2 t (ix2 0 h) = m ((c : Thread nD τ).loc main_arg2) (ix1 ⟨h.val, hh⟩) := by
  refine Eq.trans (b := (V m c main_v3 : FVec Ideal S1x128 .f32) (ix2 0 h)) ?_ ?_
  · unfold iblk; blk_ext [idx t]
  · rw [(host m c).2]; exact lanes_at _ h hh

/-- The first output's block at a grid point is the reference's entries at its rows. -/
theorem sums_block (c : Dev nD) (t : Fin cfg0.N) (r : Fin 512) (j : Fin 1024) (i : Fin 8192) (ht : t.val < 16) (hi : i.val = t.val * 512 + r.val) :
    out0_3 (F := Ideal) (iblk m c 0 t) (iblk m c 1 t) (iblk m c 2 t) (ix2 r j)
    = Cert.GatesReferenceIdeal.Gen.sums (m ((c : Thread nD τ).loc main_arg0)) (m ((c : Thread nD τ).loc main_arg1)) (m ((c : Thread nD τ).loc main_arg2)) (ix2 i j) := by
  rw [sums_at, Cert.GatesReferenceIdeal.Gen.sums_at, rates m c t _ (by show j.val / 128 < 8; omega), biases m c t _ (by show j.val / 128 < 8; omega)]
  have k : r.val % 64 = i.val % 64 := by omega
  rw [k]
  refine Finset.sum_congr rfl fun q _ => ?_
  have e : (⟨t.val * 512 + (r.val / 64 * 64 + q.val), by omega⟩ : Fin 8192) = ⟨i.val / 64 * 64 + q.val, by omega⟩ := Fin.ext (by show t.val * 512 + (r.val / 64 * 64 + q.val) = i.val / 64 * 64 + q.val; omega)
  rw [rows m c t _ _ ht, Cert.GatesReferenceIdeal.Gen.decay_at, e]

/-- The second output's block at a grid point is the reference's entries at its rows. -/
theorem betas_block (c : Dev nD) (t : Fin cfg0.N) (r : Fin 512) (j : Fin 1024) (i : Fin 8192) (ht : t.val < 16) (hi : i.val = t.val * 512 + r.val) :
    out0_4 (F := Ideal) (iblk m c 0 t) (iblk m c 1 t) (iblk m c 2 t) (ix2 r j) = Cert.GatesReferenceIdeal.Gen.betas (m ((c : Thread nD τ).loc main_arg0)) (ix2 i j) := by
  rw [betas_at, Cert.GatesReferenceIdeal.Gen.betas_at, rows m c t _ _ ht, show i = ⟨t.val * 512 + r.val, by omega⟩ from Fin.ext hi]

/-- The first array after the call is the reference's first result on the same arguments. -/
theorem final_sums (c : Dev nD) : (dats m 0 c).arrAt 3 (cfgs 0).N
    = Cert.GatesReferenceIdeal.Gen.sums (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have e0 : ((((cfg0.win 3).blk t).view.emb y) 0 : ℕ) = t.val * 512 + y 0 := by blk_simp [idx t]
  have e1 : ((((cfg0.win 3).blk t).view.emb y) 1 : ℕ) = y 1 := by blk_simp [idx t]
  generalize ((cfg0.win 3).blk t).view.emb y = z at e0 e1 ⊢
  obtain ⟨i, j, rfl⟩ : ∃ (i : Fin 8192) (j : Fin 1024), z = ix2 i j := ⟨z 0, z 1, by funext a; match a with | ⟨0, _⟩ => rfl | ⟨1, _⟩ => rfl⟩
  obtain ⟨r, s, rfl⟩ : ∃ (r : Fin 512) (s : Fin 1024), y = ix2 r s := ⟨y 0, y 1, by funext a; match a with | ⟨0, _⟩ => rfl | ⟨1, _⟩ => rfl⟩
  obtain rfl : j = s := Fin.ext e1
  exact sums_block m c t r j i t.isLt e0

/-- The second array after the call is the reference's second result on the same arguments. -/
theorem final_betas (c : Dev nD) : (dats m 0 c).arrAt 4 (cfgs 0).N = Cert.GatesReferenceIdeal.Gen.betas (m ((c : Thread nD τ).loc main_arg0)) := by
  refine (dats m 0 c).arrAt_eq_of_covers 4 _ (by decide +kernel) fun t _ y => ?_
  blk_simp
  rw [after0_4]
  have e0 : ((((cfg0.win 4).blk t).view.emb y) 0 : ℕ) = t.val * 512 + y 0 := by blk_simp [idx t]
  have e1 : ((((cfg0.win 4).blk t).view.emb y) 1 : ℕ) = y 1 := by blk_simp [idx t]
  generalize ((cfg0.win 4).blk t).view.emb y = z at e0 e1 ⊢
  obtain ⟨i, j, rfl⟩ : ∃ (i : Fin 8192) (j : Fin 1024), z = ix2 i j := ⟨z 0, z 1, by funext a; match a with | ⟨0, _⟩ => rfl | ⟨1, _⟩ => rfl⟩
  obtain ⟨r, s, rfl⟩ : ∃ (r : Fin 512) (s : Fin 1024), y = ix2 r s := ⟨y 0, y 1, by funext a; match a with | ⟨0, _⟩ => rfl | ⟨1, _⟩ => rfl⟩
  obtain rfl : j = s := Fin.ext e1
  exact betas_block m c t r j i t.isLt e0

end Cert.GatesIdeal.Gen
end
-- ==== Proof.ExpertsReference.lean ====
/-
The sum over the experts over the extended reals: the reference's stages, read entry by entry.
-/
module

public import proofs.«01_k».proof.Proof.Gen.ExpertsReferenceIdeal.Run
public import proofs.«01_k».proof.Proof.Gating
public import Idealize.ShloMosaic.Lib.KernelVsHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Selection

/-- A head's weight of an expert: the product of its factors where the sum of its scores reaches the threshold. -/
def weight (s1 f1 s2 e2 tau : EReal) : EReal := if tau ≤ s1 + s2 then f1 * e2 else 0

/-- An expert's gate, summed over the heads, times its unit. -/
def unit (s1 f1 s2 e2 tau : Fin 8 → EReal) (z : EReal) : EReal := (∑ h, weight (s1 h) (f1 h) (s2 h) (e2 h) (tau h)) * Gating.gelu z

end Cert.Selection

namespace Cert.ExpertsReferenceIdeal.Gen

/-- Each head's weights of the experts. -/
def weights (s1 f1 s2 e2 : FVec Ideal S8x128x8192 .f32) (tau : FVec Ideal S8x8192 .f32) : FVec Ideal S8x128x128x8192 .f32 :=
  select (cmpf .oge (addf (broadcastInDim S8x128x128x8192 ![0, 1, 2, 3] bcast_S8x128x1x8192_S8x128x128x8192_0_1_2_3 (broadcastInDim S8x128x1x8192 ![0, 1, 3] bcast_S8x128x8192_S8x128x1x8192_0_1_3 s1))
      (broadcastInDim S8x128x128x8192 ![0, 1, 2, 3] bcast_S8x1x128x8192_S8x128x128x8192_0_1_2_3 (broadcastInDim S8x1x128x8192 ![0, 2, 3] bcast_S8x128x8192_S8x1x128x8192_0_2_3 s2)))
    (broadcastInDim S8x128x128x8192 ![0, 1, 2, 3] bcast_S8x1x1x8192_S8x128x128x8192_0_1_2_3 (broadcastInDim S8x1x1x8192 ![0, 3] bcast_S8x8192_S8x1x1x8192_0_3 tau)))
    (mulf (broadcastInDim S8x128x128x8192 ![0, 1, 2, 3] bcast_S8x128x1x8192_S8x128x128x8192_0_1_2_3 (broadcastInDim S8x128x1x8192 ![0, 1, 3] bcast_S8x128x8192_S8x128x1x8192_0_1_3 f1))
      (broadcastInDim S8x128x128x8192 ![0, 1, 2, 3] bcast_S8x1x128x8192_S8x128x128x8192_0_1_2_3 (broadcastInDim S8x1x128x8192 ![0, 2, 3] bcast_S8x128x8192_S8x1x128x8192_0_2_3 e2)))
    (broadcastInDim S8x128x128x8192 ![] bcast_S_S8x128x128x8192 (id (constant S_ .f32 0x00000000#32)))

/-- The weights summed over the heads. -/
def gates (w : FVec Ideal S8x128x128x8192 .f32) : FVec Ideal S16384x8192 .f32 :=
  shapeCast _ (Host.reduceAdd w (constant S_ .f32 0x00000000#32) reducesTo_S8x128x128x8192_S128x128x8192_d0 h_S_) shapeCasts_S128x128x8192_S16384x8192

/-- The experts' products with the rows. -/
def products (u : FVec Ideal S16384x2048 .f32) (x : FVec Ideal S8192x2048 .bf16) : FVec Ideal S16384x8192 .f32 :=
  Host.dotGeneral dot_S16384x2048_S2048x8192_S16384x8192_1_0_0_1_n_n none u (transpose S2048x8192 [1, 0] (extf .f32 x bitsLt_bf16_f32) transposes_S8192x2048_S2048x8192_1_0)

/-- The error linear unit of each entry. -/
def unit (x : FVec Ideal S16384x8192 .f32) : FVec Ideal S16384x8192 .f32 :=
  mulf x (mulf (broadcastInDim S16384x8192 ![] bcast_S_S16384x8192 (constant S_ .f32 0x3F000000#32)) (addf (broadcastInDim S16384x8192 ![] bcast_S_S16384x8192 (constant S_ .f32 0x3F800000#32))
    (Host.tanh (mulf (broadcastInDim S16384x8192 ![] bcast_S_S16384x8192 (constant S_ .f32 0x3F4C422A#32)) (addf x (mulf (broadcastInDim S16384x8192 ![] bcast_S_S16384x8192 (constant S_ .f32 0x3D372713#32)) (mulf (mulf x x) x)))))))

/-- The reference's function of its arguments. -/
def result (x : FVec Ideal S8192x2048 .bf16) (u v : FVec Ideal S16384x2048 .f32) (s1 f1 s2 e2 : FVec Ideal S8x128x8192 .f32) (tau : FVec Ideal S8x8192 .f32) (r : FVec Ideal S8192x2048 .f32) : FVec Ideal S8192x2048 .f32 :=
  addf r (Host.dotGeneral dot_S8192x16384_S16384x2048_S8192x2048_1_0_0_1_n_n none
    (transpose S8192x16384 [1, 0] (mulf (gates (weights s1 f1 s2 e2 tau)) (unit (products u x))) transposes_S16384x8192_S8192x16384_1_0) v)

/-- A head's weight of an expert, read at an entry. -/
theorem weights_at (s1 f1 s2 e2 : FVec Ideal S8x128x8192 .f32) (tau : FVec Ideal S8x8192 .f32) (h : Fin 8) (a b : Fin 128) (t : Fin 8192) :
    weights s1 f1 s2 e2 tau (ix4 h a b t) = Selection.weight (s1 (ix3 h a t)) (f1 (ix3 h a t)) (s2 (ix3 h b t)) (e2 (ix3 h b t)) (tau (ix2 h t)) := by
  have hz : (id (constant S_ .f32 0x00000000#32) : FVec Ideal S_ .f32) ix0 = 0 := by pointwise [id]
  pointwise [weights, Selection.weight]
  rw [hz]

/-- The gates read at an entry. -/
theorem gates_at (w : FVec Ideal S8x128x128x8192 .f32) (e : Fin 16384) (t : Fin 8192) : gates w (ix2 e t) = ∑ h : Fin 8, w (ix4 h ⟨e.val / 128, by omega⟩ ⟨e.val % 128, by omega⟩ t) := by
  pointwise [gates]

/-- The products read at an entry. -/
theorem products_at (u : FVec Ideal S16384x2048 .f32) (x : FVec Ideal S8192x2048 .bf16) (e : Fin 16384) (t : Fin 8192) : products u x (ix2 e t) = ∑ k : Fin 2048, u (ix2 e k) * x (ix2 t k) := by
  pointwise [products]

/-- The unit read at an entry. -/
theorem unit_at (x : FVec Ideal S16384x8192 .f32) (e : Fin 16384) (t : Fin 8192) : unit x (ix2 e t) = Gating.gelu (x (ix2 e t)) := by
  pointwise [unit, Gating.gelu]

/-- The reference's result read at an entry. -/
theorem result_at (x : FVec Ideal S8192x2048 .bf16) (u v : FVec Ideal S16384x2048 .f32) (s1 f1 s2 e2 : FVec Ideal S8x128x8192 .f32) (tau : FVec Ideal S8x8192 .f32) (r : FVec Ideal S8192x2048 .f32) (t : Fin 8192) (d : Fin 2048) :
    result x u v s1 f1 s2 e2 tau r (ix2 t d) = r (ix2 t d) + ∑ e : Fin 16384, v (ix2 e d)
      * Selection.unit (fun h => s1 (ix3 h ⟨e.val / 128, by omega⟩ t)) (fun h => f1 (ix3 h ⟨e.val / 128, by omega⟩ t)) (fun h => s2 (ix3 h ⟨e.val % 128, by omega⟩ t)) (fun h => e2 (ix3 h ⟨e.val % 128, by omega⟩ t))
        (fun h => tau (ix2 h t)) (∑ k : Fin 2048, u (ix2 e k) * x (ix2 t k)) := by
  unfold result
  generalize hg : gates (weights s1 f1 s2 e2 tau) = g
  generalize hp : unit (products u x) = p
  pointwise []
  refine congrArg (r (ix2 t d) + ·) (Finset.sum_congr rfl fun e _ => ?_)
  rw [mul_comm]
  subst hg hp
  rw [gates_at, unit_at, products_at]
  simp only [weights_at]
  rfl

/-- From any memory the program ends with `result` of its arguments as its result, and with its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v35) = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans rfl, (h c).2⟩) (Value.run m ρ)

end Cert.ExpertsReferenceIdeal.Gen
end
-- ==== Proof.Experts.lean ====
/- The sum over the experts: each block of the kernel's output holds the reference's entries. -/
module

public import proofs.«01_k».proof.Proof.Gen.ExpertsIdeal.Frame
public import proofs.«01_k».proof.Proof.Gen.ExpertsReferenceIdeal
public import proofs.«01_k».proof.Proof.ExpertsReference
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ExpertsIdeal.Gen
variable (m : (ℓ : Loc nD τ sig) → Buf (Elt Ideal) ℓ)

/-- A head's weights of a group of experts at some of the rows. -/
def head (s f : Vec Ideal S1x1x128 .f32) (s2 : Vec Ideal S1x128x128 .f32) (tau : FVec Ideal S1x128 .f32) (e2 : Vec Ideal S1x128x128 .f32) : FVec Ideal S128x128 .f32 :=
  select (cmpf .oge (addf (broadcastTo S128x128 (shapeCast S1x128 s shapeCasts_S1x1x128_S1x128) broadcasts_S1x128_S128x128) (shapeCast S128x128 s2 shapeCasts_S1x128x128_S128x128)) (broadcastTo S128x128 tau broadcasts_S1x128_S128x128))
    (mulf (broadcastTo S128x128 (shapeCast S1x128 f shapeCasts_S1x1x128_S1x128) broadcasts_S1x128_S128x128) (shapeCast S128x128 e2 shapeCasts_S1x128x128_S128x128)) (broadcast S128x128 (Scalar.ofBits .f32 0x00000000#32))

/-- The error linear unit of each entry of a piece. -/
def unit (z : FVec Ideal S128x128 .f32) : FVec Ideal S128x128 .f32 :=
  mulf z (mulf (broadcast S128x128 (Scalar.ofBits .f32 0x3F000000#32)) (addf (broadcast S128x128 (Scalar.ofBits .f32 0x3F800000#32))
    (tanh (mulf (broadcast S128x128 (Scalar.ofBits .f32 0x3F4C422A#32)) (addf z (mulf (broadcast S128x128 (Scalar.ofBits .f32 0x3D372713#32)) (mulf z (mulf z z))))))))

/-- A head's weights read at an entry. -/
theorem head_read (s f : Vec Ideal S1x1x128 .f32) (s2 : Vec Ideal S1x128x128 .f32) (tau : FVec Ideal S1x128 .f32) (e2 : Vec Ideal S1x128x128 .f32) (p l : Fin 128) :
    head s f s2 tau e2 (ix2 p l) = Selection.weight (s (ix3 0 0 l)) (f (ix3 0 0 l)) (s2 (ix3 0 p l)) (e2 (ix3 0 p l)) (tau (ix2 0 l)) := by
  pointwise [head, Selection.weight]

/-- The unit read at an entry. -/
theorem unit_at (z : FVec Ideal S128x128 .f32) (p l : Fin 128) : unit z (ix2 p l) = Gating.gelu (z (ix2 p l)) := by
  pointwise [unit, Gating.gelu]
  rw [mul_comm (z (ix2 p l)) (z (ix2 p l) * z (ix2 p l))]

/-- A head's weights, from the blocks. -/
def headAt (x3 x4 : Vec Ideal S4x8x512 .f32) (x5 x6 : Vec Ideal S8x128x512 .f32) (x7 : Vec Ideal S8x512 .f32) (ii col h : ℕ) (hii : ii < 4) (hcol : col ≤ 384) (hh : h < 8) : FVec Ideal S128x128 .f32 :=
  head (View.ld x3 (Rect.unit (s := S4x8x512) ![ii, h, col] ![1, 1, 128] (Fin.forall_fin_succ.mpr ⟨hii, Fin.forall_fin_succ.mpr ⟨hh, Fin.forall_fin_succ.mpr ⟨Nat.add_le_add_right hcol 128, fun i => i.elim0⟩⟩⟩)))
    (View.ld x4 (Rect.unit (s := S4x8x512) ![ii, h, col] ![1, 1, 128] (Fin.forall_fin_succ.mpr ⟨hii, Fin.forall_fin_succ.mpr ⟨hh, Fin.forall_fin_succ.mpr ⟨Nat.add_le_add_right hcol 128, fun i => i.elim0⟩⟩⟩)))
    (View.ld x5 (Rect.unit (s := S8x128x512) ![h, 0, col] ![1, 128, 128] (Fin.forall_fin_succ.mpr ⟨hh, Fin.forall_fin_succ.mpr ⟨le_refl 128, Fin.forall_fin_succ.mpr ⟨Nat.add_le_add_right hcol 128, fun i => i.elim0⟩⟩⟩)))
    (View.ld x7 (Rect.unit (s := S8x512) ![h, col] ![1, 128] (Fin.forall_fin_succ.mpr ⟨hh, Fin.forall_fin_succ.mpr ⟨Nat.add_le_add_right hcol 128, fun i => i.elim0⟩⟩)))
    (View.ld x6 (Rect.unit (s := S8x128x512) ![h, 0, col] ![1, 128, 128] (Fin.forall_fin_succ.mpr ⟨hh, Fin.forall_fin_succ.mpr ⟨le_refl 128, Fin.forall_fin_succ.mpr ⟨Nat.add_le_add_right hcol 128, fun i => i.elim0⟩⟩⟩)))

/-- A head's weights from the blocks, read at an entry. -/
theorem headAt_read (x3 x4 : Vec Ideal S4x8x512 .f32) (x5 x6 : Vec Ideal S8x128x512 .f32) (x7 : Vec Ideal S8x512 .f32) (ii col h : ℕ) (hii : ii < 4) (hcol : col ≤ 384) (hh : h < 8) (p l : Fin 128) :
    headAt x3 x4 x5 x6 x7 ii col h hii hcol hh (ix2 p l) = Selection.weight (x3 (ix3 ⟨ii, hii⟩ ⟨h, hh⟩ ⟨col + l, by omega⟩)) (x4 (ix3 ⟨ii, hii⟩ ⟨h, hh⟩ ⟨col + l, by omega⟩))
      (x5 (ix3 ⟨h, hh⟩ p ⟨col + l, by omega⟩)) (x6 (ix3 ⟨h, hh⟩ p ⟨col + l, by omega⟩)) (x7 (ix2 ⟨h, hh⟩ ⟨col + l, by omega⟩)) := by
  unfold headAt
  rw [head_read]
  pointwise []

/-- What the body stores for a group of experts and some of the rows. -/
def piece (ht : FVec Ideal S512x512 .f32) (x3 x4 : Vec Ideal S4x8x512 .f32) (x5 x6 : Vec Ideal S8x128x512 .f32) (x7 : Vec Ideal S8x512 .f32) (row ii col : ℕ) (hii : ii < 4) (hcol : col ≤ 384) (hs : S512x512.Slices ![row, col] S128x128) : FVec Ideal S128x128 .bf16 :=
  shapeCast S128x128 (truncf .bf16 (mulf
    (addf (addf (addf (addf (addf (addf (addf (addf (broadcast S128x128 (Scalar.ofBits .f32 0x00000000#32)) (headAt x3 x4 x5 x6 x7 ii col 0 hii hcol (by decide))) (headAt x3 x4 x5 x6 x7 ii col 1 hii hcol (by decide)))
      (headAt x3 x4 x5 x6 x7 ii col 2 hii hcol (by decide))) (headAt x3 x4 x5 x6 x7 ii col 3 hii hcol (by decide))) (headAt x3 x4 x5 x6 x7 ii col 4 hii hcol (by decide))) (headAt x3 x4 x5 x6 x7 ii col 5 hii hcol (by decide)))
      (headAt x3 x4 x5 x6 x7 ii col 6 hii hcol (by decide))) (headAt x3 x4 x5 x6 x7 ii col 7 hii hcol (by decide)))
    (unit (extractStridedSlice S128x128 ![row, col] ht hs))) bitsLt_bf16_f32) shapeCasts_S128x128_S128x128

/-- The units of a block's experts at a block's rows, entry by entry. -/
def units (ht : FVec Ideal S512x512 .f32) (x3 x4 : Vec Ideal S4x8x512 .f32) (x5 x6 : Vec Ideal S8x128x512 .f32) (x7 : Vec Ideal S8x512 .f32) (e l : Fin 512) : EReal :=
  Selection.unit (fun h => x3 (ix3 ⟨e.val / 128, by omega⟩ h l)) (fun h => x4 (ix3 ⟨e.val / 128, by omega⟩ h l)) (fun h => x5 (ix3 h ⟨e.val % 128, by omega⟩ l)) (fun h => x6 (ix3 h ⟨e.val % 128, by omega⟩ l))
    (fun h => x7 (ix2 h l)) (ht (ix2 e l))

/-- A slice of the products read at an entry. -/
theorem slice_at (ht : FVec Ideal S512x512 .f32) (row col : ℕ) (hrow : row ≤ 384) (hcol : col ≤ 384) (hs : S512x512.Slices ![row, col] S128x128) (p l : Fin 128) :
    extractStridedSlice S128x128 ![row, col] ht hs (ix2 p l) = ht (ix2 ⟨row + p, by omega⟩ ⟨col + l, by omega⟩) := by
  pointwise []

/-- A piece's entries, at their place in the block. -/
theorem piece_at (ht : FVec Ideal S512x512 .f32) (x3 x4 : Vec Ideal S4x8x512 .f32) (x5 x6 : Vec Ideal S8x128x512 .f32) (x7 : Vec Ideal S8x512 .f32) (row ii col : ℕ) (hii : ii < 4) (hcol : col ≤ 384) (hs : S512x512.Slices ![row, col] S128x128)
    (hrow : row = ii * 128) (x : S128x128.Idx) (y : S512x512.Idx) (h0 : (y 0).val = row + (x 0).val) (h1 : (y 1).val = col + (x 1).val) :
    piece ht x3 x4 x5 x6 x7 row ii col hii hcol hs x = units ht x3 x4 x5 x6 x7 (y 0) (y 1) := by
  obtain ⟨p, l, rfl⟩ : ∃ (p l : Fin 128), x = ix2 p l := ⟨x 0, x 1, by funext a; match a with | ⟨0, _⟩ => rfl | ⟨1, _⟩ => rfl⟩
  change (y 0).val = row + p.val at h0
  change (y 1).val = col + l.val at h1
  have e0 : y 0 = (⟨row + p, by omega⟩ : Fin 512) := Fin.ext h0
  have e1 : y 1 = (⟨col + l, by omega⟩ : Fin 512) := Fin.ext h1
  rw [e0, e1]
  have e2 : (⟨(row + p.val) / 128, by omega⟩ : Fin 4) = ⟨ii, hii⟩ := Fin.ext (by show (row + p.val) / 128 = ii; omega)
  have e3 : (⟨(row + p.val) % 128, by omega⟩ : Fin 128) = p := Fin.ext (by show (row + p.val) % 128 = p.val; omega)
  unfold units Selection.unit
  simp only [e2, e3]
  rw [Fin.sum_univ_eight]
  rw [← slice_at ht row col (by omega) hcol hs, ← unit_at]
  unfold piece
  pointwise []
  simp only [headAt_read]
  rfl

/-- The pieces that the body stores, the last one first. -/
def pieces (ht : FVec Ideal S512x512 .f32) (x3 x4 : Vec Ideal S4x8x512 .f32) (x5 x6 : Vec Ideal S8x128x512 .f32) (x7 : Vec Ideal S8x512 .f32) : List (View.Piece (Elt Ideal) S512x512 .bf16) :=
  [⟨Rect.unit ![384, 384] ![128, 128] inb_S512x512_S128x128_384_384, piece ht x3 x4 x5 x6 x7 384 3 384 (by decide) (by decide) slices_S512x512_o384_384_S128x128⟩,
   ⟨Rect.unit ![384, 256] ![128, 128] inb_S512x512_S128x128_384_256, piece ht x3 x4 x5 x6 x7 384 3 256 (by decide) (by decide) slices_S512x512_o384_256_S128x128⟩,
   ⟨Rect.unit ![384, 128] ![128, 128] inb_S512x512_S128x128_384_128, piece ht x3 x4 x5 x6 x7 384 3 128 (by decide) (by decide) slices_S512x512_o384_128_S128x128⟩,
   ⟨Rect.unit ![384, 0] ![128, 128] inb_S512x512_S128x128_384_0, piece ht x3 x4 x5 x6 x7 384 3 0 (by decide) (by decide) slices_S512x512_o384_0_S128x128⟩,
   ⟨Rect.unit ![256, 384] ![128, 128] inb_S512x512_S128x128_256_384, piece ht x3 x4 x5 x6 x7 256 2 384 (by decide) (by decide) slices_S512x512_o256_384_S128x128⟩,
   ⟨Rect.unit ![256, 256] ![128, 128] inb_S512x512_S128x128_256_256, piece ht x3 x4 x5 x6 x7 256 2 256 (by decide) (by decide) slices_S512x512_o256_256_S128x128⟩,
   ⟨Rect.unit ![256, 128] ![128, 128] inb_S512x512_S128x128_256_128, piece ht x3 x4 x5 x6 x7 256 2 128 (by decide) (by decide) slices_S512x512_o256_128_S128x128⟩,
   ⟨Rect.unit ![256, 0] ![128, 128] inb_S512x512_S128x128_256_0, piece ht x3 x4 x5 x6 x7 256 2 0 (by decide) (by decide) slices_S512x512_o256_0_S128x128⟩,
   ⟨Rect.unit ![128, 384] ![128, 128] inb_S512x512_S128x128_128_384, piece ht x3 x4 x5 x6 x7 128 1 384 (by decide) (by decide) slices_S512x512_o128_384_S128x128⟩,
   ⟨Rect.unit ![128, 256] ![128, 128] inb_S512x512_S128x128_128_256, piece ht x3 x4 x5 x6 x7 128 1 256 (by decide) (by decide) slices_S512x512_o128_256_S128x128⟩,
   ⟨Rect.unit ![128, 128] ![128, 128] inb_S512x512_S128x128_128_128, piece ht x3 x4 x5 x6 x7 128 1 128 (by decide) (by decide) slices_S512x512_o128_128_S128x128⟩,
   ⟨Rect.unit ![128, 0] ![128, 128] inb_S512x512_S128x128_128_0, piece ht x3 x4 x5 x6 x7 128 1 0 (by decide) (by decide) slices_S512x512_o128_0_S128x128⟩,
   ⟨Rect.unit ![0, 384] ![128, 128] inb_S512x512_S128x128_0_384, piece ht x3 x4 x5 x6 x7 0 0 384 (by decide) (by decide) slices_S512x512_o0_384_S128x128⟩,
   ⟨Rect.unit ![0, 256] ![128, 128] inb_S512x512_S128x128_0_256, piece ht x3 x4 x5 x6 x7 0 0 256 (by decide) (by decide) slices_S512x512_o0_256_S128x128⟩,
   ⟨Rect.unit ![0, 128] ![128, 128] inb_S512x512_S128x128_0_128, piece ht x3 x4 x5 x6 x7 0 0 128 (by decide) (by decide) slices_S512x512_o0_128_S128x128⟩,
   ⟨Rect.unit ![0, 0] ![128, 128] inb_S512x512_S128x128_0_0, piece ht x3 x4 x5 x6 x7 0 0 0 (by decide) (by decide) slices_S512x512_o0_0_S128x128⟩]

/-- The pieces' entries. -/
theorem pieces_at (ht : FVec Ideal S512x512 .f32) (x3 x4 : Vec Ideal S4x8x512 .f32) (x5 x6 : Vec Ideal S8x128x512 .f32) (x7 : Vec Ideal S8x512 .f32) (y : S512x512.Idx) : View.canon (pieces ht x3 x4 x5 x6 x7) y = units ht x3 x4 x5 x6 x7 (y 0) (y 1) := by
  unfold pieces
  canon_tiles x h
  all_goals exact piece_at ht x3 x4 x5 x6 x7 _ _ _ _ _ _ (by decide) x y (by omega) (by omega)

/-- The whole of a buffer, read from its first entry on. -/
theorem whole_idx (h : ∀ a, (![0, 0] : Fin 2 → ℕ) a + (![512, 512] : Fin 2 → ℕ) a ≤ S512x512.size a) (y : S512x512.Idx) : (Rect.unit (s := S512x512) ![0, 0] ![512, 512] h).toLoadRect.idx y = y := by
  funext a
  refine Fin.ext ?_
  fin_cases a
  · show 0 + 1 * (y 0).val = (y 0).val
    omega
  · show 0 + 1 * (y 1).val = (y 1).val
    omega

set_option maxHeartbeats 2000000 in
/-- What the first point of a block of rows leaves in the running sum. -/
theorem step_A (c : Dev nD) (t : Fin cfg0.N) (h0 : t.val % 32 = 0) (h1 : ¬t.val % 32 = 31) : ∃ g : Vec Ideal S512x512 .bf16, (∀ y, g y = units (k0_pay5 (F := Ideal) (iblk m c 1 t) (iblk m c 0 t)) (iblk m c 3 t) (iblk m c 4 t) (iblk m c 5 t) (iblk m c 6 t) (iblk m c 7 t) (y 0) (y 1))
    ∧ (outsAt0 (F := Ideal) m c t.val t.isLt).2 = k0_pay2 (F := Ideal) (k0_pay4 (F := Ideal)) (iblk m c 2 t) g := by
  rw [outsAt0_A m c t h0 h1]
  dsimp only
  unfold sout0_A_0 kernelRun0_A
  frame_out [read_unread_whole]
  refine ⟨_, fun y => ?_, rfl⟩
  rw [View.readCov_eq_canon']
  refine (congrArg (View.canon _) (whole_idx _ y)).trans ?_
  refine Eq.trans ?_ (pieces_at (k0_pay5 (F := Ideal) (iblk m c 1 t) (iblk m c 0 t)) (iblk m c 3 t) (iblk m c 4 t) (iblk m c 5 t) (iblk m c 6 t) (iblk m c 7 t) y)
  open_payloads
  unfold pieces piece headAt head unit
  with_reducible rfl

set_option maxHeartbeats 2000000 in
/-- What a point in the middle leaves in the running sum. -/
theorem step_B (c : Dev nD) (t : Fin cfg0.N) (h0 : ¬t.val % 32 = 0) (h1 : ¬t.val % 32 = 31) : ∃ g : Vec Ideal S512x512 .bf16, (∀ y, g y = units (k0_pay5 (F := Ideal) (iblk m c 1 t) (iblk m c 0 t)) (iblk m c 3 t) (iblk m c 4 t) (iblk m c 5 t) (iblk m c 6 t) (iblk m c 7 t) (y 0) (y 1))
    ∧ (outsAt0 (F := Ideal) m c t.val t.isLt).2 = k0_pay2 (F := Ideal) (outsAt0 (F := Ideal) m c (t.val - 1) (Nat.lt_of_le_of_lt (Nat.sub_le _ _) t.isLt)).2 (iblk m c 2 t) g := by
  rw [outsAt0_B m c t h0 h1]
  dsimp only
  unfold sout0_B_0 kernelRun0_B
  frame_out [read_unread_whole]
  refine ⟨_, fun y => ?_, rfl⟩
  rw [View.readCov_eq_canon']
  refine (congrArg (View.canon _) (whole_idx _ y)).trans ?_
  refine Eq.trans ?_ (pieces_at (k0_pay5 (F := Ideal) (iblk m c 1 t) (iblk m c 0 t)) (iblk m c 3 t) (iblk m c 4 t) (iblk m c 5 t) (iblk m c 6 t) (iblk m c 7 t) y)
  open_payloads
  unfold pieces piece headAt head unit
  with_reducible rfl

set_option maxHeartbeats 2000000 in
/-- What the last point of a block of rows leaves in the output. -/
theorem step_C (c : Dev nD) (t : Fin cfg0.N) (h0 : ¬t.val % 32 = 0) (h1 : t.val % 32 = 31) : ∃ g : Vec Ideal S512x512 .bf16, (∀ y, g y = units (k0_pay5 (F := Ideal) (iblk m c 1 t) (iblk m c 0 t)) (iblk m c 3 t) (iblk m c 4 t) (iblk m c 5 t) (iblk m c 6 t) (iblk m c 7 t) (y 0) (y 1))
    ∧ (outsAt0 (F := Ideal) m c t.val t.isLt).1 = k0_pay3 (F := Ideal) (iblk m c 8 t) (k0_pay2 (F := Ideal) (outsAt0 (F := Ideal) m c (t.val - 1) (Nat.lt_of_le_of_lt (Nat.sub_le _ _) t.isLt)).2 (iblk m c 2 t) g) := by
  rw [outsAt0_C m c t h0 h1]
  dsimp only
  unfold out0_C_9 kernelRun0_C
  frame_out [read_unread_whole]
  refine ⟨_, fun y => ?_, rfl⟩
  rw [View.readCov_eq_canon']
  refine (congrArg (View.canon _) (whole_idx _ y)).trans ?_
  refine Eq.trans ?_ (pieces_at (k0_pay5 (F := Ideal) (iblk m c 1 t) (iblk m c 0 t)) (iblk m c 3 t) (iblk m c 4 t) (iblk m c 5 t) (iblk m c 6 t) (iblk m c 7 t) y)
  open_payloads
  unfold pieces piece headAt head unit
  with_reducible rfl

/-- The running sum after a block of experts, read at an entry. -/
theorem sum_at (a : Vec Ideal S2048x512 .f32) (v : Vec Ideal S2048x512 .bf16) (g : Vec Ideal S512x512 .bf16) (d : Fin 2048) (l : Fin 512) :
    k0_pay2 (F := Ideal) a v g (ix2 d l) = a (ix2 d l) + ∑ e : Fin 512, v (ix2 d e) * g (ix2 e l) := by
  pointwise [k0_pay2]

/-- The output from the running sum, read at an entry. -/
theorem add_at (x : Vec Ideal S512x2048 .f32) (a : Vec Ideal S2048x512 .f32) (l : Fin 512) (d : Fin 2048) : k0_pay3 (F := Ideal) x a (ix2 l d) = x (ix2 l d) + a (ix2 d l) := by
  pointwise [k0_pay3]

/-- The running sum's start. -/
theorem zero_at (d : Fin 2048) (l : Fin 512) : k0_pay4 (F := Ideal) (ix2 d l) = 0 := by
  pointwise [k0_pay4]

/-- A block of experts' products with a block of rows, read at an entry. -/
theorem dot_at (u x : Vec Ideal S512x2048 .bf16) (e l : Fin 512) : k0_pay5 (F := Ideal) u x (ix2 e l) = ∑ k : Fin 2048, u (ix2 e k) * x (ix2 l k) := by
  pointwise [k0_pay5]

/-- Which blocks the windows take at a grid point. -/
theorem idx : ∀ t : Fin cfg0.N, win0_0.index t = ![t.val / 32, 0] ∧ win0_1.index t = ![t.val % 32, 0] ∧ win0_2.index t = ![0, t.val % 32] ∧ win0_3.index t = ![t.val % 32, 0, t.val / 32] ∧ win0_4.index t = ![t.val % 32, 0, t.val / 32]
    ∧ win0_5.index t = ![0, 0, t.val / 32] ∧ win0_6.index t = ![0, 0, t.val / 32] ∧ win0_7.index t = ![0, t.val / 32] ∧ win0_8.index t = ![t.val / 32, 0] ∧ win0_9.index t = ![t.val / 32, 0] :=
  (by decide +kernel : ∀ t : Fin grid0.N, _)

/-- The arrays that the call reads besides the arguments, as functions of the arguments. -/
theorem host (c : Dev nD) : V m c main_v0 = truncf (F := Ideal) .bf16 (m ((c : Thread nD τ).loc main_arg1)) bitsLt_bf16_f32
    ∧ V m c main_v2 = transpose S2048x16384 [1, 0] (truncf (F := Ideal) .bf16 (m ((c : Thread nD τ).loc main_arg2)) bitsLt_bf16_f32) transposes_S16384x2048_S2048x16384_1_0
    ∧ V m c main_v3 = transpose S128x8x8192 [1, 0, 2] (m ((c : Thread nD τ).loc main_arg3)) transposes_S8x128x8192_S128x8x8192_1_0_2
    ∧ V m c main_v4 = transpose S128x8x8192 [1, 0, 2] (m ((c : Thread nD τ).loc main_arg4)) transposes_S8x128x8192_S128x8x8192_1_0_2 := by
  refine ⟨?_, ?_, ?_, ?_⟩
  all_goals
    simp only [V, hostOps0, List.flatten_cons, List.flatten_nil, List.append_nil, List.cons_append, List.nil_append]
    after_results <;> rfl

/-- The blocks of the rows, the residual and the second scores, read at an entry. -/
theorem direct (c : Dev nD) (t : Fin cfg0.N) (l : Fin 512) (k : Fin 2048) (h : Fin 8) (b : Fin 128) (ht : t.val < 512) :
    iblk m c 0 t (ix2 l k) = m ((c : Thread nD τ).loc main_arg0) (ix2 ⟨t.val / 32 * 512 + l, by omega⟩ k)
    ∧ iblk m c 8 t (ix2 l k) = m ((c : Thread nD τ).loc main_arg8) (ix2 ⟨t.val / 32 * 512 + l, by omega⟩ k)
    ∧ iblk m c 5 t (ix3 h b l) = m ((c : Thread nD τ).loc main_arg5) (ix3 h b ⟨t.val / 32 * 512 + l, by omega⟩)
    ∧ iblk m c 6 t (ix3 h b l) = m ((c : Thread nD τ).loc main_arg6) (ix3 h b ⟨t.val / 32 * 512 + l, by omega⟩)
    ∧ iblk m c 7 t (ix2 h l) = m ((c : Thread nD τ).loc main_arg7) (ix2 h ⟨t.val / 32 * 512 + l, by omega⟩) := by
  refine ⟨?_, ?_, ?_, ?_, ?_⟩ <;> blk_point [iblk, V, idx t]

/-- The block of the first table, read at an entry. -/
theorem table_u (c : Dev nD) (t : Fin cfg0.N) (e : Fin 512) (k : Fin 2048) : iblk m c 1 t (ix2 e k) = m ((c : Thread nD τ).loc main_arg1) (ix2 ⟨t.val % 32 * 512 + e, by omega⟩ k) := by
  refine Eq.trans (b := (V m c main_v0 : FVec Ideal S16384x2048 .bf16) (ix2 ⟨t.val % 32 * 512 + e, by omega⟩ k)) ?_ ?_
  · unfold iblk; blk_ext [idx t]
  · rw [(host m c).1]; pointwise []

/-- The block of the second table, read at an entry. -/
theorem table_v (c : Dev nD) (t : Fin cfg0.N) (d : Fin 2048) (e : Fin 512) : iblk m c 2 t (ix2 d e) = m ((c : Thread nD τ).loc main_arg2) (ix2 ⟨t.val % 32 * 512 + e, by omega⟩ d) := by
  refine Eq.trans (b := (V m c main_v2 : FVec Ideal S2048x16384 .bf16) (ix2 d ⟨t.val % 32 * 512 + e, by omega⟩)) ?_ ?_
  · unfold iblk; blk_ext [idx t]
  · rw [(host m c).2.1]; pointwise []

/-- The blocks of the first scores and factors, read at an entry. -/
theorem scores (c : Dev nD) (t : Fin cfg0.N) (a : Fin 4) (h : Fin 8) (l : Fin 512) (ht : t.val < 512) :
    iblk m c 3 t (ix3 a h l) = m ((c : Thread nD τ).loc main_arg3) (ix3 h ⟨t.val % 32 * 4 + a, by omega⟩ ⟨t.val / 32 * 512 + l, by omega⟩)
    ∧ iblk m c 4 t (ix3 a h l) = m ((c : Thread nD τ).loc main_arg4) (ix3 h ⟨t.val % 32 * 4 + a, by omega⟩ ⟨t.val / 32 * 512 + l, by omega⟩) := by
  constructor
  · refine Eq.trans (b := (V m c main_v3 : FVec Ideal S128x8x8192 .f32) (ix3 ⟨t.val % 32 * 4 + a, by omega⟩ h ⟨t.val / 32 * 512 + l, by omega⟩)) ?_ ?_
    · unfold iblk; blk_ext [idx t]
    · rw [(host m c).2.2.1]; pointwise []
  · refine Eq.trans (b := (V m c main_v4 : FVec Ideal S128x8x8192 .f32) (ix3 ⟨t.val % 32 * 4 + a, by omega⟩ h ⟨t.val / 32 * 512 + l, by omega⟩)) ?_ ?_
    · unfold iblk; blk_ext [idx t]
    · rw [(host m c).2.2.2]; pointwise []

/-- An expert's part of a row's entry: its entry of the second table times its unit, zero past the last expert. -/
def partOf (x : FVec Ideal S8192x2048 .bf16) (u v : FVec Ideal S16384x2048 .f32) (s1 f1 s2 e2 : FVec Ideal S8x128x8192 .f32) (tau : FVec Ideal S8x8192 .f32) (i : Fin 8192) (d : Fin 2048) (n : ℕ) : EReal :=
  if hn : n < 16384 then v (ix2 ⟨n, hn⟩ d)
    * Selection.unit (fun h => s1 (ix3 h ⟨n / 128, by omega⟩ i)) (fun h => f1 (ix3 h ⟨n / 128, by omega⟩ i)) (fun h => s2 (ix3 h ⟨n % 128, by omega⟩ i)) (fun h => e2 (ix3 h ⟨n % 128, by omega⟩ i))
      (fun h => tau (ix2 h i)) (∑ k : Fin 2048, u (ix2 ⟨n, hn⟩ k) * x (ix2 i k))
  else 0

/-- The parts of all the experts. -/
theorem total (x : FVec Ideal S8192x2048 .bf16) (u v : FVec Ideal S16384x2048 .f32) (s1 f1 s2 e2 : FVec Ideal S8x128x8192 .f32) (tau : FVec Ideal S8x8192 .f32) (i : Fin 8192) (d : Fin 2048) :
    ∑ n ∈ Finset.range 16384, partOf x u v s1 f1 s2 e2 tau i d n = ∑ e : Fin 16384, v (ix2 e d)
      * Selection.unit (fun h => s1 (ix3 h ⟨e.val / 128, by omega⟩ i)) (fun h => f1 (ix3 h ⟨e.val / 128, by omega⟩ i)) (fun h => s2 (ix3 h ⟨e.val % 128, by omega⟩ i)) (fun h => e2 (ix3 h ⟨e.val % 128, by omega⟩ i))
        (fun h => tau (ix2 h i)) (∑ k : Fin 2048, u (ix2 e k) * x (ix2 i k)) := by
  rw [Finset.sum_range]
  refine Finset.sum_congr rfl fun e _ => ?_
  unfold partOf
  rw [dif_pos e.isLt]

/-- An expert's part of a row's entry, from the arguments. -/
abbrev part (c : Dev nD) (i : Fin 8192) (d : Fin 2048) (n : ℕ) : EReal :=
  partOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) i d n

/-- A block's entry of the second table times its unit is the expert's part. -/
theorem part_at (c : Dev nD) (t : Fin cfg0.N) (v : Vec Ideal S2048x512 .bf16) (hv : v = iblk m c 2 t) (d : Fin 2048) (e l : Fin 512) (ht : t.val < 512) :
    v (ix2 d e) * units (k0_pay5 (F := Ideal) (iblk m c 1 t) (iblk m c 0 t)) (iblk m c 3 t) (iblk m c 4 t) (iblk m c 5 t) (iblk m c 6 t) (iblk m c 7 t) e l
      = part m c ⟨t.val / 32 * 512 + l, by omega⟩ d (t.val % 32 * 512 + e) := by
  unfold part partOf units
  rw [dif_pos (by omega), hv, table_v, dot_at]
  have e1 : (⟨t.val % 32 * 4 + e.val / 128, by omega⟩ : Fin 128) = ⟨(t.val % 32 * 512 + e.val) / 128, by omega⟩ := Fin.ext (by show t.val % 32 * 4 + e.val / 128 = (t.val % 32 * 512 + e.val) / 128; omega)
  have e2 : (⟨e.val % 128, by omega⟩ : Fin 128) = ⟨(t.val % 32 * 512 + e.val) % 128, by omega⟩ := Fin.ext (by show e.val % 128 = (t.val % 32 * 512 + e.val) % 128; omega)
  have k3 (h : Fin 8) : iblk m c 3 t (ix3 ⟨e.val / 128, by omega⟩ h l) = m ((c : Thread nD τ).loc main_arg3) (ix3 h ⟨(t.val % 32 * 512 + e.val) / 128, by omega⟩ ⟨t.val / 32 * 512 + l, by omega⟩) := by
    rw [(scores m c t _ h l ht).1, ← e1]
  have k4 (h : Fin 8) : iblk m c 4 t (ix3 ⟨e.val / 128, by omega⟩ h l) = m ((c : Thread nD τ).loc main_arg4) (ix3 h ⟨(t.val % 32 * 512 + e.val) / 128, by omega⟩ ⟨t.val / 32 * 512 + l, by omega⟩) := by
    rw [(scores m c t _ h l ht).2, ← e1]
  have k5 (h : Fin 8) : iblk m c 5 t (ix3 h ⟨e.val % 128, by omega⟩ l) = m ((c : Thread nD τ).loc main_arg5) (ix3 h ⟨(t.val % 32 * 512 + e.val) % 128, by omega⟩ ⟨t.val / 32 * 512 + l, by omega⟩) := by
    rw [(direct m c t l 0 h _ ht).2.2.1, ← e2]
  have k6 (h : Fin 8) : iblk m c 6 t (ix3 h ⟨e.val % 128, by omega⟩ l) = m ((c : Thread nD τ).loc main_arg6) (ix3 h ⟨(t.val % 32 * 512 + e.val) % 128, by omega⟩ ⟨t.val / 32 * 512 + l, by omega⟩) := by
    rw [(direct m c t l 0 h _ ht).2.2.2.1, ← e2]
  have k7 (h : Fin 8) : iblk m c 7 t (ix2 h l) = m ((c : Thread nD τ).loc main_arg7) (ix2 h ⟨t.val / 32 * 512 + l, by omega⟩) := (direct m c t l 0 h 0 ht).2.2.2.2
  have k0 (k : Fin 2048) : iblk m c 0 t (ix2 l k) = m ((c : Thread nD τ).loc main_arg0) (ix2 ⟨t.val / 32 * 512 + l, by omega⟩ k) := (direct m c t l k 0 0 ht).1
  simp only [k0, k3, k4, k5, k6, k7, table_u]

/-- A block's part of the running sum, as the parts of its experts. -/
theorem parts (c : Dev nD) (t : Fin cfg0.N) (v : Vec Ideal S2048x512 .bf16) (hv : v = iblk m c 2 t) (g : Vec Ideal S512x512 .bf16)
    (hg : ∀ y, g y = units (k0_pay5 (F := Ideal) (iblk m c 1 t) (iblk m c 0 t)) (iblk m c 3 t) (iblk m c 4 t) (iblk m c 5 t) (iblk m c 6 t) (iblk m c 7 t) (y 0) (y 1)) (d : Fin 2048) (l : Fin 512) (ht : t.val < 512) :
    ∑ e : Fin 512, v (ix2 d e) * g (ix2 e l) = ∑ n ∈ Finset.range 512, part m c ⟨t.val / 32 * 512 + l, by omega⟩ d (t.val % 32 * 512 + n) := by
  rw [Finset.sum_range]
  refine Finset.sum_congr rfl fun e _ => ?_
  rw [hg]
  exact part_at m c t v hv d e l ht

/-- The running sum after a grid point but a block's last: the parts of the experts up to this block. -/
theorem running (c : Dev nD) (n : ℕ) : ∀ (hn : n < cfg0.N) (ht : n < 512), n % 32 ≠ 31 → ∀ (d : Fin 2048) (l : Fin 512),
    (outsAt0 (F := Ideal) m c n hn).2 (ix2 d l) = ∑ e ∈ Finset.range ((n % 32 + 1) * 512), part m c ⟨n / 32 * 512 + l, by omega⟩ d e := by
  induction n with
  | zero =>
    intro hn ht h1 d l
    obtain ⟨g, hg, hs⟩ := step_A m c ⟨0, hn⟩ (Nat.zero_mod _) (fun h => absurd (show 0 % 32 = 31 from h) (by decide))
    rw [show outsAt0 (F := Ideal) m c 0 hn = outsAt0 (F := Ideal) m c (⟨0, hn⟩ : Fin cfg0.N).val hn from rfl, hs, sum_at, zero_at, zero_add, parts m c ⟨0, hn⟩ _ rfl g hg d l ht]
    refine Finset.sum_congr rfl fun e _ => ?_
    rw [show (⟨0, hn⟩ : Fin cfg0.N).val % 32 * 512 + e = e from by simp]
  | succ n ih =>
    intro hn ht h1 d l
    by_cases h0 : (n + 1) % 32 = 0
    · obtain ⟨g, hg, hs⟩ := step_A m c ⟨n + 1, hn⟩ h0 h1
      rw [show outsAt0 (F := Ideal) m c (n + 1) hn = outsAt0 (F := Ideal) m c (⟨n + 1, hn⟩ : Fin cfg0.N).val hn from rfl, hs, sum_at, zero_at, zero_add, parts m c ⟨n + 1, hn⟩ _ rfl g hg d l ht, h0]
      refine Finset.sum_congr rfl fun e _ => ?_
      rw [show 0 * 512 + e = e from by omega]
    · obtain ⟨g, hg, hs⟩ := step_B m c ⟨n + 1, hn⟩ h0 h1
      rw [show outsAt0 (F := Ideal) m c (n + 1) hn = outsAt0 (F := Ideal) m c (⟨n + 1, hn⟩ : Fin cfg0.N).val hn from rfl, hs, sum_at, parts m c ⟨n + 1, hn⟩ _ rfl g hg d l ht]
      have e0 : (⟨n / 32 * 512 + l, by omega⟩ : Fin 8192) = ⟨(n + 1) / 32 * 512 + l, by omega⟩ := Fin.ext (by show n / 32 * 512 + l.val = (n + 1) / 32 * 512 + l.val; omega)
      have e1 : n % 32 + 1 = (n + 1) % 32 := by omega
      have := ih (by omega) (by omega) (by omega) d l
      rw [e0, e1] at this
      rw [show ((n + 1) % 32 + 1) * 512 = (n + 1) % 32 * 512 + 512 from by omega, Finset.sum_range_add]
      exact congrArg (· + _) this

/-- The block that the body leaves at the last point of a block of rows, read at an entry. -/
theorem block_at (c : Dev nD) (t : Fin cfg0.N) (h1 : t.val % 32 = 31) (l : Fin 512) (d : Fin 2048) (i : Fin 8192) (ht : t.val < 512) (hi : i.val = t.val / 32 * 512 + l.val) :
    (outsAt0 (F := Ideal) m c t.val t.isLt).1 (ix2 l d) = Cert.ExpertsReferenceIdeal.Gen.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 i d) := by
  obtain ⟨g, hg, hs⟩ := step_C m c t (by omega) h1
  rw [hs, add_at, sum_at, parts m c t _ rfl g hg d l ht, (direct m c t l d 0 0 ht).2.1, Cert.ExpertsReferenceIdeal.Gen.result_at, running m c (t.val - 1) _ (by omega) (by omega) d l]
  have e0 : (⟨(t.val - 1) / 32 * 512 + l, by omega⟩ : Fin 8192) = i := Fin.ext (by show (t.val - 1) / 32 * 512 + l.val = i.val; omega)
  have e1 : (⟨t.val / 32 * 512 + l, by omega⟩ : Fin 8192) = i := Fin.ext hi.symm
  rw [e0, e1, show ((t.val - 1) % 32 + 1) * 512 = 31 * 512 from by omega, h1, ← Finset.sum_range_add, show 31 * 512 + 512 = 16384 from by decide, total]

/-- The array after the call is the reference's result on the same arguments. -/
theorem final (c : Dev nD) : (dats m 0 c).arrAt 9 (cfgs 0).N
    = Cert.ExpertsReferenceIdeal.Gen.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  have h1 := (flush0_9 t).mp hf
  blk_simp
  rw [after0_9]
  have e0 : ((((cfg0.win 9).blk t).view.emb y) 0 : ℕ) = t.val / 32 * 512 + y 0 := by blk_simp [idx t]
  have e1 : ((((cfg0.win 9).blk t).view.emb y) 1 : ℕ) = y 1 := by blk_simp [idx t]
  generalize ((cfg0.win 9).blk t).view.emb y = z at e0 e1
  obtain ⟨i, d, rfl⟩ : ∃ (i : Fin 8192) (d : Fin 2048), z = ix2 i d := ⟨z 0, z 1, by funext a; match a with | ⟨0, _⟩ => rfl | ⟨1, _⟩ => rfl⟩
  obtain ⟨l, j, rfl⟩ : ∃ (l : Fin 512) (j : Fin 2048), y = ix2 l j := ⟨y 0, y 1, by funext a; match a with | ⟨0, _⟩ => rfl | ⟨1, _⟩ => rfl⟩
  obtain rfl : d = j := Fin.ext e1
  exact block_at m c t h1 l d i t.isLt e0

end Cert.ExpertsIdeal.Gen
end
-- ==== Proof.lean ====
module

public import proofs.«01_k».proof.Defs
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandReferenceIdeal
public import proofs.«01_k».proof.Proof.Gen.QkvA
public import proofs.«01_k».proof.Proof.Gen.QkvA.Skeleton
public import proofs.«01_k».proof.Proof.Gen.QkvA.Launch
public import proofs.«01_k».proof.Proof.Gen.QkvA.Points
public import proofs.«01_k».proof.Proof.Gen.QkvA.Frame
public import proofs.«01_k».proof.Proof.Gen.QkvAIdeal
public import proofs.«01_k».proof.Proof.Gen.QkvAIdeal.Skeleton
public import proofs.«01_k».proof.Proof.Gen.QkvAIdeal.Launch
public import proofs.«01_k».proof.Proof.Gen.QkvAIdeal.Points
public import proofs.«01_k».proof.Proof.Gen.QkvAIdeal.Frame
public import proofs.«01_k».proof.Proof.Gen.QkvAReferenceIdeal
public import proofs.«01_k».proof.Proof.Gen.ZA
public import proofs.«01_k».proof.Proof.Gen.ZA.Skeleton
public import proofs.«01_k».proof.Proof.Gen.ZA.Launch
public import proofs.«01_k».proof.Proof.Gen.ZA.Points
public import proofs.«01_k».proof.Proof.Gen.ZA.Frame
public import proofs.«01_k».proof.Proof.Gen.ZAIdeal
public import proofs.«01_k».proof.Proof.Gen.ZAIdeal.Skeleton
public import proofs.«01_k».proof.Proof.Gen.ZAIdeal.Launch
public import proofs.«01_k».proof.Proof.Gen.ZAIdeal.Points
public import proofs.«01_k».proof.Proof.Gen.ZAIdeal.Frame
public import proofs.«01_k».proof.Proof.Gen.ZAReferenceIdeal
public import proofs.«01_k».proof.Proof.Gen.BetaAlpha
public import proofs.«01_k».proof.Proof.Gen.BetaAlpha.Skeleton
public import proofs.«01_k».proof.Proof.Gen.BetaAlpha.Launch
public import proofs.«01_k».proof.Proof.Gen.BetaAlpha.Points
public import proofs.«01_k».proof.Proof.Gen.BetaAlpha.Frame
public import proofs.«01_k».proof.Proof.Gen.BetaAlphaIdeal
public import proofs.«01_k».proof.Proof.Gen.BetaAlphaIdeal.Skeleton
public import proofs.«01_k».proof.Proof.Gen.BetaAlphaIdeal.Launch
public import proofs.«01_k».proof.Proof.Gen.BetaAlphaIdeal.Points
public import proofs.«01_k».proof.Proof.Gen.BetaAlphaIdeal.Frame
public import proofs.«01_k».proof.Proof.Gen.BetaAlphaReferenceIdeal
public import proofs.«01_k».proof.Proof.Gen.UvB
public import proofs.«01_k».proof.Proof.Gen.UvB.Skeleton
public import proofs.«01_k».proof.Proof.Gen.UvB.Launch
public import proofs.«01_k».proof.Proof.Gen.UvB.Points
public import proofs.«01_k».proof.Proof.Gen.UvB.Frame
public import proofs.«01_k».proof.Proof.Gen.UvBIdeal
public import proofs.«01_k».proof.Proof.Gen.UvBIdeal.Skeleton
public import proofs.«01_k».proof.Proof.Gen.UvBIdeal.Launch
public import proofs.«01_k».proof.Proof.Gen.UvBIdeal.Points
public import proofs.«01_k».proof.Proof.Gen.UvBIdeal.Frame
public import proofs.«01_k».proof.Proof.Gen.UvBReferenceIdeal
public import proofs.«01_k».proof.Proof.Gen.QkvC
public import proofs.«01_k».proof.Proof.Gen.QkvC.Skeleton
public import proofs.«01_k».proof.Proof.Gen.QkvC.Launch
public import proofs.«01_k».proof.Proof.Gen.QkvC.Points
public import proofs.«01_k».proof.Proof.Gen.QkvC.Frame
public import proofs.«01_k».proof.Proof.Gen.QkvCIdeal
public import proofs.«01_k».proof.Proof.Gen.QkvCIdeal.Skeleton
public import proofs.«01_k».proof.Proof.Gen.QkvCIdeal.Launch
public import proofs.«01_k».proof.Proof.Gen.QkvCIdeal.Points
public import proofs.«01_k».proof.Proof.Gen.QkvCIdeal.Frame
public import proofs.«01_k».proof.Proof.Gen.QkvCReferenceIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.PeerQuery
public import proofs.«01_k».proof.Proof.Gen.PeerQuery.Skeleton
public import proofs.«01_k».proof.Proof.Gen.PeerQuery.Launch
public import proofs.«01_k».proof.Proof.Gen.PeerQuery.Points
public import proofs.«01_k».proof.Proof.Gen.PeerQuery.Frame
public import proofs.«01_k».proof.Proof.Gen.PeerQueryIdeal
public import proofs.«01_k».proof.Proof.Gen.PeerQueryIdeal.Skeleton
public import proofs.«01_k».proof.Proof.Gen.PeerQueryIdeal.Launch
public import proofs.«01_k».proof.Proof.Gen.PeerQueryIdeal.Points
public import proofs.«01_k».proof.Proof.Gen.PeerQueryIdeal.Frame
public import proofs.«01_k».proof.Proof.Gen.PeerQueryReferenceIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpReferenceIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvReferenceIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesReferenceIdeal
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsReferenceIdeal
public import proofs.«01_k».proof.Proof.Gen.Pre_finite_scores
public import proofs.«01_k».proof.Proof.Gen.BandReferenceIdeal.Run
public import proofs.«01_k».proof.Proof.Gen.QkvAReferenceIdeal.Run
public import proofs.«01_k».proof.Proof.Gen.ZAReferenceIdeal.Run
public import proofs.«01_k».proof.Proof.Gen.BetaAlphaReferenceIdeal.Run
public import proofs.«01_k».proof.Proof.Gen.UvBReferenceIdeal.Run
public import proofs.«01_k».proof.Proof.Gen.QkvCReferenceIdeal.Run
public import proofs.«01_k».proof.Proof.Gen.GateReferenceIdeal.Run
public import proofs.«01_k».proof.Proof.Gen.MergeReferenceIdeal.Run
public import proofs.«01_k».proof.Proof.Gen.OutProjReferenceIdeal.Run
public import proofs.«01_k».proof.Proof.Gen.PeerQueryReferenceIdeal.Run
public import proofs.«01_k».proof.Proof.Gen.NormReferenceIdeal.Run
public import proofs.«01_k».proof.Proof.Gen.GmlpReferenceIdeal.Run
public import proofs.«01_k».proof.Proof.Gen.ConvReferenceIdeal.Run
public import proofs.«01_k».proof.Proof.Gen.GatesReferenceIdeal.Run
public import proofs.«01_k».proof.Proof.Gen.ExpertsReferenceIdeal.Run
public import proofs.«01_k».proof.Proof.Band
public import proofs.«01_k».proof.Proof.Finite
public import proofs.«01_k».proof.Proof.Projections
public import proofs.«01_k».proof.Proof.Dense
public import proofs.«01_k».proof.Proof.Merge
public import proofs.«01_k».proof.Proof.Norm
public import proofs.«01_k».proof.Proof.BetaAlpha
public import proofs.«01_k».proof.Proof.Gmlp
public import proofs.«01_k».proof.Proof.Conv
public import proofs.«01_k».proof.Proof.Gates
public import proofs.«01_k».proof.Proof.Experts
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference of the band attention runs, leaves its arguments as they were and ends quiescent. -/
theorem frame_BandReferenceIdeal : Cert.quiescent_BandReferenceIdeal (hBandReferenceIdeal := Cert.BandReferenceIdeal.Gen.facts) := by
  intro m g _
  refine (θ_run (Cert.BandReferenceIdeal.defs (F := Ideal)) _ _).mono (fun r h => ⟨fun c => (h c).2,
    sem_eq_zero_of_no_sems (by decide) r.2⟩) (Cert.BandReferenceIdeal.Value.run m g)

/-- The reference of the projection to the band layer's queries, keys and values runs, leaves its arguments as they were and ends quiescent. -/
theorem frame_QkvAReferenceIdeal : Cert.quiescent_QkvAReferenceIdeal (hQkvAReferenceIdeal := Cert.QkvAReferenceIdeal.Gen.facts) := by
  intro m g _
  refine (θ_run (Cert.QkvAReferenceIdeal.defs (F := Ideal)) _ _).mono (fun r h => ⟨fun c => (h c).2,
    sem_eq_zero_of_no_sems (by decide) r.2⟩) (Cert.QkvAReferenceIdeal.Value.run m g)

/-- The reference of the projection to the band layer's output gate runs, leaves its arguments as they were and ends quiescent. -/
theorem frame_ZAReferenceIdeal : Cert.quiescent_ZAReferenceIdeal (hZAReferenceIdeal := Cert.ZAReferenceIdeal.Gen.facts) := by
  intro m g _
  refine (θ_run (Cert.ZAReferenceIdeal.defs (F := Ideal)) _ _).mono (fun r h => ⟨fun c => (h c).2,
    sem_eq_zero_of_no_sems (by decide) r.2⟩) (Cert.ZAReferenceIdeal.Value.run m g)

/-- The reference of the projection to the delta layer's two gates runs, leaves its arguments as they were and ends quiescent. -/
theorem frame_BetaAlphaReferenceIdeal : Cert.quiescent_BetaAlphaReferenceIdeal (hBetaAlphaReferenceIdeal := Cert.BetaAlphaReferenceIdeal.Gen.facts) := by
  intro m g _
  refine (θ_run (Cert.BetaAlphaReferenceIdeal.defs (F := Ideal)) _ _).mono (fun r h => ⟨fun c => (h c).2,
    sem_eq_zero_of_no_sems (by decide) r.2⟩) (Cert.BetaAlphaReferenceIdeal.Value.run m g)

/-- The reference of the projection to the gated unit's two halves runs, leaves its arguments as they were and ends quiescent. -/
theorem frame_UvBReferenceIdeal : Cert.quiescent_UvBReferenceIdeal (hUvBReferenceIdeal := Cert.UvBReferenceIdeal.Gen.facts) := by
  intro m g _
  refine (θ_run (Cert.UvBReferenceIdeal.defs (F := Ideal)) _ _).mono (fun r h => ⟨fun c => (h c).2,
    sem_eq_zero_of_no_sems (by decide) r.2⟩) (Cert.UvBReferenceIdeal.Value.run m g)

/-- The reference of the projection to the delta layer's queries, keys and values runs, leaves its arguments as they were and ends quiescent. -/
theorem frame_QkvCReferenceIdeal : Cert.quiescent_QkvCReferenceIdeal (hQkvCReferenceIdeal := Cert.QkvCReferenceIdeal.Gen.facts) := by
  intro m g _
  refine (θ_run (Cert.QkvCReferenceIdeal.defs (F := Ideal)) _ _).mono (fun r h => ⟨fun c => (h c).2,
    sem_eq_zero_of_no_sems (by decide) r.2⟩) (Cert.QkvCReferenceIdeal.Value.run m g)

/-- The reference of the projection to the delta layer's output gate runs, leaves its arguments as they were and ends quiescent. -/
theorem frame_GateReferenceIdeal : Cert.quiescent_GateReferenceIdeal (hGateReferenceIdeal := Cert.GateReferenceIdeal.Gen.facts) := by
  intro m g _
  refine (θ_run (Cert.GateReferenceIdeal.defs (F := Ideal)) _ _).mono (fun r h => ⟨fun c => (h c).2,
    sem_eq_zero_of_no_sems (by decide) r.2⟩) (Cert.GateReferenceIdeal.Value.run m g)

/-- The reference of the merge of the three branches runs, leaves its arguments as they were and ends quiescent. -/
theorem frame_MergeReferenceIdeal : Cert.quiescent_MergeReferenceIdeal (hMergeReferenceIdeal := Cert.MergeReferenceIdeal.Gen.facts) := by
  intro m g _
  refine (θ_run (Cert.MergeReferenceIdeal.defs (F := Ideal)) _ _).mono (fun r h => ⟨fun c => (h c).2,
    sem_eq_zero_of_no_sems (by decide) r.2⟩) (Cert.MergeReferenceIdeal.Value.run m g)

/-- The reference of the output projection with the residual runs, leaves its arguments as they were and ends quiescent. -/
theorem frame_OutProjReferenceIdeal : Cert.quiescent_OutProjReferenceIdeal (hOutProjReferenceIdeal := Cert.OutProjReferenceIdeal.Gen.facts) := by
  intro m g _
  refine (θ_run (Cert.OutProjReferenceIdeal.defs (F := Ideal)) _ _).mono (fun r h => ⟨fun c => (h c).2,
    sem_eq_zero_of_no_sems (by decide) r.2⟩) (Cert.OutProjReferenceIdeal.Value.run m g)

/-- The reference of the projection to the expert queries runs, leaves its arguments as they were and ends quiescent. -/
theorem frame_PeerQueryReferenceIdeal : Cert.quiescent_PeerQueryReferenceIdeal (hPeerQueryReferenceIdeal := Cert.PeerQueryReferenceIdeal.Gen.facts) := by
  intro m g _
  refine (θ_run (Cert.PeerQueryReferenceIdeal.defs (F := Ideal)) _ _).mono (fun r h => ⟨fun c => (h c).2,
    sem_eq_zero_of_no_sems (by decide) r.2⟩) (Cert.PeerQueryReferenceIdeal.Value.run m g)

/-- The reference of the norm ahead of the experts runs, leaves its arguments as they were and ends quiescent. -/
theorem frame_NormReferenceIdeal : Cert.quiescent_NormReferenceIdeal (hNormReferenceIdeal := Cert.NormReferenceIdeal.Gen.facts) := by
  intro m g _
  refine (θ_run (Cert.NormReferenceIdeal.defs (F := Ideal)) _ _).mono (fun r h => ⟨fun c => (h c).2,
    sem_eq_zero_of_no_sems (by decide) r.2⟩) (Cert.NormReferenceIdeal.Value.run m g)

/-- The reference of the spatial gating unit runs, leaves its arguments as they were and ends quiescent. -/
theorem frame_GmlpReferenceIdeal : Cert.quiescent_GmlpReferenceIdeal (hGmlpReferenceIdeal := Cert.GmlpReferenceIdeal.Gen.facts) := by
  intro m g _
  refine (θ_run (Cert.GmlpReferenceIdeal.defs (F := Ideal)) _ _).mono (fun r h => ⟨fun c => (h c).2,
    sem_eq_zero_of_no_sems (by decide) r.2⟩) (Cert.GmlpReferenceIdeal.Value.run m g)

/-- The reference of the causal convolution runs, leaves its arguments as they were and ends quiescent. -/
theorem frame_ConvReferenceIdeal : Cert.quiescent_ConvReferenceIdeal (hConvReferenceIdeal := Cert.ConvReferenceIdeal.Gen.facts) := by
  intro m g _
  refine (θ_run (Cert.ConvReferenceIdeal.defs (F := Ideal)) _ _).mono (fun r h => ⟨fun c => (h c).2,
    sem_eq_zero_of_no_sems (by decide) r.2⟩) (Cert.ConvReferenceIdeal.Value.run m g)

/-- The reference of the two gates of the delta layer runs, leaves its arguments as they were and ends quiescent. -/
theorem frame_GatesReferenceIdeal : Cert.quiescent_GatesReferenceIdeal (hGatesReferenceIdeal := Cert.GatesReferenceIdeal.Gen.facts) := by
  intro m g _
  refine (θ_run (Cert.GatesReferenceIdeal.defs (F := Ideal)) _ _).mono (fun r h => ⟨fun c => (h c).2.2,
    sem_eq_zero_of_no_sems (by decide) r.2⟩) (Cert.GatesReferenceIdeal.Value.run m g)

/-- The reference of the sum over the selected experts runs, leaves its arguments as they were and ends quiescent. -/
theorem frame_ExpertsReferenceIdeal : Cert.quiescent_ExpertsReferenceIdeal (hExpertsReferenceIdeal := Cert.ExpertsReferenceIdeal.Gen.facts) := by
  intro m g _
  refine (θ_run (Cert.ExpertsReferenceIdeal.defs (F := Ideal)) _ _).mono (fun r h => ⟨fun c => (h c).2,
    sem_eq_zero_of_no_sems (by decide) r.2⟩) (Cert.ExpertsReferenceIdeal.Value.run m g)

/-- The kernel of the band attention and its reference, both over the extended reals and from equal arguments whose scores
are finite, end with equal results. -/
theorem algebraic_Band : Cert.algebraic_BandIdeal_BandReferenceIdeal_pre_finite_scores (hBandIdeal := Cert.BandIdeal.Gen.facts)
    (hBandReferenceIdeal := Cert.BandReferenceIdeal.Gen.facts) (hPre_finite_scores := Cert.Pre_finite_scores.facts) := by
  pair_intro
  · run_from Cert.BandIdeal.Gen.run_main m g
    exacts [Cert.BandIdeal.Gen.V_main_arg1 m c, Cert.BandIdeal.Gen.V_main_arg2 m c, Cert.BandIdeal.Gen.V_main_arg3 m c]
  · run_from Cert.BandReferenceIdeal.Value.run m' g'
    haveI := Cert.Pre_finite_scores.facts
    refine (Cert.BandReferenceIdeal.Gen.result_eq m' c).trans ?_
    obtain ⟨h0, h1, h2, h3⟩ := hagree c
    rw [h0, h1, h2, h3]
    exact (Cert.BandIdeal.Gen.final m c (Cert.Pre_finite_scores.isReal_rows _ _ _ _ (hpre c).1)
      (Cert.Pre_finite_scores.isReal_query_gain _ _ _ _ (hpre c).2.1) (Cert.Pre_finite_scores.isReal_key_gain _ _ _ _ (hpre c).2.2.1)
      (Cert.Pre_finite_scores.isReal_bias _ _ _ _ (hpre c).2.2.2)).symm

/-- The kernel of the projection to the band layer's queries, keys and values and its reference, both over the extended reals and from equal arguments,
end with equal results. -/
theorem algebraic_QkvA : Cert.algebraic_QkvAIdeal_QkvAReferenceIdeal (hQkvAIdeal := Cert.QkvAIdeal.Gen.facts) (hQkvAReferenceIdeal := Cert.QkvAReferenceIdeal.Gen.facts) := by
  pair_intro
  · run_from Cert.QkvAIdeal.Gen.run_main m g
  · run_from Cert.QkvAReferenceIdeal.Value.run m' g'
    exact (Cert.QkvAIdeal.Gen.final m c).symm

/-- The kernel of the projection to the band layer's output gate and its reference, both over the extended reals and from equal arguments,
end with equal results. -/
theorem algebraic_ZA : Cert.algebraic_ZAIdeal_ZAReferenceIdeal (hZAIdeal := Cert.ZAIdeal.Gen.facts) (hZAReferenceIdeal := Cert.ZAReferenceIdeal.Gen.facts) := by
  pair_intro
  · run_from Cert.ZAIdeal.Gen.run_main m g
  · run_from Cert.ZAReferenceIdeal.Value.run m' g'
    exact (Cert.ZAIdeal.Gen.final m c).symm

/-- The kernel of the projection to the delta layer's two gates and its reference, both over the extended reals and from equal arguments,
end with equal results. -/
theorem algebraic_BetaAlpha : Cert.algebraic_BetaAlphaIdeal_BetaAlphaReferenceIdeal (hBetaAlphaIdeal := Cert.BetaAlphaIdeal.Gen.facts) (hBetaAlphaReferenceIdeal := Cert.BetaAlphaReferenceIdeal.Gen.facts) := by
  pair_intro
  · run_from Cert.BetaAlphaIdeal.Gen.run_main m g
    exact Cert.BetaAlphaIdeal.Gen.V_main_arg1 m c
  · run_from Cert.BetaAlphaReferenceIdeal.Value.run m' g'
    exact (Cert.BetaAlphaIdeal.Gen.final m c).symm

/-- The kernel of the projection to the gated unit's two halves and its reference, both over the extended reals and from equal arguments,
end with equal results. -/
theorem algebraic_UvB : Cert.algebraic_UvBIdeal_UvBReferenceIdeal (hUvBIdeal := Cert.UvBIdeal.Gen.facts) (hUvBReferenceIdeal := Cert.UvBReferenceIdeal.Gen.facts) := by
  pair_intro
  · run_from Cert.UvBIdeal.Gen.run_main m g
  · run_from Cert.UvBReferenceIdeal.Value.run m' g'
    exact (Cert.UvBIdeal.Gen.final m c).symm

/-- The kernel of the projection to the delta layer's queries, keys and values and its reference, both over the extended reals and from equal arguments,
end with equal results. -/
theorem algebraic_QkvC : Cert.algebraic_QkvCIdeal_QkvCReferenceIdeal (hQkvCIdeal := Cert.QkvCIdeal.Gen.facts) (hQkvCReferenceIdeal := Cert.QkvCReferenceIdeal.Gen.facts) := by
  pair_intro
  · run_from Cert.QkvCIdeal.Gen.run_main m g
  · run_from Cert.QkvCReferenceIdeal.Value.run m' g'
    exact (Cert.QkvCIdeal.Gen.final m c).symm

/-- The kernel of the projection to the delta layer's output gate and its reference, both over the extended reals and from equal arguments,
end with equal results. -/
theorem algebraic_Gate : Cert.algebraic_GateIdeal_GateReferenceIdeal (hGateIdeal := Cert.GateIdeal.Gen.facts) (hGateReferenceIdeal := Cert.GateReferenceIdeal.Gen.facts) := by
  pair_intro
  · run_from Cert.GateIdeal.Gen.run_main m g
  · run_from Cert.GateReferenceIdeal.Value.run m' g'
    exact (Cert.GateIdeal.Gen.final m c).symm

/-- The kernel of the merge of the three branches and its reference, both over the extended reals and from equal arguments,
end with equal results. -/
theorem algebraic_Merge : Cert.algebraic_MergeIdeal_MergeReferenceIdeal (hMergeIdeal := Cert.MergeIdeal.Gen.facts) (hMergeReferenceIdeal := Cert.MergeReferenceIdeal.Gen.facts) := by
  pair_intro
  · run_from Cert.MergeIdeal.Gen.run_main m g
  · run_from Cert.MergeReferenceIdeal.Value.run m' g'
    exact (Cert.MergeIdeal.Gen.final m c).symm

/-- The kernel of the output projection with the residual and its reference, both over the extended reals and from equal arguments,
end with equal results. -/
theorem algebraic_OutProj : Cert.algebraic_OutProjIdeal_OutProjReferenceIdeal (hOutProjIdeal := Cert.OutProjIdeal.Gen.facts) (hOutProjReferenceIdeal := Cert.OutProjReferenceIdeal.Gen.facts) := by
  pair_intro
  · run_from Cert.OutProjIdeal.Gen.run_main m g
  · run_from Cert.OutProjReferenceIdeal.Value.run m' g'
    exact (Cert.OutProjIdeal.Gen.final m c).symm

/-- The kernel of the projection to the expert queries and its reference, both over the extended reals and from equal arguments,
end with equal results. -/
theorem algebraic_PeerQuery : Cert.algebraic_PeerQueryIdeal_PeerQueryReferenceIdeal (hPeerQueryIdeal := Cert.PeerQueryIdeal.Gen.facts) (hPeerQueryReferenceIdeal := Cert.PeerQueryReferenceIdeal.Gen.facts) := by
  pair_intro
  · run_from Cert.PeerQueryIdeal.Gen.run_main m g
  · run_from Cert.PeerQueryReferenceIdeal.Value.run m' g'
    exact (Cert.PeerQueryIdeal.Gen.final m c).symm

/-- The kernel of the norm ahead of the experts and its reference, both over the extended reals and from equal arguments,
end with equal results. -/
theorem algebraic_Norm : Cert.algebraic_NormIdeal_NormReferenceIdeal (hNormIdeal := Cert.NormIdeal.Gen.facts) (hNormReferenceIdeal := Cert.NormReferenceIdeal.Gen.facts) := by
  pair_intro
  · run_from Cert.NormIdeal.Gen.run_main m g
  · run_from Cert.NormReferenceIdeal.Value.run m' g'
    exact (Cert.NormIdeal.Gen.final m c).symm

/-- The kernel of the spatial gating unit and its reference, both over the extended reals and from equal arguments,
end with equal results. -/
theorem algebraic_Gmlp : Cert.algebraic_GmlpIdeal_GmlpReferenceIdeal (hGmlpIdeal := Cert.GmlpIdeal.Gen.facts) (hGmlpReferenceIdeal := Cert.GmlpReferenceIdeal.Gen.facts) := by
  pair_intro
  · run_from Cert.GmlpIdeal.Gen.run_main m g
  · run_from Cert.GmlpReferenceIdeal.Value.run m' g'
    refine (Cert.GmlpReferenceIdeal.Gen.result_eq m' c).trans ?_
    obtain ⟨h0, h1, h2, h3⟩ := hagree c
    rw [h0, h1, h2, h3]
    exact (Cert.GmlpIdeal.Gen.final m c).symm

/-- The kernel of the causal convolution and its reference, both over the extended reals and from equal arguments,
end with equal results. -/
theorem algebraic_Conv : Cert.algebraic_ConvIdeal_ConvReferenceIdeal (hConvIdeal := Cert.ConvIdeal.Gen.facts) (hConvReferenceIdeal := Cert.ConvReferenceIdeal.Gen.facts) := by
  pair_intro
  · run_from Cert.ConvIdeal.Gen.run_main m g
  · run_from Cert.ConvReferenceIdeal.Value.run m' g'
    refine (Cert.ConvReferenceIdeal.Gen.result_eq m' c).trans ?_
    obtain ⟨h0, h1⟩ := hagree c
    rw [h0, h1]
    exact (Cert.ConvIdeal.Gen.final m c).symm

/-- The kernel of the two gates of the delta layer and its reference, both over the extended reals and from equal arguments,
end with equal results. -/
theorem algebraic_Gates : Cert.algebraic_GatesIdeal_GatesReferenceIdeal (hGatesIdeal := Cert.GatesIdeal.Gen.facts) (hGatesReferenceIdeal := Cert.GatesReferenceIdeal.Gen.facts) := by
  pair_intro
  · run_from Cert.GatesIdeal.Gen.run_main m g
    exacts [Cert.GatesIdeal.Gen.V_main_arg1 m c, Cert.GatesIdeal.Gen.V_main_arg2 m c]
  · run_from Cert.GatesReferenceIdeal.Gen.run_results m' g'
    exacts [(Cert.GatesIdeal.Gen.final_sums m c).symm, (Cert.GatesIdeal.Gen.final_betas m c).symm]

/-- The kernel of the sum over the selected experts and its reference, both over the extended reals and from equal arguments,
end with equal results. -/
theorem algebraic_Experts : Cert.algebraic_ExpertsIdeal_ExpertsReferenceIdeal (hExpertsIdeal := Cert.ExpertsIdeal.Gen.facts) (hExpertsReferenceIdeal := Cert.ExpertsReferenceIdeal.Gen.facts) := by
  pair_intro
  · run_from Cert.ExpertsIdeal.Gen.run_main m g
  · run_from Cert.ExpertsReferenceIdeal.Gen.run_result m' g'
    exact (Cert.ExpertsIdeal.Gen.final m c).symm

/-- The value that stands for a masked score is named by its constant: the constant is the large negative number of the
kernel, the name stands for minus infinity. -/
theorem preserves_Band : Cert.preserves_Band_BandIdeal :=
  IdealRules.named_const.statement Cert.BandIdeal.κ "mask" .f32 0xF149F2CA#32 ⊥ rfl

/-- Everything this certificate claims. -/
theorem claim : Cert.Claim :=
  ⟨Cert.Band.Gen.facts,
    Cert.BandIdeal.Gen.facts,
    Cert.BandReferenceIdeal.Gen.facts,
    Cert.QkvA.Gen.facts,
    Cert.QkvAIdeal.Gen.facts,
    Cert.QkvAReferenceIdeal.Gen.facts,
    Cert.ZA.Gen.facts,
    Cert.ZAIdeal.Gen.facts,
    Cert.ZAReferenceIdeal.Gen.facts,
    Cert.BetaAlpha.Gen.facts,
    Cert.BetaAlphaIdeal.Gen.facts,
    Cert.BetaAlphaReferenceIdeal.Gen.facts,
    Cert.UvB.Gen.facts,
    Cert.UvBIdeal.Gen.facts,
    Cert.UvBReferenceIdeal.Gen.facts,
    Cert.QkvC.Gen.facts,
    Cert.QkvCIdeal.Gen.facts,
    Cert.QkvCReferenceIdeal.Gen.facts,
    Cert.Gate.Gen.facts,
    Cert.GateIdeal.Gen.facts,
    Cert.GateReferenceIdeal.Gen.facts,
    Cert.Merge.Gen.facts,
    Cert.MergeIdeal.Gen.facts,
    Cert.MergeReferenceIdeal.Gen.facts,
    Cert.OutProj.Gen.facts,
    Cert.OutProjIdeal.Gen.facts,
    Cert.OutProjReferenceIdeal.Gen.facts,
    Cert.PeerQuery.Gen.facts,
    Cert.PeerQueryIdeal.Gen.facts,
    Cert.PeerQueryReferenceIdeal.Gen.facts,
    Cert.Norm.Gen.facts,
    Cert.NormIdeal.Gen.facts,
    Cert.NormReferenceIdeal.Gen.facts,
    Cert.Gmlp.Gen.facts,
    Cert.GmlpIdeal.Gen.facts,
    Cert.GmlpReferenceIdeal.Gen.facts,
    Cert.Conv.Gen.facts,
    Cert.ConvIdeal.Gen.facts,
    Cert.ConvReferenceIdeal.Gen.facts,
    Cert.Gates.Gen.facts,
    Cert.GatesIdeal.Gen.facts,
    Cert.GatesReferenceIdeal.Gen.facts,
    Cert.Experts.Gen.facts,
    Cert.ExpertsIdeal.Gen.facts,
    Cert.ExpertsReferenceIdeal.Gen.facts,
    Cert.Pre_finite_scores.facts,
    fun m ρ _ => Cert.Band.Gen.frame m ρ,
    fun m ρ _ => Cert.BandIdeal.Gen.frame m ρ,
    fun m ρ _ => Cert.BandIdeal.Gen.frame m ρ,
    frame_BandReferenceIdeal,
    fun m ρ _ => frame_BandReferenceIdeal m ρ trivial,
    fun m ρ _ => Cert.QkvA.Gen.frame m ρ,
    fun m ρ _ => Cert.QkvAIdeal.Gen.frame m ρ,
    frame_QkvAReferenceIdeal,
    fun m ρ _ => Cert.ZA.Gen.frame m ρ,
    fun m ρ _ => Cert.ZAIdeal.Gen.frame m ρ,
    frame_ZAReferenceIdeal,
    fun m ρ _ => Cert.BetaAlpha.Gen.frame m ρ,
    fun m ρ _ => Cert.BetaAlphaIdeal.Gen.frame m ρ,
    frame_BetaAlphaReferenceIdeal,
    fun m ρ _ => Cert.UvB.Gen.frame m ρ,
    fun m ρ _ => Cert.UvBIdeal.Gen.frame m ρ,
    frame_UvBReferenceIdeal,
    fun m ρ _ => Cert.QkvC.Gen.frame m ρ,
    fun m ρ _ => Cert.QkvCIdeal.Gen.frame m ρ,
    frame_QkvCReferenceIdeal,
    fun m ρ _ => Cert.Gate.Gen.frame m ρ,
    fun m ρ _ => Cert.GateIdeal.Gen.frame m ρ,
    frame_GateReferenceIdeal,
    fun m ρ _ => Cert.Merge.Gen.frame m ρ,
    fun m ρ _ => Cert.MergeIdeal.Gen.frame m ρ,
    frame_MergeReferenceIdeal,
    fun m ρ _ => Cert.OutProj.Gen.frame m ρ,
    fun m ρ _ => Cert.OutProjIdeal.Gen.frame m ρ,
    frame_OutProjReferenceIdeal,
    fun m ρ _ => Cert.PeerQuery.Gen.frame m ρ,
    fun m ρ _ => Cert.PeerQueryIdeal.Gen.frame m ρ,
    frame_PeerQueryReferenceIdeal,
    fun m ρ _ => Cert.Norm.Gen.frame m ρ,
    fun m ρ _ => Cert.NormIdeal.Gen.frame m ρ,
    frame_NormReferenceIdeal,
    fun m ρ _ => Cert.Gmlp.Gen.frame m ρ,
    fun m ρ _ => Cert.GmlpIdeal.Gen.frame m ρ,
    frame_GmlpReferenceIdeal,
    fun m ρ _ => Cert.Conv.Gen.frame m ρ,
    fun m ρ _ => Cert.ConvIdeal.Gen.frame m ρ,
    frame_ConvReferenceIdeal,
    fun m ρ _ => Cert.Gates.Gen.frame m ρ,
    fun m ρ _ => Cert.GatesIdeal.Gen.frame m ρ,
    frame_GatesReferenceIdeal,
    fun m ρ _ => Cert.Experts.Gen.frame m ρ,
    fun m ρ _ => Cert.ExpertsIdeal.Gen.frame m ρ,
    frame_ExpertsReferenceIdeal,
    preserves_Band,
    algebraic_Band,
    trivial,
    algebraic_QkvA,
    trivial,
    algebraic_ZA,
    trivial,
    algebraic_BetaAlpha,
    trivial,
    algebraic_UvB,
    trivial,
    algebraic_QkvC,
    trivial,
    algebraic_Gate,
    trivial,
    algebraic_Merge,
    trivial,
    algebraic_OutProj,
    trivial,
    algebraic_PeerQuery,
    trivial,
    algebraic_Norm,
    trivial,
    algebraic_Gmlp,
    trivial,
    algebraic_Conv,
    trivial,
    algebraic_Gates,
    trivial,
    algebraic_Experts⟩

end Cert.Proof

end
